-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.blockN ⟨3, ![1, 1024, 8192]⟩ ⟨3, ![1, 2048, 8192]⟩ (Layout.meshBlock [2, 2, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S_ : Shape := ⟨0, ![]⟩
abbrev S1 : Shape := ⟨1, ![1]⟩
abbrev S1x1024x8192 : Shape := ⟨3, ![1, 1024, 8192]⟩
abbrev S4096x256 : Shape := ⟨2, ![4096, 256]⟩
abbrev S4x1024x256 : Shape := ⟨3, ![4, 1024, 256]⟩
abbrev S8x1024x256 : Shape := ⟨3, ![8, 1024, 256]⟩
abbrev S4 : Shape := ⟨1, ![4]⟩
abbrev S8 : Shape := ⟨1, ![8]⟩
abbrev S1x1024x256 : Shape := ⟨3, ![1, 1024, 256]⟩
abbrev S1024x256 : Shape := ⟨2, ![1024, 256]⟩
abbrev S1024x4096 : Shape := ⟨2, ![1024, 4096]⟩

abbrev nBuf : Space → Nat
  | .hbm => 23
  | .vmem => 6
  | .smem => 1
  | _ => 0

abbrev bufTy : (tb : Table) → Fin (tcTables nBuf tb) → BufTy
  | .hbm, ⟨0, _⟩ => ⟨S1x2048x32x128, .bf16⟩
  | .hbm, ⟨1, _⟩ => ⟨S4096x8192, .bf16⟩
  | .hbm, ⟨2, _⟩ => ⟨S2048x4096, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x1024x8192, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S1x1024x8192, .bf16⟩
  | .local _ .vmem, ⟨4, _⟩ => ⟨S4x1024x256, .bf16⟩
  | .local _ .vmem, ⟨5, _⟩ => ⟨S8x1024x256, .bf16⟩
  | .local _ .smem, ⟨0, _⟩ => ⟨S1, .i32⟩
  | _, _ => ⟨S1x2048x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v15 : Ref sig .tc := ⟨.hbm, 22, rfl⟩
abbrev main_v14 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![10], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_6 : BitVec 32 := 0#32
  let v16 : BitVec 1 := Scalar.cmpi .eq arg0 c0_i32_6
  let v17 : BitVec 32 := Scalar.extui v16
  let c0_i32_7 : BitVec 32 := 0#32
  let v18 : BitVec 1 := Scalar.cmpi .ne v17 c0_i32_7
  v18

def k0_dev1 (d0 : Dev nD) : Nat :=
  let c0_i32_15 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_14 : BitVec 32 := 8#32
  let v29 : BitVec 32 := Scalar.muli v10 c8_i32_14
  let v30 : BitVec 32 := Scalar.addi c0_i32_15 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v31 : BitVec 32 := Scalar.muli v5 c4_i32_16
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v33 : BitVec 32 := Scalar.muli v8 c1_i32_17
  let v34 : BitVec 32 := Scalar.addi v32 v33
  v34.toNat
def k0_dev2 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v35 : BitVec 32 := Scalar.muli v2 c8_i32_19
  let v36 : BitVec 32 := Scalar.addi c0_i32_20 v35
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_21 : BitVec 32 := 4#32
  let v37 : BitVec 32 := Scalar.muli v11 c4_i32_21
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v39 : BitVec 32 := Scalar.muli v8 c1_i32_22
  let v40 : BitVec 32 := Scalar.addi v38 v39
  v40.toNat
def k0_dev3 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v41 : BitVec 32 := Scalar.muli v2 c8_i32_24
  let v42 : BitVec 32 := Scalar.addi c0_i32_25 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v43 : BitVec 32 := Scalar.muli v5 c4_i32_26
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_27 : BitVec 32 := 1#32
  let v45 : BitVec 32 := Scalar.muli v9 c1_i32_27
  let v46 : BitVec 32 := Scalar.addi v44 v45
  v46.toNat
def k0_dev4 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v47 : BitVec 32 := Scalar.muli v2 c8_i32_29
  let v48 : BitVec 32 := Scalar.addi c0_i32_30 v47
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_5 v5
  let c4_i32_31 : BitVec 32 := 4#32
  let v49 : BitVec 32 := Scalar.muli v12 c4_i32_31
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_32 : BitVec 32 := 1#32
  let v51 : BitVec 32 := Scalar.muli v9 c1_i32_32
  let v52 : BitVec 32 := Scalar.addi v50 v51
  v52.toNat
def k0_cond2 (i : grid0.Coords) : BitVec 1 :=
  let arg0 : BitVec 32 := BitVec.ofNat 32 (i 0).val
  let c2_i32_8 : BitVec 32 := 2#32
  let v19 : BitVec 1 := Scalar.cmpi .sge arg0 c2_i32_8
  let v20 : BitVec 32 := Scalar.extui v19
  let c0_i32_9 : BitVec 32 := 0#32
  let v21 : BitVec 1 := Scalar.cmpi .ne v20 c0_i32_9
  v21

def k0_off1 (i : grid0.Coords) : Fin 1 → Nat :=
  let arg0 : BitVec 32 := BitVec.ofNat 32 (i 0).val
  let c2_i32_13 : BitVec 32 := 2#32
  let v28 : BitVec 32 := Scalar.subi arg0 c2_i32_13
  ![v28.toNat]
def k0_off2 (i : grid0.Coords) : Fin 3 → Nat :=
  let arg0 : BitVec 32 := BitVec.ofNat 32 (i 0).val
  let c2_i32_13 : BitVec 32 := 2#32
  let v28 : BitVec 32 := Scalar.subi arg0 c2_i32_13
  let c0_i32_21 : BitVec 32 := 0#32
  let c0_i32_22 : BitVec 32 := 0#32
  ![v28.toNat, 0, 0]
def k0_off3 (i : grid0.Coords) (v14 : BitVec 32) : Fin 3 → Nat :=
  let c0_25 : Index := 0#32
  let c0_26 : Index := 0#32
  let c256_i32 : BitVec 32 := 256#32
  let v15 : BitVec 32 := Scalar.muli v14 c256_i32
  let arg0 : BitVec 32 := BitVec.ofNat 32 (i 0).val
  let c2_i32_13 : BitVec 32 := 2#32
  let v28 : BitVec 32 := Scalar.subi arg0 c2_i32_13
  let c256_i32_14 : BitVec 32 := 256#32
  let v29 : BitVec 32 := Scalar.muli v28 c256_i32_14
  let v30 : BitVec 32 := Scalar.addi v15 v29
  let v43 : Index := Scalar.indexCast v30
  ![0, 0, v43.toNat]

def k0_off4 (i : grid0.Coords) : Fin 3 → Nat :=
  let arg0 : BitVec 32 := BitVec.ofNat 32 (i 0).val
  let c2_i32_13 : BitVec 32 := 2#32
  let v28 : BitVec 32 := Scalar.subi arg0 c2_i32_13
  let v46 : Index := Scalar.indexCast v28
  let c0_27 : Index := 0#32
  let c0_28 : Index := 0#32
  ![v46.toNat, 0, 0]
def k0_off5 (i : grid0.Coords) : Fin 1 → Nat :=
  let arg0 : BitVec 32 := BitVec.ofNat 32 (i 0).val
  let c2_i32_13 : BitVec 32 := 2#32
  let v28 : BitVec 32 := Scalar.subi arg0 c2_i32_13
  ![v28.toNat]
def k0_off6 (i : grid0.Coords) (v14 : BitVec 32) : Fin 3 → Nat :=
  let c0_i32_32 : BitVec 32 := 0#32
  let c0_i32_37 : BitVec 32 := 0#32
  let c256_i32 : BitVec 32 := 256#32
  let v15 : BitVec 32 := Scalar.muli v14 c256_i32
  let arg0 : BitVec 32 := BitVec.ofNat 32 (i 0).val
  let c2_i32_13 : BitVec 32 := 2#32
  let v28 : BitVec 32 := Scalar.subi arg0 c2_i32_13
  let c256_i32_14 : BitVec 32 := 256#32
  let v29 : BitVec 32 := Scalar.muli v28 c256_i32_14
  let v30 : BitVec 32 := Scalar.addi v15 v29
  ![0, 0, v30.toNat]
def k0_dev5 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v54 : BitVec 32 := Scalar.muli v2 c8_i32_33
  let v55 : BitVec 32 := Scalar.addi c0_i32_34 v54
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_35 : BitVec 32 := 4#32
  let v56 : BitVec 32 := Scalar.muli v11 c4_i32_35
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v58 : BitVec 32 := Scalar.muli v8 c1_i32_36
  let v59 : BitVec 32 := Scalar.addi v57 v58
  v59.toNat
def k0_dev6 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v68 : BitVec 32 := Scalar.muli v2 c8_i32_41
  let v69 : BitVec 32 := Scalar.addi c0_i32_42 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v70 : BitVec 32 := Scalar.muli v5 c4_i32_43
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_44 : BitVec 32 := 1#32
  let v72 : BitVec 32 := Scalar.muli v9 c1_i32_44
  let v73 : BitVec 32 := Scalar.addi v71 v72
  v73.toNat
def k0_dev7 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v82 : BitVec 32 := Scalar.muli v2 c8_i32_49
  let v83 : BitVec 32 := Scalar.addi c0_i32_50 v82
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_5 v5
  let c4_i32_51 : BitVec 32 := 4#32
  let v84 : BitVec 32 := Scalar.muli v12 c4_i32_51
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.xori v8 c1_i32_2
  let c1_i32_52 : BitVec 32 := 1#32
  let v86 : BitVec 32 := Scalar.muli v9 c1_i32_52
  let v87 : BitVec 32 := Scalar.addi v85 v86
  v87.toNat
def k0_cond3 (i : grid0.Coords) : BitVec 1 :=
  let arg0 : BitVec 32 := BitVec.ofNat 32 (i 0).val
  let c8_i32_10 : BitVec 32 := 8#32
  let v22 : BitVec 1 := Scalar.cmpi .slt arg0 c8_i32_10
  let v23 : BitVec 32 := Scalar.extui v22
  let c0_i32_11 : BitVec 32 := 0#32
  let v24 : BitVec 1 := Scalar.cmpi .ne v23 c0_i32_11
  v24

def k0_cond4 (i : grid0.Coords) : BitVec 1 :=
  let arg0 : BitVec 32 := BitVec.ofNat 32 (i 0).val
  let c4_i32_26 : BitVec 32 := 4#32
  let v50 : BitVec 1 := Scalar.cmpi .sge arg0 c4_i32_26
  let v51 : BitVec 32 := Scalar.extui v50
  let c0_i32_27 : BitVec 32 := 0#32
  let v52 : BitVec 1 := Scalar.cmpi .ne v51 c0_i32_27
  v52

def k0_off7 (i : grid0.Coords) : Fin 1 → Nat :=
  let arg0 : BitVec 32 := BitVec.ofNat 32 (i 0).val
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  ![v49.toNat]
def k0_off8 (i : grid0.Coords) : Fin 3 → Nat :=
  let arg0 : BitVec 32 := BitVec.ofNat 32 (i 0).val
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c0_i32_41 : BitVec 32 := 0#32
  let c0_i32_42 : BitVec 32 := 0#32
  ![v49.toNat, 0, 0]
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v13 : BitVec 1 := Scalar.cmpi .eq v2 c0_i32
  let v53 : BitVec 32 := Scalar.extui v13
  let c0_i32_28 : BitVec 32 := 0#32
  let v54 : BitVec 1 := Scalar.cmpi .ne v53 c0_i32_28
  v54

def k0_off9 (i : grid0.Coords) (v14 : BitVec 32) : Fin 3 → Nat :=
  let c0_38 : Index := 0#32
  let c0_39 : Index := 0#32
  let c256_i32 : BitVec 32 := 256#32
  let v15 : BitVec 32 := Scalar.muli v14 c256_i32
  let arg0 : BitVec 32 := BitVec.ofNat 32 (i 0).val
  let c256_i32_19 : BitVec 32 := 256#32
  let v38 : BitVec 32 := Scalar.muli arg0 c256_i32_19
  let v39 : BitVec 32 := Scalar.addi v15 v38
  let v72 : Index := Scalar.indexCast v39
  ![0, 0, v72.toNat]
def k0_off10 (i : grid0.Coords) : Fin 3 → Nat :=
  let arg0 : BitVec 32 := BitVec.ofNat 32 (i 0).val
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let v76 : Index := Scalar.indexCast v49
  let c0_40 : Index := 0#32
  let c0_41 : Index := 0#32
  ![v76.toNat, 0, 0]
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v13 : BitVec 1 := Scalar.cmpi .eq v2 c0_i32
  let v_true : BitVec 1 := 1#1
  let v55 : BitVec 1 := Scalar.xori v13 v_true
  let v56 : BitVec 32 := Scalar.extui v55
  let c0_i32_29 : BitVec 32 := 0#32
  let v57 : BitVec 1 := Scalar.cmpi .ne v56 c0_i32_29
  v57

def k0_off11 (i : grid0.Coords) (v14 : BitVec 32) : Fin 3 → Nat :=
  let c0_38 : Index := 0#32
  let c0_39 : Index := 0#32
  let c256_i32 : BitVec 32 := 256#32
  let v15 : BitVec 32 := Scalar.muli v14 c256_i32
  let arg0 : BitVec 32 := BitVec.ofNat 32 (i 0).val
  let c256_i32_19 : BitVec 32 := 256#32
  let v38 : BitVec 32 := Scalar.muli arg0 c256_i32_19
  let v39 : BitVec 32 := Scalar.addi v15 v38
  let v72 : Index := Scalar.indexCast v39
  ![0, 0, v72.toNat]

def k0_chk1 (i : grid0.Coords) (d0 : Dev nD) (v14 : BitVec 32) : Prop :=
  (∀ (k0_h2 : k0_cond2 i = 1#1), ∀ a, (k0_off3 i v14) a + S1x1024x256.size a ≤ S1x1024x8192.size a) ∧
  (∀ (k0_h2 : k0_cond2 i = 1#1), ∀ (hinb : ∀ a, (k0_off3 i v14) a + S1x1024x256.size a ≤ S1x1024x8192.size a), (Rect.unit (s := S1x1024x8192) (k0_off3 i v14) S1x1024x256.size hinb).PackedRows (EltTy.packing .bf16)) ∧
  (∀ (k0_h2 : k0_cond2 i = 1#1), ∀ a, (k0_off6 i v14) a + S1x1024x256.size a ≤ S1x1024x8192.size a) ∧
  (∀ (k0_h2 : k0_cond2 i = 1#1), ∀ (hinb : ∀ a, (k0_off6 i v14) a + S1x1024x256.size a ≤ S1x1024x8192.size a), (Rect.unit (s := S1x1024x8192) (k0_off6 i v14) S1x1024x256.size hinb).WholeWords (EltTy.packing .bf16)) ∧
  (∀ (k0_h3 : k0_cond3 i = 1#1), ∀ (k0_h5 : k0_cond5 d0 = 1#1), ∀ a, (k0_off9 i v14) a + S1x1024x256.size a ≤ S1x1024x8192.size a) ∧
  (∀ (k0_h3 : k0_cond3 i = 1#1), ∀ (k0_h5 : k0_cond5 d0 = 1#1), ∀ (hinb : ∀ a, (k0_off9 i v14) a + S1x1024x256.size a ≤ S1x1024x8192.size a), (Rect.unit (s := S1x1024x8192) (k0_off9 i v14) S1x1024x256.size hinb).PackedRows (EltTy.packing .bf16)) ∧
  (∀ (k0_h3 : k0_cond3 i = 1#1), ∀ (k0_h6 : k0_cond6 d0 = 1#1), ∀ a, (k0_off11 i v14) a + S1x1024x256.size a ≤ S1x1024x8192.size a) ∧
  (∀ (k0_h3 : k0_cond3 i = 1#1), ∀ (k0_h6 : k0_cond6 d0 = 1#1), ∀ (hinb : ∀ a, (k0_off11 i v14) a + S1x1024x256.size a ≤ S1x1024x8192.size a), (Rect.unit (s := S1x1024x8192) (k0_off11 i v14) S1x1024x256.size hinb).PackedRows (EltTy.packing .bf16))
theorem k0_off3_inb : ∀ (i : grid0.Coords) (d0 : Dev nD) (v14 : BitVec 32) (k0_hw1 : k0_chk1 i d0 v14), ∀ (k0_h2 : k0_cond2 i = 1#1), ∀ a, (k0_off3 i v14) a + S1x1024x256.size a ≤ S1x1024x8192.size a := fun i d0 v14 k0_hw1 k0_h2 => k0_hw1.1 k0_h2
theorem k0_off3_packedbf16 : ∀ (i : grid0.Coords) (d0 : Dev nD) (v14 : BitVec 32) (k0_hw1 : k0_chk1 i d0 v14), ∀ (k0_h2 : k0_cond2 i = 1#1), (Rect.unit (s := S1x1024x8192) (k0_off3 i v14) S1x1024x256.size (k0_off3_inb i d0 v14 k0_hw1 k0_h2)).PackedRows (EltTy.packing .bf16) := fun i d0 v14 k0_hw1 k0_h2 => k0_hw1.2.1 k0_h2 (k0_off3_inb i d0 v14 k0_hw1 k0_h2)
theorem k0_off6_inb : ∀ (i : grid0.Coords) (d0 : Dev nD) (v14 : BitVec 32) (k0_hw1 : k0_chk1 i d0 v14), ∀ (k0_h2 : k0_cond2 i = 1#1), ∀ a, (k0_off6 i v14) a + S1x1024x256.size a ≤ S1x1024x8192.size a := fun i d0 v14 k0_hw1 k0_h2 => k0_hw1.2.2.1 k0_h2
theorem k0_off6_wordsbf16 : ∀ (i : grid0.Coords) (d0 : Dev nD) (v14 : BitVec 32) (k0_hw1 : k0_chk1 i d0 v14), ∀ (k0_h2 : k0_cond2 i = 1#1), (Rect.unit (s := S1x1024x8192) (k0_off6 i v14) S1x1024x256.size (k0_off6_inb i d0 v14 k0_hw1 k0_h2)).WholeWords (EltTy.packing .bf16) := fun i d0 v14 k0_hw1 k0_h2 => k0_hw1.2.2.2.1 k0_h2 (k0_off6_inb i d0 v14 k0_hw1 k0_h2)
theorem k0_off9_inb : ∀ (i : grid0.Coords) (d0 : Dev nD) (v14 : BitVec 32) (k0_hw1 : k0_chk1 i d0 v14), ∀ (k0_h3 : k0_cond3 i = 1#1), ∀ (k0_h5 : k0_cond5 d0 = 1#1), ∀ a, (k0_off9 i v14) a + S1x1024x256.size a ≤ S1x1024x8192.size a := fun i d0 v14 k0_hw1 k0_h3 k0_h5 => k0_hw1.2.2.2.2.1 k0_h3 k0_h5
theorem k0_off9_packedbf16 : ∀ (i : grid0.Coords) (d0 : Dev nD) (v14 : BitVec 32) (k0_hw1 : k0_chk1 i d0 v14), ∀ (k0_h3 : k0_cond3 i = 1#1), ∀ (k0_h5 : k0_cond5 d0 = 1#1), (Rect.unit (s := S1x1024x8192) (k0_off9 i v14) S1x1024x256.size (k0_off9_inb i d0 v14 k0_hw1 k0_h3 k0_h5)).PackedRows (EltTy.packing .bf16) := fun i d0 v14 k0_hw1 k0_h3 k0_h5 => k0_hw1.2.2.2.2.2.1 k0_h3 k0_h5 (k0_off9_inb i d0 v14 k0_hw1 k0_h3 k0_h5)
theorem k0_off11_inb : ∀ (i : grid0.Coords) (d0 : Dev nD) (v14 : BitVec 32) (k0_hw1 : k0_chk1 i d0 v14), ∀ (k0_h3 : k0_cond3 i = 1#1), ∀ (k0_h6 : k0_cond6 d0 = 1#1), ∀ a, (k0_off11 i v14) a + S1x1024x256.size a ≤ S1x1024x8192.size a := fun i d0 v14 k0_hw1 k0_h3 k0_h6 => k0_hw1.2.2.2.2.2.2.1 k0_h3 k0_h6
theorem k0_off11_packedbf16 : ∀ (i : grid0.Coords) (d0 : Dev nD) (v14 : BitVec 32) (k0_hw1 : k0_chk1 i d0 v14), ∀ (k0_h3 : k0_cond3 i = 1#1), ∀ (k0_h6 : k0_cond6 d0 = 1#1), (Rect.unit (s := S1x1024x8192) (k0_off11 i v14) S1x1024x256.size (k0_off11_inb i d0 v14 k0_hw1 k0_h3 k0_h6)).PackedRows (EltTy.packing .bf16) := fun i d0 v14 k0_hw1 k0_h3 k0_h6 => k0_hw1.2.2.2.2.2.2.2 k0_h3 k0_h6 (k0_off11_inb i d0 v14 k0_hw1 k0_h3 k0_h6)

def k0_off12 (i : grid0.Coords) : Fin 3 → Nat :=
  let arg0 : BitVec 32 := BitVec.ofNat 32 (i 0).val
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let v76 : Index := Scalar.indexCast v49
  let c0_40 : Index := 0#32
  let c0_41 : Index := 0#32
  ![v76.toNat, 0, 0]
def k0_off13 (i : grid0.Coords) : Fin 1 → Nat :=
  let arg0 : BitVec 32 := BitVec.ofNat 32 (i 0).val
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  ![v49.toNat]
def k0_off14 (i : grid0.Coords) : Fin 1 → Nat :=
  let arg0 : BitVec 32 := BitVec.ofNat 32 (i 0).val
  ![arg0.toNat]
def k0_off15 (i : grid0.Coords) : Fin 3 → Nat :=
  let arg0 : BitVec 32 := BitVec.ofNat 32 (i 0).val
  let c0_i32_34 : BitVec 32 := 0#32
  let c0_i32_35 : BitVec 32 := 0#32
  ![arg0.toNat, 0, 0]
def k0_off16 (i : grid0.Coords) : Fin 3 → Nat :=
  let arg0 : BitVec 32 := BitVec.ofNat 32 (i 0).val
  let c4_i32_20 : BitVec 32 := 4#32
  let c0_i32_21 : BitVec 32 := 0#32
  let v40 : BitVec 1 := Scalar.cmpi .eq c4_i32_20 c0_i32_21
  let c1_i32_22 : BitVec 32 := 1#32
  let v41 : BitVec 32 := Scalar.select v40 c1_i32_22 c4_i32_20
  let v42 : BitVec 32 := Scalar.remsi arg0 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c0_i32_36 : BitVec 32 := 0#32
  let c0_i32_37 : BitVec 32 := 0#32
  ![v49.toNat, 0, 0]
def k0_dev8 (d0 : Dev nD) : Nat :=
  let c0_i32_31 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_30 : BitVec 32 := 8#32
  let v58 : BitVec 32 := Scalar.muli v10 c8_i32_30
  let v59 : BitVec 32 := Scalar.addi c0_i32_31 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v60 : BitVec 32 := Scalar.muli v5 c4_i32_32
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v62 : BitVec 32 := Scalar.muli v8 c1_i32_33
  let v63 : BitVec 32 := Scalar.addi v61 v62
  v63.toNat
def k0_cond7 (i : grid0.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c7_i32 : BitVec 32 := 7#32
  let v1 : BitVec 32 := Scalar.minsi arg0 c7_i32
  let v2 : BitVec 32 := Scalar.addi v0 v1
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1x2048x64x128, .bf16⟩
  | .hbm, ⟨1, _⟩ => ⟨S8192x8192, .bf16⟩
  | .hbm, ⟨2, _⟩ => ⟨S1x2048x8192, .bf16⟩
  | .hbm, ⟨3, _⟩ => ⟨S1x2048x8192, .f32⟩
  | .hbm, ⟨4, _⟩ => ⟨S1x2048x8192, .bf16⟩
  | _, _ => ⟨S1x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Nums.lean ====
/-
  The integers of the kernel: which devices talk to which, which quarter of the columns a device
  computes, and what the printed conditions, offsets and device ids come to at each grid point.
  Everything here is a finite check over the sixteen devices and the ten grid points.
-/
module

public import proofs.«01_k».proof.Proof.Gen.KernelIdeal.Skeleton
public import proofs.«01_k».proof.Proof.Gen.KernelIdeal.Launch
public import proofs.«01_k».proof.Proof.Gen.KernelIdeal.Regions

@[expose] public section

noncomputable section

namespace Cert.KernelIdeal.Work

open Cert.KernelIdeal Cert.KernelIdeal.Gen
open Idealize.ShloMosaic Idealize.ShloMosaic.TcCoe

/-! ## Devices: device `8 x + 4 y + z` sits at `(x, y, z)` of the mesh `2 × 2 × 4` -/

set_option backward.proofsInPublic true in
/-- The device across the `x` axis: the one that holds the other half of the heads. -/
def xp (c : Dev nD) : Dev nD := ⟨(c.val + 8) % 16, Nat.mod_lt _ (by decide)⟩

set_option backward.proofsInPublic true in
/-- The three devices a finished piece is copied to: across `y`, across the low bit of `z`, across both. -/
def gp (g : Fin 3) (c : Dev nD) : Dev nD :=
  ⟨(match g with | 0 => c.val ^^^ 4 | 1 => c.val ^^^ 1 | 2 => c.val ^^^ 5) % 16, Nat.mod_lt _ (by decide)⟩

/-- The number of the quarter of the columns a device computes, `2 y + (z mod 2)`. -/
def qd (c : Dev nD) : ℕ := 2 * (c.val / 4 % 2) + c.val % 2

set_option backward.proofsInPublic true in
/-- The device that computed quarter `q` of the columns for device `c`: same `x`, same high bit of `z`. -/
def srcD (c : Dev nD) (q : Fin 4) : Dev nD :=
  ⟨(8 * (c.val / 8) + 4 * (q.val / 2) + 2 * (c.val / 2 % 2) + q.val % 2) % 16, Nat.mod_lt _ (by decide)⟩

theorem xp_xp (c : Dev nD) : xp (xp c) = c := by revert c; decide
theorem gp_gp (g : Fin 3) (c : Dev nD) : gp g (gp g c) = c := by revert g c; decide
theorem qd_lt (c : Dev nD) : qd c < 4 := by revert c; decide
theorem qd_xp (c : Dev nD) : qd (xp c) = qd c := by revert c; decide
theorem qd_gp_ne (g : Fin 3) (c : Dev nD) : qd (gp g c) ≠ qd c := by revert g c; decide
theorem qd_gp_inj (g g' : Fin 3) (c : Dev nD) : qd (gp g c) = qd (gp g' c) → g = g' := by revert g g' c; decide
theorem srcD_qd (c : Dev nD) (q : Fin 4) (h : qd c = q.val) : srcD c q = c := by revert c q; decide
theorem srcD_gp (g : Fin 3) (c : Dev nD) (q : Fin 4) : srcD (gp g c) q = srcD c q := by revert g c q; decide
theorem qd_srcD (c : Dev nD) (q : Fin 4) : qd (srcD c q) = q.val := by revert c q; decide
theorem srcD_div (c : Dev nD) (q : Fin 4) : (srcD c q).val / 8 = c.val / 8 := by revert c q; decide
theorem xp_div (c : Dev nD) : (xp c).val / 8 = 1 - c.val / 8 := by revert c; decide
theorem quarters (c : Dev nD) (q : Fin 4) : q.val = qd c ∨ ∃ g, q.val = qd (gp g c) := by revert c q; decide

/-- The device's entry of the prefetched table: eight times its quarter. -/
def tb (c : Dev nD) : BitVec 32 := BitVec.ofNat 32 (8 * qd c)

/-! ## The device ids the kernel computes -/

theorem dev1_eq (c : Dev nD) : k0_dev1 c = (xp c).val := by revert c; decide +kernel
theorem dev2_eq (c : Dev nD) : k0_dev2 c = (gp 0 c).val := by revert c; decide +kernel
theorem dev3_eq (c : Dev nD) : k0_dev3 c = (gp 1 c).val := by revert c; decide +kernel
theorem dev4_eq (c : Dev nD) : k0_dev4 c = (gp 2 c).val := by revert c; decide +kernel
theorem dev5_eq (c : Dev nD) : k0_dev5 c = (gp 0 c).val := by revert c; decide +kernel
theorem dev6_eq (c : Dev nD) : k0_dev6 c = (gp 1 c).val := by revert c; decide +kernel
theorem dev7_eq (c : Dev nD) : k0_dev7 c = (gp 2 c).val := by revert c; decide +kernel
theorem dev8_eq (c : Dev nD) : k0_dev8 c = (xp c).val := by revert c; decide +kernel

/-! ## The conditions -/

theorem cond1_iff (t : Fin grid0.N) : k0_cond1 (grid0.coords t) = 1#1 ↔ t.val = 0 := by revert t; decide +kernel
theorem cond2_iff (t : Fin grid0.N) : k0_cond2 (grid0.coords t) = 1#1 ↔ 2 ≤ t.val := by revert t; decide +kernel
theorem cond3_iff (t : Fin grid0.N) : k0_cond3 (grid0.coords t) = 1#1 ↔ t.val < 8 := by revert t; decide +kernel
theorem cond4_iff (t : Fin grid0.N) : k0_cond4 (grid0.coords t) = 1#1 ↔ 4 ≤ t.val := by revert t; decide +kernel
theorem cond7_iff (t : Fin grid0.N) : k0_cond7 (grid0.coords t) = 1#1 ↔ t.val = 9 := by revert t; decide +kernel
theorem cond5_iff (c : Dev nD) : k0_cond5 c = 1#1 ↔ c.val / 8 = 0 := by revert c; decide +kernel
theorem cond6_iff (c : Dev nD) : k0_cond6 c = 1#1 ↔ ¬ c.val / 8 = 0 := by revert c; decide +kernel

/-! ## The offsets -/

theorem off1_eq (t : Fin grid0.N) (h : 2 ≤ t.val) : k0_off1 (grid0.coords t) = ![t.val - 2] := by revert t; decide +kernel
theorem off2_eq (t : Fin grid0.N) (h : 2 ≤ t.val) : k0_off2 (grid0.coords t) = ![t.val - 2, 0, 0] := by revert t; decide +kernel
theorem off4_eq (t : Fin grid0.N) (h : 2 ≤ t.val) : k0_off4 (grid0.coords t) = ![t.val - 2, 0, 0] := by revert t; decide +kernel
theorem off5_eq (t : Fin grid0.N) (h : 2 ≤ t.val) : k0_off5 (grid0.coords t) = ![t.val - 2] := by revert t; decide +kernel
theorem off7_eq (t : Fin grid0.N) : k0_off7 (grid0.coords t) = ![t.val % 4] := by revert t; decide +kernel
theorem off8_eq (t : Fin grid0.N) : k0_off8 (grid0.coords t) = ![t.val % 4, 0, 0] := by revert t; decide +kernel
theorem off10_eq (t : Fin grid0.N) : k0_off10 (grid0.coords t) = ![t.val % 4, 0, 0] := by revert t; decide +kernel
theorem off12_eq (t : Fin grid0.N) : k0_off12 (grid0.coords t) = ![t.val % 4, 0, 0] := by revert t; decide +kernel
theorem off13_eq (t : Fin grid0.N) : k0_off13 (grid0.coords t) = ![t.val % 4] := by revert t; decide +kernel
theorem off14_eq (t : Fin grid0.N) : k0_off14 (grid0.coords t) = ![t.val] := by revert t; decide +kernel
theorem off15_eq (t : Fin grid0.N) : k0_off15 (grid0.coords t) = ![t.val, 0, 0] := by revert t; decide +kernel
theorem off16_eq (t : Fin grid0.N) : k0_off16 (grid0.coords t) = ![t.val % 4, 0, 0] := by revert t; decide +kernel
theorem off3_eq (t : Fin grid0.N) (c : Dev nD) (h : 2 ≤ t.val) :
    k0_off3 (grid0.coords t) (tb c) = ![0, 0, (qd c * 8 + (t.val - 2)) * 256] := by revert t c; decide +kernel
theorem off6_eq (t : Fin grid0.N) (c : Dev nD) (h : 2 ≤ t.val) :
    k0_off6 (grid0.coords t) (tb c) = ![0, 0, (qd c * 8 + (t.val - 2)) * 256] := by revert t c; decide +kernel
theorem off9_eq (t : Fin grid0.N) (c : Dev nD) (h : t.val < 8) :
    k0_off9 (grid0.coords t) (tb c) = ![0, 0, (qd c * 8 + t.val) * 256] := by revert t c; decide +kernel
theorem off11_eq (t : Fin grid0.N) (c : Dev nD) (h : t.val < 8) :
    k0_off11 (grid0.coords t) (tb c) = ![0, 0, (qd c * 8 + t.val) * 256] := by revert t c; decide +kernel

/-- The region's check on the table holds of the device's entry at every point. -/
theorem chk1 (t : Fin grid0.N) (c : Dev nD) : k0_chk1 (grid0.coords t) c (tb c) := by revert t c; decide +kernel

end Cert.KernelIdeal.Work
-- ==== Proof.Views.lean ====
/-
  The three buffers the copies run between — the result's staging buffer, the send slots and the
  receive slots — as arrays of chunks `1 × 1024 × 256`, and what loads, stores and copies of one
  chunk do in those terms.
-/
module

public import proofs.«01_k».proof.Proof.Nums

@[expose] public section

noncomputable section

namespace Cert.KernelIdeal.Work

open Cert.KernelIdeal Cert.KernelIdeal.Gen
open Idealize.ShloMosaic Idealize.ShloMosaic.TcCoe

variable {F : FTy → Type}

/-- The result's staging buffer, the send slots, the receive slots. -/
abbrev O4 : Memref sig .tc .vmem S1x1024x8192 .bf16 := Memref.whole cc0_stg2_0
abbrev SB : Memref sig .tc .vmem S4x1024x256 .bf16 := Memref.whole cc0_scratch0
abbrev RX : Memref sig .tc .vmem S8x1024x256 .bf16 := Memref.whole cc0_scratch1

/-- One chunk. -/
abbrev Chunk (F : FTy → Type) : Type := S1x1024x256.Idx → Elt F .bf16

/-- The index of a chunk at row `r`, column `k`. -/
def cix (r k : ℕ) (hr : r < 1024) (hk : k < 256) : S1x1024x256.Idx :=
  fun a => match a with | 0 => ⟨0, Nat.one_pos⟩ | 1 => ⟨r, hr⟩ | 2 => ⟨k, hk⟩ | ⟨_ + 3, h⟩ => absurd h (Nat.not_lt.2 (Nat.le_add_left _ _))

/-- The staging buffer whose 32 column chunks are `G`. -/
def ofChunks (G : ℕ → Chunk F) : (cc0_stg2_0 : Ref sig .tc).ty.Contents (Elt F) :=
  fun i : S1x1024x8192.Idx => G ((i 2).val / 256) (cix (i 1).val ((i 2).val % 256) (i 1).isLt (Nat.mod_lt _ (by decide)))
/-- The send slots holding `G`. -/
def ofSlots4 (G : ℕ → Chunk F) : (cc0_scratch0 : Ref sig .tc).ty.Contents (Elt F) :=
  fun i : S4x1024x256.Idx => G (i 0).val (cix (i 1).val (i 2).val (i 1).isLt (i 2).isLt)
/-- The receive slots holding `G`. -/
def ofSlots8 (G : ℕ → Chunk F) : (cc0_scratch1 : Ref sig .tc).ty.Contents (Elt F) :=
  fun i : S8x1024x256.Idx => G (i 0).val (cix (i 1).val (i 2).val (i 1).isLt (i 2).isLt)

/-- The elements of column chunk `j`; of a send slot; of a receive slot. -/
def colSet (j : ℕ) : Finset S1x1024x8192.Idx := Finset.univ.filter fun i => (i 2).val / 256 = j
def slot4 (s : ℕ) : Finset S4x1024x256.Idx := Finset.univ.filter fun i => (i 0).val = s
def slot8 (t : ℕ) : Finset S8x1024x256.Idx := Finset.univ.filter fun i => (i 0).val = t

theorem mem_colSet {j : ℕ} {i : S1x1024x8192.Idx} : i ∈ colSet j ↔ (i 2).val / 256 = j := by simp [colSet]
theorem mem_slot4 {j : ℕ} {i : S4x1024x256.Idx} : i ∈ slot4 j ↔ (i 0).val = j := by simp [slot4]
theorem mem_slot8 {j : ℕ} {i : S8x1024x256.Idx} : i ∈ slot8 j ↔ (i 0).val = j := by simp [slot8]

section Rects

variable {off : Fin 3 → ℕ}

theorem rect_out {j : ℕ} (h : off = ![0, 0, j * 256]) (inb : ∀ a, off a + S1x1024x256.size a ≤ S1x1024x8192.size a) :
    (Rect.unit (s := S1x1024x8192) off S1x1024x256.size inb).set = colSet j := by
  subst h
  ext i
  rw [Rect.mem_set_unit, mem_colSet, Fin.forall_fin_succ, Fin.forall_fin_succ, Fin.forall_fin_succ]
  have h0 : (i 0).val < 1 := (i 0).isLt
  have h1 : (i 1).val < 1024 := (i 1).isLt
  simp [S1x1024x256]
  omega

theorem rect_4 {j : ℕ} (h : off = ![j, 0, 0]) (inb : ∀ a, off a + S1x1024x256.size a ≤ S4x1024x256.size a) :
    (Rect.unit (s := S4x1024x256) off S1x1024x256.size inb).set = slot4 j := by
  subst h
  ext i
  rw [Rect.mem_set_unit, mem_slot4, Fin.forall_fin_succ, Fin.forall_fin_succ, Fin.forall_fin_succ]
  have h0 : (i 1).val < 1024 := (i 1).isLt
  have h1 : (i 2).val < 256 := (i 2).isLt
  simp [S1x1024x256]
  omega

theorem rect_8 {j : ℕ} (h : off = ![j, 0, 0]) (inb : ∀ a, off a + S1x1024x256.size a ≤ S8x1024x256.size a) :
    (Rect.unit (s := S8x1024x256) off S1x1024x256.size inb).set = slot8 j := by
  subst h
  ext i
  rw [Rect.mem_set_unit, mem_slot8, Fin.forall_fin_succ, Fin.forall_fin_succ, Fin.forall_fin_succ]
  have h0 : (i 1).val < 1024 := (i 1).isLt
  have h1 : (i 2).val < 256 := (i 2).isLt
  simp [S1x1024x256]
  omega

theorem chunk_congr {G : ℕ → Chunk F} {j j' : ℕ} {y y' : S1x1024x256.Idx} (hj : j = j') (h1 : (y 1).val = (y' 1).val) (h2 : (y 2).val = (y' 2).val) :
    G j y = G j' y' := by
  subst hj
  have : y = y' := by
    funext a
    match a with
    | 0 => exact Fin.ext (by have h0 : (y 0).val < 1 := (y 0).isLt; have h0' : (y' 0).val < 1 := (y' 0).isLt; omega)
    | 1 => exact Fin.ext h1
    | 2 => exact Fin.ext h2
  rw [this]

theorem ofChunks_emb {j : ℕ} (h : off = ![0, 0, j * 256]) (inb : ∀ a, off a + S1x1024x256.size a ≤ S1x1024x8192.size a)
    (G : ℕ → Chunk F) (y : S1x1024x256.Idx) :
    ofChunks G ((Rect.unit (s := S1x1024x8192) off S1x1024x256.size inb).emb y) = G j y := by
  subst h
  have h2 : (y 2).val < 256 := (y 2).isLt
  have e1 : ((Rect.unit (s := S1x1024x8192) ![0, 0, j * 256] S1x1024x256.size inb).emb y 1).val = (y 1).val := by
    rw [Rect.emb_apply]; simp
  have e2 : ((Rect.unit (s := S1x1024x8192) ![0, 0, j * 256] S1x1024x256.size inb).emb y 2).val = j * 256 + (y 2).val := by
    rw [Rect.emb_apply]; simp
  unfold ofChunks
  apply chunk_congr
  · rw [e2]; omega
  · exact e1
  · show _ % 256 = _; rw [e2]; omega

theorem ofSlots4_emb {j : ℕ} (h : off = ![j, 0, 0]) (inb : ∀ a, off a + S1x1024x256.size a ≤ S4x1024x256.size a)
    (G : ℕ → Chunk F) (y : S1x1024x256.Idx) :
    ofSlots4 G ((Rect.unit (s := S4x1024x256) off S1x1024x256.size inb).emb y) = G j y := by
  subst h
  have h0 : (y 0).val < 1 := (y 0).isLt
  have e0 : ((Rect.unit (s := S4x1024x256) ![j, 0, 0] S1x1024x256.size inb).emb y 0).val = j := by
    rw [Rect.emb_apply]; simp; omega
  have e1 : ((Rect.unit (s := S4x1024x256) ![j, 0, 0] S1x1024x256.size inb).emb y 1).val = (y 1).val := by
    rw [Rect.emb_apply]; simp
  have e2 : ((Rect.unit (s := S4x1024x256) ![j, 0, 0] S1x1024x256.size inb).emb y 2).val = (y 2).val := by
    rw [Rect.emb_apply]; simp
  unfold ofSlots4
  apply chunk_congr
  · exact e0
  · exact e1
  · exact e2

theorem ofSlots8_emb {j : ℕ} (h : off = ![j, 0, 0]) (inb : ∀ a, off a + S1x1024x256.size a ≤ S8x1024x256.size a)
    (G : ℕ → Chunk F) (y : S1x1024x256.Idx) :
    ofSlots8 G ((Rect.unit (s := S8x1024x256) off S1x1024x256.size inb).emb y) = G j y := by
  subst h
  have h0 : (y 0).val < 1 := (y 0).isLt
  have e0 : ((Rect.unit (s := S8x1024x256) ![j, 0, 0] S1x1024x256.size inb).emb y 0).val = j := by
    rw [Rect.emb_apply]; simp; omega
  have e1 : ((Rect.unit (s := S8x1024x256) ![j, 0, 0] S1x1024x256.size inb).emb y 1).val = (y 1).val := by
    rw [Rect.emb_apply]; simp
  have e2 : ((Rect.unit (s := S8x1024x256) ![j, 0, 0] S1x1024x256.size inb).emb y 2).val = (y 2).val := by
    rw [Rect.emb_apply]; simp
  unfold ofSlots8
  apply chunk_congr
  · exact e0
  · exact e1
  · exact e2

/-! ### The views -/

/-- A chunk of the staging buffer, of the send slots, of the receive slots, as a transfer names it. -/
abbrev ov (off : Fin 3 → ℕ) (inb : ∀ a, off a + S1x1024x256.size a ≤ S1x1024x8192.size a) : Memref sig .tc .vmem S1024x256 .bf16 :=
  (O4.slice (Rect.unit (s := S1x1024x8192) off S1x1024x256.size inb) (fun _ => rfl)).squeeze S1024x256 squeezes_S1x1024x256_S1024x256
abbrev sv (off : Fin 3 → ℕ) (inb : ∀ a, off a + S1x1024x256.size a ≤ S4x1024x256.size a) : Memref sig .tc .vmem S1024x256 .bf16 :=
  (SB.slice (Rect.unit (s := S4x1024x256) off S1x1024x256.size inb) (fun _ => rfl)).squeeze S1024x256 squeezes_S1x1024x256_S1024x256
abbrev rv (off : Fin 3 → ℕ) (inb : ∀ a, off a + S1x1024x256.size a ≤ S8x1024x256.size a) : Memref sig .tc .vmem S1024x256 .bf16 :=
  (RX.slice (Rect.unit (s := S8x1024x256) off S1x1024x256.size inb) (fun _ => rfl)).squeeze S1024x256 squeezes_S1x1024x256_S1024x256

theorem ov_set {j : ℕ} (h : off = ![0, 0, j * 256]) (inb) : (ov off inb).view.set = colSet j :=
  ((View.set_reshape _ _).trans (View.set_slice_whole _ _)).trans (rect_out h inb)
theorem sv_set {j : ℕ} (h : off = ![j, 0, 0]) (inb) : (sv off inb).view.set = slot4 j :=
  ((View.set_reshape _ _).trans (View.set_slice_whole _ _)).trans (rect_4 h inb)
theorem rv_set {j : ℕ} (h : off = ![j, 0, 0]) (inb) : (rv off inb).view.set = slot8 j :=
  ((View.set_reshape _ _).trans (View.set_slice_whole _ _)).trans (rect_8 h inb)

/-- What a transfer reads off a chunk: the chunk, indexed without its axis of size one. -/
theorem ov_read {j : ℕ} (h : off = ![0, 0, j * 256]) (inb) (G : ℕ → Chunk F) :
    (ov off inb).view.read (Elt F) (ofChunks G) = fun x => G j (Shape.reshapeEquiv squeezes_S1x1024x256_S1024x256.numel_eq x) :=
  funext fun _ => ofChunks_emb h inb G _
theorem sv_read {j : ℕ} (h : off = ![j, 0, 0]) (inb) (G : ℕ → Chunk F) :
    (sv off inb).view.read (Elt F) (ofSlots4 G) = fun x => G j (Shape.reshapeEquiv squeezes_S1x1024x256_S1024x256.numel_eq x) :=
  funext fun _ => ofSlots4_emb h inb G _

/-- What a transfer of a chunk `w` leaves on a chunk of the staging buffer, -/
theorem ov_write {j : ℕ} (h : off = ![0, 0, j * 256]) (inb) (G : ℕ → Chunk F) (fd : (cc0_stg2_0 : Ref sig .tc).ty.Contents (Elt F)) :
    ∀ i ∈ (ov off inb).view.set, (ov off inb).view.write (Elt F) fd
      (fun x => G j (Shape.reshapeEquiv squeezes_S1x1024x256_S1024x256.numel_eq x)) Finset.univ i = ofChunks G i := by
  intro i hi
  obtain ⟨x, -, rfl⟩ := Finset.mem_map.mp hi
  rw [View.write_emb_of_mem _ _ (Finset.mem_univ x)]
  exact (ofChunks_emb h inb G _).symm
/-- and on a receive slot. -/
theorem rv_write {j : ℕ} (h : off = ![j, 0, 0]) (inb) (G : ℕ → Chunk F) (fd : (cc0_scratch1 : Ref sig .tc).ty.Contents (Elt F)) :
    ∀ i ∈ (rv off inb).view.set, (rv off inb).view.write (Elt F) fd
      (fun x => G j (Shape.reshapeEquiv squeezes_S1x1024x256_S1024x256.numel_eq x)) Finset.univ i = ofSlots8 G i := by
  intro i hi
  obtain ⟨x, -, rfl⟩ := Finset.mem_map.mp hi
  rw [View.write_emb_of_mem _ _ (Finset.mem_univ x)]
  exact (ofSlots8_emb h inb G _).symm

/-! ### Loads and stores of a chunk -/

theorem out_access {j : ℕ} (h : off = ![0, 0, j * 256]) (inb) :
    (O4.access (Rect.unit (s := S1x1024x8192) off S1x1024x256.size inb) : View sig .tc _ _ _).set = colSet j :=
  (View.set_slice_whole _ _).trans (rect_out h inb)
theorem sb_access {j : ℕ} (h : off = ![j, 0, 0]) (inb) :
    (SB.access (Rect.unit (s := S4x1024x256) off S1x1024x256.size inb) : View sig .tc _ _ _).set = slot4 j :=
  (View.set_slice_whole _ _).trans (rect_4 h inb)
theorem rx_access {j : ℕ} (h : off = ![j, 0, 0]) (inb) :
    (RX.access (Rect.unit (s := S8x1024x256) off S1x1024x256.size inb) : View sig .tc _ _ _).set = slot8 j :=
  (View.set_slice_whole _ _).trans (rect_8 h inb)

theorem out_load {j : ℕ} (h : off = ![0, 0, j * 256]) (inb) (G : ℕ → Chunk F) :
    (O4.access (Rect.unit (s := S1x1024x8192) off S1x1024x256.size inb) : View sig .tc _ _ _).read (Elt F) (ofChunks G) = G j :=
  funext fun _ => ofChunks_emb h inb G _
theorem rx_load {j : ℕ} (h : off = ![j, 0, 0]) (inb) (G : ℕ → Chunk F) :
    (RX.access (Rect.unit (s := S8x1024x256) off S1x1024x256.size inb) : View sig .tc _ _ _).read (Elt F) (ofSlots8 G) = G j :=
  funext fun _ => ofSlots8_emb h inb G _

theorem out_store {j : ℕ} (h : off = ![0, 0, j * 256]) (inb) (G : ℕ → Chunk F) (fd : (cc0_stg2_0 : Ref sig .tc).ty.Contents (Elt F)) :
    ∀ i ∈ colSet j, (O4.access (Rect.unit (s := S1x1024x8192) off S1x1024x256.size inb) : View sig .tc _ _ _).write (Elt F) fd (G j) Finset.univ i = ofChunks G i := by
  intro i hi
  rw [← out_access h inb] at hi
  obtain ⟨x, -, rfl⟩ := Finset.mem_map.mp hi
  rw [View.write_emb_of_mem _ _ (Finset.mem_univ x)]
  exact (ofChunks_emb h inb G _).symm
theorem sb_store {j : ℕ} (h : off = ![j, 0, 0]) (inb) (G : ℕ → Chunk F) (fd : (cc0_scratch0 : Ref sig .tc).ty.Contents (Elt F)) :
    ∀ i ∈ slot4 j, (SB.access (Rect.unit (s := S4x1024x256) off S1x1024x256.size inb) : View sig .tc _ _ _).write (Elt F) fd (G j) Finset.univ i = ofSlots4 G i := by
  intro i hi
  rw [← sb_access h inb] at hi
  obtain ⟨x, -, rfl⟩ := Finset.mem_map.mp hi
  rw [View.write_emb_of_mem _ _ (Finset.mem_univ x)]
  exact (ofSlots4_emb h inb G _).symm

end Rects

/-! ### The chunks make up the buffers -/

theorem colSet_disj {j j' : ℕ} (h : j ≠ j') : Disjoint (colSet j) (colSet j') :=
  Finset.disjoint_left.mpr fun _ h1 h2 => h ((mem_colSet.mp h1).symm.trans (mem_colSet.mp h2))
theorem slot4_disj {j j' : ℕ} (h : j ≠ j') : Disjoint (slot4 j) (slot4 j') :=
  Finset.disjoint_left.mpr fun _ h1 h2 => h ((mem_slot4.mp h1).symm.trans (mem_slot4.mp h2))
theorem slot8_disj {j j' : ℕ} (h : j ≠ j') : Disjoint (slot8 j) (slot8 j') :=
  Finset.disjoint_left.mpr fun _ h1 h2 => h ((mem_slot8.mp h1).symm.trans (mem_slot8.mp h2))

theorem colSet_cover : (Finset.univ : Finset (Fin 32)).biUnion (fun j => colSet j.val) = Finset.univ := by
  ext i; simp only [Finset.mem_biUnion, Finset.mem_univ, true_and, iff_true, mem_colSet]
  have h : (i 2).val < 8192 := (i 2).isLt
  exact ⟨⟨(i 2).val / 256, by omega⟩, rfl⟩
theorem slot4_cover : (Finset.univ : Finset (Fin 4)).biUnion (fun j => slot4 j.val) = Finset.univ := by
  ext i; simp only [Finset.mem_biUnion, Finset.mem_univ, true_and, iff_true, mem_slot4]
  exact ⟨i 0, rfl⟩
theorem slot8_cover : (Finset.univ : Finset (Fin 8)).biUnion (fun j => slot8 j.val) = Finset.univ := by
  ext i; simp only [Finset.mem_biUnion, Finset.mem_univ, true_and, iff_true, mem_slot8]
  exact ⟨i 0, rfl⟩

end Cert.KernelIdeal.Work
-- ==== Proof.Proto.lean ====
/-
  The protocol between the devices.

  Every device owns one barrier cell and the sixty semaphores the kernel is handed. On the barrier cell its four
  neighbours pay one unit each, and with its unit a neighbour hands over the right to write the part of its
  memory that the owner will write: the device across `x` its eight receive slots, each of the three others the
  eight column chunks of the owner's quarter in its result buffer. On every receive semaphore there is one duty,
  paid by the copy, and what it delivers is the piece of memory written, at its final contents. On every send
  semaphore there is one duty (two, one round each, on the four semaphores of the send slots), and what it
  delivers is the source of the copy.
-/
module

public import proofs.«01_k».proof.Proof.Views
public import Idealize.ShloMosaic.Lib.Pipeline.Regions
public import Idealize.ShloMosaic.Lib.Pipeline.Kit
public import Idealize.ShloMosaic.Lib.Transfers
public import Idealize.ShloMosaic.Lib.Tactic

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipelines' cells, the protocol's cells, the local copies' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def EB : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EB_landsIn : (EB : Emb UB 𝕄).LandsIn (upEmb : UEmb _ 𝕄) := by unfold EB; infer_instance

/-! ## The semaphores -/

/-- What a semaphore is for: staging, the copy out of send slot `s`, the arrival in receive slot `k`, the copy of
    chunk `k` to neighbour `g`, the arrival of chunk `k` from neighbour `g`. -/
inductive Role | st | xs (s : Fin 4) | xr (k : Fin 8) | gs (g : Fin 3) (k : Fin 8) | gr (g : Fin 3) (k : Fin 8)
  deriving DecidableEq

def sST (s : Fin 4) : DmaSem sig := (⟨s.val, by omega⟩ : Fin 64)
def sXS (s : Fin 4) : DmaSem sig := (⟨4 + s.val, by omega⟩ : Fin 64)
def sXR (k : Fin 8) : DmaSem sig := (⟨8 + k.val, by omega⟩ : Fin 64)
def sGS (g : Fin 3) (k : Fin 8) : DmaSem sig := (⟨16 + 16 * g.val + k.val, by omega⟩ : Fin 64)
def sGR (g : Fin 3) (k : Fin 8) : DmaSem sig := (⟨24 + 16 * g.val + k.val, by omega⟩ : Fin 64)

set_option backward.proofsInPublic true in
def roleN (n : ℕ) : Role :=
  if n < 4 then .st else if h : n < 8 then .xs ⟨n - 4, by omega⟩ else if h : n < 16 then .xr ⟨n - 8, by omega⟩
  else if (n - 16) % 16 < 8 then .gs ⟨(n - 16) / 16 % 3, Nat.mod_lt _ (by decide)⟩ ⟨(n - 16) % 8, Nat.mod_lt _ (by decide)⟩
  else .gr ⟨(n - 16) / 16 % 3, Nat.mod_lt _ (by decide)⟩ ⟨(n - 16) % 8, Nat.mod_lt _ (by decide)⟩
def role (n : DmaSem sig) : Role := roleN (show Fin 64 from n).val

theorem role_st (s : Fin 4) : role (sST s) = .st := by revert s; decide
theorem role_xs (s : Fin 4) : role (sXS s) = .xs s := by revert s; decide
theorem role_xr (k : Fin 8) : role (sXR k) = .xr k := by revert k; decide
theorem role_gs (g : Fin 3) (k : Fin 8) : role (sGS g k) = .gs g k := by revert g k; decide
theorem role_gr (g : Fin 3) (k : Fin 8) : role (sGR g k) = .gr g k := by revert g k; decide

/-- The barrier's semaphore. -/
abbrev barS : Sem sig := (SemArray.scalar (sig.barrier 0 rfl) : Sems sig S_).sem
abbrev bar (c : Dev nD) : GSem nD τ sig := ((c : Thread nD τ), .reg barS)
abbrev dc (c : Dev nD) (n : DmaSem sig) : GSem nD τ sig := ((c : Thread nD τ), .dma n)

/-- What a copy of one chunk credits. -/
def NB : ℕ := (rv ![0, 0, 0] inb_S8x1024x256_S1x1024x256_0_0_0).view.dmaCredit
theorem NB_pos : 0 < NB := View.dmaCredit_pos _ (by decide)

/-- The device a semaphore's credits come from: itself for the copies it starts, the neighbour for the others. -/
def tgt (n : DmaSem sig) (c : Dev nD) : Dev nD :=
  match role n with | .xr _ => xp c | .gr g _ => gp g c | _ => c
theorem tgt_tgt (n : DmaSem sig) (c : Dev nD) : tgt n (tgt n c) = c := by
  unfold tgt; cases role n <;> first | rfl | exact xp_xp c | exact gp_gp _ c
/-- The four neighbours. -/
def nb (d : Fin 4) (c : Dev nD) : Dev nD := Fin.cases (xp c) (fun g => gp g c) d
theorem nb_nb (d : Fin 4) (c : Dev nD) : nb d (nb d c) = c := by revert d c; decide
theorem tgt_xr (k : Fin 8) (c : Dev nD) : tgt (sXR k) c = xp c := by unfold tgt; rw [role_xr]
theorem tgt_gr (g : Fin 3) (k : Fin 8) (c : Dev nD) : tgt (sGR g k) c = gp g c := by unfold tgt; rw [role_gr]

/-! ## Contents: given what each device computes for itself and for the device across `x` -/

variable (own snd : Dev nD → ℕ → Chunk F)

/-- The finished chunk: the device's own half plus the half received. -/
def fin (c : Dev nD) (k : ℕ) : Chunk F := k0_pay1 (own c k) (snd (xp c) k)
/-- Chunk `j` of the result on device `c`: computed by the device of its group whose quarter `j` lies in. -/
def outG (c : Dev nD) (j : ℕ) : Chunk F := fin own snd (srcD c ⟨j / 8 % 4, Nat.mod_lt _ (by decide)⟩) (j % 8)
/-- The result on device `c`. -/
def outF (c : Dev nD) : (cc0_stg2_0 : Ref sig .tc).ty.Contents (Elt F) := ofChunks (outG own snd c)

theorem outG_own (c : Dev nD) (k : Fin 8) : outG own snd c (qd c * 8 + k.val) = fin own snd c k.val := by
  have hq := qd_lt c
  unfold outG
  rw [show (qd c * 8 + k.val) % 8 = k.val by omega]
  rw [srcD_qd c _ (show qd c = (qd c * 8 + k.val) / 8 % 4 by omega)]
theorem outG_gp (g : Fin 3) (c : Dev nD) (j : ℕ) : outG own snd (gp g c) j = outG own snd c j := by
  unfold outG; rw [srcD_gp]

/-- The three shares of a finished chunk, one per copy of it. -/
def sh (g : Fin 3) : PosShare TreeShare := match g with | 0 => fullShare.left | 1 => fullShare.right.left | 2 => fullShare.right.right

/-! ## The pieces of memory -/

abbrev ptO (c : Dev nD) (j : ℕ) (q : PosShare TreeShare) (f : (cc0_stg2_0 : Ref sig .tc).ty.Contents (Elt F)) : sProp 𝕄 :=
  (O4 : Memref sig .tc .vmem S1x1024x8192 .bf16).view.loc (c : Thread nD τ) ↦[colSet j]{q} f
abbrev ptS (c : Dev nD) (s : ℕ) (f : (cc0_scratch0 : Ref sig .tc).ty.Contents (Elt F)) : sProp 𝕄 :=
  (SB : Memref sig .tc .vmem S4x1024x256 .bf16).view.loc (c : Thread nD τ) ↦[slot4 s]{fullShare} f
abbrev ptR (c : Dev nD) (k : ℕ) (f : (cc0_scratch1 : Ref sig .tc).ty.Contents (Elt F)) : sProp 𝕄 :=
  (RX : Memref sig .tc .vmem S8x1024x256 .bf16).view.loc (c : Thread nD τ) ↦[slot8 k]{fullShare} f

/-! ## The schedule -/

/-- What a semaphore's duty delivers. -/
def pay (c : Dev nD) (n : DmaSem sig) : sProp 𝕄 :=
  match role n with
  | .st => iprop(emp)
  | .xs s => iprop(∃ f, ptS c s.val f)
  | .xr k => ptR c k.val (ofSlots8 (snd (xp c)))
  | .gs g k => ptO c (qd c * 8 + k.val) (sh g) (outF own snd c)
  | .gr g k => ptO c (qd (gp g c) * 8 + k.val) fullShare (outF own snd c)

/-- What the neighbours' barrier signals deliver to device `c`. -/
def barX (c : Dev nD) (k : Fin 8) : sProp 𝕄 := iprop((∃ f, ptR (xp c) k.val f) ∗ reached EB (dc (xp c) (sXR k)) 0)
def barG (c : Dev nD) (g : Fin 3) (k : Fin 8) : sProp 𝕄 :=
  iprop((∃ f, ptO (gp g c) (qd c * 8 + k.val) fullShare f) ∗ reached EB (dc (gp g c) (sGR g k)) 0)
def barPay (c : Dev nD) (d : Fin 4) : sProp 𝕄 :=
  match d with
  | 0 => bigSep Finset.univ fun k => barX c k
  | 1 => bigSep Finset.univ fun k => barG c 0 k
  | 2 => bigSep Finset.univ fun k => barG c 1 k
  | 3 => bigSep Finset.univ fun k => barG c 2 k

instance pay_storable (c : Dev nD) (n : DmaSem sig) : BI.Storable (upEmb : UEmb _ 𝕄) (pay own snd c n) := by
  unfold pay; split <;> infer_instance
instance barPay_storable (c : Dev nD) (d : Fin 4) : BI.Storable (upEmb : UEmb _ 𝕄) (barPay (F := F) c d) := by
  unfold barPay barX barG; split <;> infer_instance

/-- The number of rounds of a semaphore. -/
def roundsOf (n : DmaSem sig) : ℕ := match role n with | .st => 0 | .xs _ => 2 | _ => 1

def Rd : Rounds.Schedule (GSem nD τ sig) (Fin 4) 𝕄 where
  duties g r := match g.2 with
    | .reg _ => if r = 0 then Finset.univ else ∅
    | .dma n => if r < roundsOf n then {0} else ∅
  unitless _ := False
  amount g _ _ := match g.2 with | .reg _ => 1 | .dma _ => NB
  payload g _ d := match g.2 with | .reg _ => barPay g.1.1 d | .dma n => pay own snd g.1.1 n
  amount_pos g _ _ _ := by rcases g with ⟨t, _ | _⟩ <;> first | exact Nat.one_pos | exact NB_pos

instance Rd_storable (g : GSem nD τ sig) (r : ℕ) (d : Fin 4) : BI.Storable (upEmb : UEmb _ 𝕄) ((Rd own snd).payload g r d) := by
  rcases g with ⟨t, s | n⟩
  · exact barPay_storable t.1 d
  · exact pay_storable own snd t.1 n

theorem duties_dma (c : Dev nD) (n : DmaSem sig) (r : ℕ) (h : r < roundsOf n) : (Rd own snd).duties (dc c n) r = {0} := if_pos h
theorem duties_done (c : Dev nD) (n : DmaSem sig) (R : ℕ) (h : roundsOf n ≤ R) : ∀ r, R ≤ r → (Rd own snd).duties (dc c n) r = ∅ :=
  fun r hr => if_neg (by omega)
theorem duties_bar (c : Dev nD) : (Rd own snd).duties (bar c) 0 = Finset.univ :=
  (if_pos rfl : (if (0 : ℕ) = 0 then (Finset.univ : Finset (Fin 4)) else ∅) = _)
theorem duties_bar_done (c : Dev nD) : ∀ r, 1 ≤ r → (Rd own snd).duties (bar c) r = ∅ := fun r hr => if_neg (by omega)
theorem expect_dma (c : Dev nD) (n : DmaSem sig) (r : ℕ) (h : r < roundsOf n) : (Rd own snd).expect (dc c n) r = NB := by
  unfold Schedule.expect Schedule.amountOf; rw [duties_dma own snd c n r h, Finset.sum_singleton]; rfl
theorem expect_bar (c : Dev nD) : (Rd own snd).expect (bar c) 0 = 4 := by
  unfold Schedule.expect Schedule.amountOf; rw [duties_bar]; rfl
theorem rest_dma (c : Dev nD) (n : DmaSem sig) (r : ℕ) (h : r < roundsOf n) :
    bigSep ((Rd own snd).duties (dc c n) r \ ∅) (fun d => (Rd own snd).payload (dc c n) r d) = pay own snd c n := by
  rw [Finset.sdiff_empty, duties_dma own snd c n r h, bigSep_singleton]; rfl

theorem rounds_xs (s : Fin 4) : roundsOf (sXS s) = 2 := by unfold roundsOf; rw [role_xs]
theorem rounds_xr (k : Fin 8) : roundsOf (sXR k) = 1 := by unfold roundsOf; rw [role_xr]
theorem rounds_gs (g : Fin 3) (k : Fin 8) : roundsOf (sGS g k) = 1 := by unfold roundsOf; rw [role_gs]
theorem rounds_gr (g : Fin 3) (k : Fin 8) : roundsOf (sGR g k) = 1 := by unfold roundsOf; rw [role_gr]

theorem pay_xs (c : Dev nD) (s : Fin 4) : pay own snd c (sXS s) = iprop(∃ f, ptS c s.val f) := by unfold pay; rw [role_xs]
theorem pay_xr (c : Dev nD) (k : Fin 8) : pay own snd c (sXR k) = ptR c k.val (ofSlots8 (snd (xp c))) := by unfold pay; rw [role_xr]
theorem pay_gs (c : Dev nD) (g : Fin 3) (k : Fin 8) : pay own snd c (sGS g k) = ptO c (qd c * 8 + k.val) (sh g) (outF own snd c) := by
  unfold pay; rw [role_gs]
theorem pay_gr (c : Dev nD) (g : Fin 3) (k : Fin 8) :
    pay own snd c (sGR g k) = ptO c (qd (gp g c) * 8 + k.val) fullShare (outF own snd c) := by
  unfold pay; rw [role_gr]

/-! ## What is owed, and the levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Staging and send semaphores lowest, then the barrier, then the receive slots in order, then the chunks in order. -/
def lvn (n : DmaSem sig) : ℕ := match role n with | .xr k => 2 + k.val | .gr _ k => 100 + k.val | _ => 0
def lv (g : GSem nD τ sig) (_ : Unit) : ℕ := match g.2 with | .reg _ => 1 | .dma n => lvn n

/-- Owing the credits of the copies `S` on the neighbours' receive semaphores. -/
def oweOn (c : Dev nD) (S : Finset (DmaSem sig)) : CellTallies nD τ sig Unit := ∑ n ∈ S, tallyAt (dc (tgt n c) n) () NB

instance : Fintype (DmaSem sig) := inferInstanceAs (Fintype (Fin 64))
instance : DecidableEq (DmaSem sig) := inferInstanceAs (DecidableEq (Fin 64))

/-- The receive semaphores not yet paid once `a` chunks are sent across `x` and `b` finished ones to the others. -/
def isRem (a b : ℕ) (n : DmaSem sig) : Bool :=
  match role n with | .xr k => decide (a ≤ k.val) | .gr _ k => decide (b ≤ k.val) | _ => false
def rem (a b : ℕ) : Finset (DmaSem sig) := Finset.univ.filter fun n => isRem a b n = true

theorem oweOn_erase (c : Dev nD) (S : Finset (DmaSem sig)) (n : DmaSem sig) (h : n ∈ S) :
    oweOn c S = oweOn c (S.erase n) + tallyAt (dc (tgt n c) n) () NB := (Finset.sum_erase_add S _ h).symm

theorem oweOn_pos (c : Dev nD) (S : Finset (DmaSem sig)) (g : GSem nD τ sig) (u : Unit) (h : 0 < oweOn c S g u) :
    ∃ n ∈ S, g = dc (tgt n c) n := by
  unfold oweOn at h
  rw [Finset.sum_apply, Finsupp.finsetSum_apply] at h
  obtain ⟨n, hn, hp⟩ := Finset.exists_ne_zero_of_sum_ne_zero (Nat.pos_iff_ne_zero.mp h)
  rw [tallyAt_apply] at hp
  exact ⟨n, hn, by by_contra hc; exact hp (if_neg fun h => hc h.1)⟩

omit [FloatOps F] in
/-- A wait is allowed when everything owed lies above it. -/
theorem mayWait_on (c : Dev nD) (s : SemLoc sig) (S : Finset (DmaSem sig)) (l : ℕ) (hl : lv ((c : Thread nD τ), s) () ≤ l) (h : ∀ n ∈ S, l < lvn n) :
    (levAts L lv : sProp 𝕄) ⊢ MayWait (c : Thread nD τ) s () (oweOn c S) :=
  MayOwe.of_cut (L := L) (lev := lv) l (fun p hp => by rw [Finset.mem_singleton.mp hp, L_tc]; exact Finset.mem_singleton_self _)
    (fun g u hg => by
      obtain ⟨n, hn, rfl⟩ := oweOn_pos c S g u hg
      rw [L_tc]; exact Finset.mem_singleton_self _)
    (fun p hp => by rw [Finset.mem_singleton.mp hp]; exact hl)
    (fun g u hg => by
      obtain ⟨n, hn, rfl⟩ := oweOn_pos c S g u hg
      exact h n hn)

/-- Owed at launch: the four barrier units and every receive credit. -/
def O₀ (c : Dev nD) : CellTallies nD τ sig Unit :=
  oweOn c (rem 0 0) + tallyAt (bar (gp 2 c)) () 1 + tallyAt (bar (gp 1 c)) () 1 + tallyAt (bar (gp 0 c)) () 1 + tallyAt (bar (xp c)) () 1

omit [FloatOps F] in
/-- Before the barrier a device may wait for the copies into its own staging buffers. -/
theorem mayWait_O₀ (c : Dev nD) (s : DmaSem sig) (hl : lvn s = 0) :
    (levAts L lv : sProp 𝕄) ⊢ MayWait (c : Thread nD τ) (.dma s) () (O₀ c) := by
  have key : ∀ (g : GSem nD τ sig) (u : Unit), 0 < O₀ c g u → (∃ d : Dev nD, g = bar d) ∨ ∃ n ∈ rem 0 0, g = dc (tgt n c) n := by
    intro g u h
    unfold O₀ at h
    simp only [Pi.add_apply, Finsupp.add_apply, tallyAt_apply] at h
    by_cases h0 : 0 < oweOn c (rem 0 0) g u
    · exact Or.inr (oweOn_pos c _ g u h0)
    · left
      by_contra hc
      have hc' : ∀ d : Dev nD, ¬ g = bar d := fun d hd => hc ⟨d, hd⟩
      simp only [hc', false_and, if_false] at h
      omega
  have hpos : ∀ n ∈ rem 0 0, 0 < lvn n := by decide
  exact MayOwe.of_cut (L := L) (lev := lv) 0 (fun p hp => by rw [Finset.mem_singleton.mp hp, L_tc]; exact Finset.mem_singleton_self _)
    (fun g u hg => by
      rcases key g u hg with ⟨d, rfl⟩ | ⟨n, hn, rfl⟩ <;> (rw [L_tc]; exact Finset.mem_singleton_self _))
    (fun p hp => by rw [Finset.mem_singleton.mp hp]; exact hl.le)
    (fun g u hg => by
      rcases key g u hg with ⟨d, rfl⟩ | ⟨n, hn, rfl⟩
      · exact Nat.one_pos
      · exact hpos n hn)

theorem rem_above (a b k : ℕ) (ha : k < a) (hb : a ≤ 8) (hb' : b ≤ 8): ∀ n ∈ rem a b, 2 + k < lvn n := by
  intro n hn
  have h := (Finset.mem_filter.mp hn).2
  unfold isRem at h; unfold lvn
  cases hr : role n <;> rw [hr] at h <;> simp at h ⊢ <;> omega
theorem rem_above0 (a b : ℕ) : ∀ n ∈ rem a b, 1 < lvn n := by
  intro n hn
  have h := (Finset.mem_filter.mp hn).2
  unfold isRem at h; unfold lvn
  cases hr : role n <;> rw [hr] at h <;> simp at h ⊢ <;> omega
theorem mem_rem (a b : ℕ) (n : DmaSem sig) : n ∈ rem a b ↔ isRem a b n = true :=
  Finset.mem_filter.trans ⟨fun h => h.2, fun h => ⟨Finset.mem_univ _, h⟩⟩
theorem role_eq_xr : ∀ (n : DmaSem sig) (k : Fin 8), role n = .xr k ↔ n = sXR k := by decide
theorem role_eq_gr : ∀ (n : DmaSem sig) (g : Fin 3) (k : Fin 8), role n = .gr g k ↔ n = sGR g k := by decide
theorem sGR_inj : ∀ (g g' : Fin 3) (k k' : Fin 8), sGR g k = sGR g' k' ↔ g = g' ∧ k = k' := by decide
theorem rem_x (a b : ℕ) (h : a < 8) : sXR ⟨a, h⟩ ∈ rem a b ∧ (rem a b).erase (sXR ⟨a, h⟩) = rem (a + 1) b := by
  refine ⟨(mem_rem _ _ _).mpr (by unfold isRem; rw [role_xr]; simp), ?_⟩
  ext n
  rw [Finset.mem_erase, mem_rem, mem_rem, Ne, ← role_eq_xr]
  unfold isRem
  cases hr : role n <;> simp [Fin.ext_iff]
  omega
theorem rem_g (a b : ℕ) (h : b < 8) : sGR 0 ⟨b, h⟩ ∈ rem a b ∧ sGR 1 ⟨b, h⟩ ∈ (rem a b).erase (sGR 0 ⟨b, h⟩)
    ∧ sGR 2 ⟨b, h⟩ ∈ ((rem a b).erase (sGR 0 ⟨b, h⟩)).erase (sGR 1 ⟨b, h⟩)
    ∧ (((rem a b).erase (sGR 0 ⟨b, h⟩)).erase (sGR 1 ⟨b, h⟩)).erase (sGR 2 ⟨b, h⟩) = rem a (b + 1) := by
  have hm : ∀ g, sGR g ⟨b, h⟩ ∈ rem a b := fun g => (mem_rem _ _ _).mpr (by unfold isRem; rw [role_gr]; simp)
  have ne : ∀ g g' : Fin 3, g ≠ g' → sGR g ⟨b, h⟩ ≠ sGR g' ⟨b, h⟩ := fun g g' hg he => hg ((sGR_inj _ _ _ _).mp he).1
  refine ⟨hm 0, Finset.mem_erase.mpr ⟨ne _ _ (by decide), hm 1⟩,
    Finset.mem_erase.mpr ⟨ne _ _ (by decide), Finset.mem_erase.mpr ⟨ne _ _ (by decide), hm 2⟩⟩, ?_⟩
  ext n
  rw [Finset.mem_erase, Finset.mem_erase, Finset.mem_erase, mem_rem, mem_rem, Ne, Ne, Ne, ← role_eq_gr, ← role_eq_gr, ← role_eq_gr]
  unfold isRem
  cases hr : role n with
  | gr g k =>
    have hg : g.val = 0 ∨ g.val = 1 ∨ g.val = 2 := by omega
    simp only [Role.gr.injEq, Fin.ext_iff, decide_eq_true_eq, Fin.val_zero, Fin.val_one, Fin.val_two]
    omega
  | _ => simp

end Cert.KernelIdeal.Work
-- ==== Proof.Steps.lean ====
/-
  One step of the kernel's body at a time: a store of a chunk, the copy of a send slot across `x`, the copy of a
  finished chunk to one of the three others, and a wait.
-/
module

public import proofs.«01_k».proof.Proof.Proto

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

omit [FloatOps F] in
theorem ent_of_eq {P P' : sProp 𝕄} (h : P = P') : P ⊢ P' := h ▸ .rfl

/-! ## The records every device holds -/

/-- Every cell's record, and round 0 of every barrier cell reached. -/
def Recs : sProp 𝕄 :=
  iprop((bigSep Finset.univ fun c : Dev nD => bigSep Finset.univ fun n : DmaSem sig => cellInv EB (Rd own snd) (κ (dc c n)) (dc c n))
    ∗ (bigSep Finset.univ fun c : Dev nD => iprop(cellInv EB (Rd own snd) (κ (bar c)) (bar c) ∗ reached EB (bar c) 0)))

instance Recs_persistent : BI.Persistent (Recs own snd κ : sProp 𝕄) := by unfold Recs; infer_instance

theorem Recs_dc (c : Dev nD) (n : DmaSem sig) : (Recs own snd κ : sProp 𝕄) ⊢ cellInv EB (Rd own snd) (κ (dc c n)) (dc c n) :=
  sep_elim_left.trans ((bigSep_elim (Finset.mem_univ c)).trans (bigSep_elim (Finset.mem_univ n)))
theorem Recs_bar (c : Dev nD) : (Recs own snd κ : sProp 𝕄) ⊢ iprop(cellInv EB (Rd own snd) (κ (bar c)) (bar c) ∗ reached EB (bar c) 0) :=
  sep_elim_right.trans (bigSep_elim (Finset.mem_univ c))

/-- A device at round `r` of one of its semaphores. -/
abbrev At (c : Dev nD) (n : DmaSem sig) (r : ℕ) : sProp 𝕄 := iprop(atPos EB (dc c n) r ∅ 0 ∗ reached EB (dc c n) r)
/-- The right to pay round `r` of the semaphore `n` of the device that credits of `c` under that name go to. -/
abbrev Tk (c : Dev nD) (n : DmaSem sig) (r : ℕ) : sProp 𝕄 := dutyTok EB (dc (tgt n c) n) r (0 : Fin 4)
/-- The credit of one copy on a semaphore. -/
abbrev Cr (c : Dev nD) (n : DmaSem sig) : sProp 𝕄 := cred (tallyAt (dc c n) () NB)

/-! ## The semaphores by the printed names -/

theorem sem_xs {off : Fin 1 → ℕ} (k : Fin 4) (h : off = ![k.val]) (inb : ∀ a, off a + S1.size a ≤ S4.size a) :
    ((cc0_scratch2.slice (Rect.unit (s := S4) off S1.size inb)).squeeze S_ squeezes_S1_S_).sem = sXS k := by
  subst h
  match k, inb with
  | 0, _ => exact (rfl : ((cc0_scratch2.slice (Rect.unit (s := S4) ![0] S1.size inb_S4_S1_0)).squeeze S_ squeezes_S1_S_).sem = sXS 0)
  | 1, _ => exact (rfl : ((cc0_scratch2.slice (Rect.unit (s := S4) ![1] S1.size inb_S4_S1_1)).squeeze S_ squeezes_S1_S_).sem = sXS 1)
  | 2, _ => exact (rfl : ((cc0_scratch2.slice (Rect.unit (s := S4) ![2] S1.size inb_S4_S1_2)).squeeze S_ squeezes_S1_S_).sem = sXS 2)
  | 3, _ => exact (rfl : ((cc0_scratch2.slice (Rect.unit (s := S4) ![3] S1.size inb_S4_S1_3)).squeeze S_ squeezes_S1_S_).sem = sXS 3)
theorem sem_xr {off : Fin 1 → ℕ} (k : Fin 8) (h : off = ![k.val]) (inb : ∀ a, off a + S1.size a ≤ S8.size a) :
    ((cc0_scratch3.slice (Rect.unit (s := S8) off S1.size inb)).squeeze S_ squeezes_S1_S_).sem = sXR k := by
  subst h
  match k, inb with
  | 0, _ => exact (rfl : ((cc0_scratch3.slice (Rect.unit (s := S8) ![0] S1.size inb_S8_S1_0)).squeeze S_ squeezes_S1_S_).sem = sXR 0)
  | 1, _ => exact (rfl : ((cc0_scratch3.slice (Rect.unit (s := S8) ![1] S1.size inb_S8_S1_1)).squeeze S_ squeezes_S1_S_).sem = sXR 1)
  | 2, _ => exact (rfl : ((cc0_scratch3.slice (Rect.unit (s := S8) ![2] S1.size inb_S8_S1_2)).squeeze S_ squeezes_S1_S_).sem = sXR 2)
  | 3, _ => exact (rfl : ((cc0_scratch3.slice (Rect.unit (s := S8) ![3] S1.size inb_S8_S1_3)).squeeze S_ squeezes_S1_S_).sem = sXR 3)
  | 4, _ => exact (rfl : ((cc0_scratch3.slice (Rect.unit (s := S8) ![4] S1.size inb_S8_S1_4)).squeeze S_ squeezes_S1_S_).sem = sXR 4)
  | 5, _ => exact (rfl : ((cc0_scratch3.slice (Rect.unit (s := S8) ![5] S1.size inb_S8_S1_5)).squeeze S_ squeezes_S1_S_).sem = sXR 5)
  | 6, _ => exact (rfl : ((cc0_scratch3.slice (Rect.unit (s := S8) ![6] S1.size inb_S8_S1_6)).squeeze S_ squeezes_S1_S_).sem = sXR 6)
  | 7, _ => exact (rfl : ((cc0_scratch3.slice (Rect.unit (s := S8) ![7] S1.size inb_S8_S1_7)).squeeze S_ squeezes_S1_S_).sem = sXR 7)
theorem sem_gs0 {off : Fin 1 → ℕ} (k : Fin 8) (h : off = ![k.val]) (inb : ∀ a, off a + S1.size a ≤ S8.size a) :
    ((cc0_scratch4.slice (Rect.unit (s := S8) off S1.size inb)).squeeze S_ squeezes_S1_S_).sem = sGS 0 k := by
  subst h
  match k, inb with
  | 0, _ => exact (rfl : ((cc0_scratch4.slice (Rect.unit (s := S8) ![0] S1.size inb_S8_S1_0)).squeeze S_ squeezes_S1_S_).sem = sGS 0 0)
  | 1, _ => exact (rfl : ((cc0_scratch4.slice (Rect.unit (s := S8) ![1] S1.size inb_S8_S1_1)).squeeze S_ squeezes_S1_S_).sem = sGS 0 1)
  | 2, _ => exact (rfl : ((cc0_scratch4.slice (Rect.unit (s := S8) ![2] S1.size inb_S8_S1_2)).squeeze S_ squeezes_S1_S_).sem = sGS 0 2)
  | 3, _ => exact (rfl : ((cc0_scratch4.slice (Rect.unit (s := S8) ![3] S1.size inb_S8_S1_3)).squeeze S_ squeezes_S1_S_).sem = sGS 0 3)
  | 4, _ => exact (rfl : ((cc0_scratch4.slice (Rect.unit (s := S8) ![4] S1.size inb_S8_S1_4)).squeeze S_ squeezes_S1_S_).sem = sGS 0 4)
  | 5, _ => exact (rfl : ((cc0_scratch4.slice (Rect.unit (s := S8) ![5] S1.size inb_S8_S1_5)).squeeze S_ squeezes_S1_S_).sem = sGS 0 5)
  | 6, _ => exact (rfl : ((cc0_scratch4.slice (Rect.unit (s := S8) ![6] S1.size inb_S8_S1_6)).squeeze S_ squeezes_S1_S_).sem = sGS 0 6)
  | 7, _ => exact (rfl : ((cc0_scratch4.slice (Rect.unit (s := S8) ![7] S1.size inb_S8_S1_7)).squeeze S_ squeezes_S1_S_).sem = sGS 0 7)
theorem sem_gr0 {off : Fin 1 → ℕ} (k : Fin 8) (h : off = ![k.val]) (inb : ∀ a, off a + S1.size a ≤ S8.size a) :
    ((cc0_scratch5.slice (Rect.unit (s := S8) off S1.size inb)).squeeze S_ squeezes_S1_S_).sem = sGR 0 k := by
  subst h
  match k, inb with
  | 0, _ => exact (rfl : ((cc0_scratch5.slice (Rect.unit (s := S8) ![0] S1.size inb_S8_S1_0)).squeeze S_ squeezes_S1_S_).sem = sGR 0 0)
  | 1, _ => exact (rfl : ((cc0_scratch5.slice (Rect.unit (s := S8) ![1] S1.size inb_S8_S1_1)).squeeze S_ squeezes_S1_S_).sem = sGR 0 1)
  | 2, _ => exact (rfl : ((cc0_scratch5.slice (Rect.unit (s := S8) ![2] S1.size inb_S8_S1_2)).squeeze S_ squeezes_S1_S_).sem = sGR 0 2)
  | 3, _ => exact (rfl : ((cc0_scratch5.slice (Rect.unit (s := S8) ![3] S1.size inb_S8_S1_3)).squeeze S_ squeezes_S1_S_).sem = sGR 0 3)
  | 4, _ => exact (rfl : ((cc0_scratch5.slice (Rect.unit (s := S8) ![4] S1.size inb_S8_S1_4)).squeeze S_ squeezes_S1_S_).sem = sGR 0 4)
  | 5, _ => exact (rfl : ((cc0_scratch5.slice (Rect.unit (s := S8) ![5] S1.size inb_S8_S1_5)).squeeze S_ squeezes_S1_S_).sem = sGR 0 5)
  | 6, _ => exact (rfl : ((cc0_scratch5.slice (Rect.unit (s := S8) ![6] S1.size inb_S8_S1_6)).squeeze S_ squeezes_S1_S_).sem = sGR 0 6)
  | 7, _ => exact (rfl : ((cc0_scratch5.slice (Rect.unit (s := S8) ![7] S1.size inb_S8_S1_7)).squeeze S_ squeezes_S1_S_).sem = sGR 0 7)
theorem sem_gs1 {off : Fin 1 → ℕ} (k : Fin 8) (h : off = ![k.val]) (inb : ∀ a, off a + S1.size a ≤ S8.size a) :
    ((cc0_scratch6.slice (Rect.unit (s := S8) off S1.size inb)).squeeze S_ squeezes_S1_S_).sem = sGS 1 k := by
  subst h
  match k, inb with
  | 0, _ => exact (rfl : ((cc0_scratch6.slice (Rect.unit (s := S8) ![0] S1.size inb_S8_S1_0)).squeeze S_ squeezes_S1_S_).sem = sGS 1 0)
  | 1, _ => exact (rfl : ((cc0_scratch6.slice (Rect.unit (s := S8) ![1] S1.size inb_S8_S1_1)).squeeze S_ squeezes_S1_S_).sem = sGS 1 1)
  | 2, _ => exact (rfl : ((cc0_scratch6.slice (Rect.unit (s := S8) ![2] S1.size inb_S8_S1_2)).squeeze S_ squeezes_S1_S_).sem = sGS 1 2)
  | 3, _ => exact (rfl : ((cc0_scratch6.slice (Rect.unit (s := S8) ![3] S1.size inb_S8_S1_3)).squeeze S_ squeezes_S1_S_).sem = sGS 1 3)
  | 4, _ => exact (rfl : ((cc0_scratch6.slice (Rect.unit (s := S8) ![4] S1.size inb_S8_S1_4)).squeeze S_ squeezes_S1_S_).sem = sGS 1 4)
  | 5, _ => exact (rfl : ((cc0_scratch6.slice (Rect.unit (s := S8) ![5] S1.size inb_S8_S1_5)).squeeze S_ squeezes_S1_S_).sem = sGS 1 5)
  | 6, _ => exact (rfl : ((cc0_scratch6.slice (Rect.unit (s := S8) ![6] S1.size inb_S8_S1_6)).squeeze S_ squeezes_S1_S_).sem = sGS 1 6)
  | 7, _ => exact (rfl : ((cc0_scratch6.slice (Rect.unit (s := S8) ![7] S1.size inb_S8_S1_7)).squeeze S_ squeezes_S1_S_).sem = sGS 1 7)
theorem sem_gr1 {off : Fin 1 → ℕ} (k : Fin 8) (h : off = ![k.val]) (inb : ∀ a, off a + S1.size a ≤ S8.size a) :
    ((cc0_scratch7.slice (Rect.unit (s := S8) off S1.size inb)).squeeze S_ squeezes_S1_S_).sem = sGR 1 k := by
  subst h
  match k, inb with
  | 0, _ => exact (rfl : ((cc0_scratch7.slice (Rect.unit (s := S8) ![0] S1.size inb_S8_S1_0)).squeeze S_ squeezes_S1_S_).sem = sGR 1 0)
  | 1, _ => exact (rfl : ((cc0_scratch7.slice (Rect.unit (s := S8) ![1] S1.size inb_S8_S1_1)).squeeze S_ squeezes_S1_S_).sem = sGR 1 1)
  | 2, _ => exact (rfl : ((cc0_scratch7.slice (Rect.unit (s := S8) ![2] S1.size inb_S8_S1_2)).squeeze S_ squeezes_S1_S_).sem = sGR 1 2)
  | 3, _ => exact (rfl : ((cc0_scratch7.slice (Rect.unit (s := S8) ![3] S1.size inb_S8_S1_3)).squeeze S_ squeezes_S1_S_).sem = sGR 1 3)
  | 4, _ => exact (rfl : ((cc0_scratch7.slice (Rect.unit (s := S8) ![4] S1.size inb_S8_S1_4)).squeeze S_ squeezes_S1_S_).sem = sGR 1 4)
  | 5, _ => exact (rfl : ((cc0_scratch7.slice (Rect.unit (s := S8) ![5] S1.size inb_S8_S1_5)).squeeze S_ squeezes_S1_S_).sem = sGR 1 5)
  | 6, _ => exact (rfl : ((cc0_scratch7.slice (Rect.unit (s := S8) ![6] S1.size inb_S8_S1_6)).squeeze S_ squeezes_S1_S_).sem = sGR 1 6)
  | 7, _ => exact (rfl : ((cc0_scratch7.slice (Rect.unit (s := S8) ![7] S1.size inb_S8_S1_7)).squeeze S_ squeezes_S1_S_).sem = sGR 1 7)
theorem sem_gs2 {off : Fin 1 → ℕ} (k : Fin 8) (h : off = ![k.val]) (inb : ∀ a, off a + S1.size a ≤ S8.size a) :
    ((cc0_scratch8.slice (Rect.unit (s := S8) off S1.size inb)).squeeze S_ squeezes_S1_S_).sem = sGS 2 k := by
  subst h
  match k, inb with
  | 0, _ => exact (rfl : ((cc0_scratch8.slice (Rect.unit (s := S8) ![0] S1.size inb_S8_S1_0)).squeeze S_ squeezes_S1_S_).sem = sGS 2 0)
  | 1, _ => exact (rfl : ((cc0_scratch8.slice (Rect.unit (s := S8) ![1] S1.size inb_S8_S1_1)).squeeze S_ squeezes_S1_S_).sem = sGS 2 1)
  | 2, _ => exact (rfl : ((cc0_scratch8.slice (Rect.unit (s := S8) ![2] S1.size inb_S8_S1_2)).squeeze S_ squeezes_S1_S_).sem = sGS 2 2)
  | 3, _ => exact (rfl : ((cc0_scratch8.slice (Rect.unit (s := S8) ![3] S1.size inb_S8_S1_3)).squeeze S_ squeezes_S1_S_).sem = sGS 2 3)
  | 4, _ => exact (rfl : ((cc0_scratch8.slice (Rect.unit (s := S8) ![4] S1.size inb_S8_S1_4)).squeeze S_ squeezes_S1_S_).sem = sGS 2 4)
  | 5, _ => exact (rfl : ((cc0_scratch8.slice (Rect.unit (s := S8) ![5] S1.size inb_S8_S1_5)).squeeze S_ squeezes_S1_S_).sem = sGS 2 5)
  | 6, _ => exact (rfl : ((cc0_scratch8.slice (Rect.unit (s := S8) ![6] S1.size inb_S8_S1_6)).squeeze S_ squeezes_S1_S_).sem = sGS 2 6)
  | 7, _ => exact (rfl : ((cc0_scratch8.slice (Rect.unit (s := S8) ![7] S1.size inb_S8_S1_7)).squeeze S_ squeezes_S1_S_).sem = sGS 2 7)
theorem sem_gr2 {off : Fin 1 → ℕ} (k : Fin 8) (h : off = ![k.val]) (inb : ∀ a, off a + S1.size a ≤ S8.size a) :
    ((cc0_scratch9.slice (Rect.unit (s := S8) off S1.size inb)).squeeze S_ squeezes_S1_S_).sem = sGR 2 k := by
  subst h
  match k, inb with
  | 0, _ => exact (rfl : ((cc0_scratch9.slice (Rect.unit (s := S8) ![0] S1.size inb_S8_S1_0)).squeeze S_ squeezes_S1_S_).sem = sGR 2 0)
  | 1, _ => exact (rfl : ((cc0_scratch9.slice (Rect.unit (s := S8) ![1] S1.size inb_S8_S1_1)).squeeze S_ squeezes_S1_S_).sem = sGR 2 1)
  | 2, _ => exact (rfl : ((cc0_scratch9.slice (Rect.unit (s := S8) ![2] S1.size inb_S8_S1_2)).squeeze S_ squeezes_S1_S_).sem = sGR 2 2)
  | 3, _ => exact (rfl : ((cc0_scratch9.slice (Rect.unit (s := S8) ![3] S1.size inb_S8_S1_3)).squeeze S_ squeezes_S1_S_).sem = sGR 2 3)
  | 4, _ => exact (rfl : ((cc0_scratch9.slice (Rect.unit (s := S8) ![4] S1.size inb_S8_S1_4)).squeeze S_ squeezes_S1_S_).sem = sGR 2 4)
  | 5, _ => exact (rfl : ((cc0_scratch9.slice (Rect.unit (s := S8) ![5] S1.size inb_S8_S1_5)).squeeze S_ squeezes_S1_S_).sem = sGR 2 5)
  | 6, _ => exact (rfl : ((cc0_scratch9.slice (Rect.unit (s := S8) ![6] S1.size inb_S8_S1_6)).squeeze S_ squeezes_S1_S_).sem = sGR 2 6)
  | 7, _ => exact (rfl : ((cc0_scratch9.slice (Rect.unit (s := S8) ![7] S1.size inb_S8_S1_7)).squeeze S_ squeezes_S1_S_).sem = sGR 2 7)

theorem payload_dma (c : Dev nD) (n : DmaSem sig) (r : ℕ) (d : Fin 4) : (Rd own snd).payload (dc c n) r d = pay own snd c n := rfl

section
variable {α : Type}

/-! ## The two copies -/

/-- The copy of a send slot holding chunk `a` to the device across `x`. -/
theorem wp_xsend (c n : Dev nD) (a b : ℕ) (ha : a < 8) (s : Fin 4) (r : ℕ) (hr : r < 2) (hn : n = xp c) {s₁ s₂ : DmaSem sig} (h₁ : s₁ = sXS s) (h₂ : s₂ = sXR ⟨a, ha⟩)
    {o o' : Fin 3 → ℕ} (ho : o = ![s.val, 0, 0]) (ho' : o' = ![a, 0, 0]) {inb inb'}
    {hsc : (rv o' inb').view.ref.isScScratch = false} {hsrc : (sv o inb).view.WordExact} {hdst : (rv o' inb').view.WordExact}
    {hsem : DmaTarget.Typed .vmem (.dma s₂) (.remote (Dev.tc n : Thread nD τ) (rv o' inb') (.dma s₁) hsc)} (W : Waits sig Unit)
    (k : PUnit → Prog (TpuEff nD τ sig (Elt F) Λ₀ .tc) α) (Q : α → sProp 𝕄) :
    iprop(Recs own snd κ ∗ ptS c s.val (ofSlots4 fun _ => snd c a) ∗ barX c ⟨a, ha⟩ ∗ owes (c : Thread nD τ) (oweOn c (rem a b)) W
        ∗ Tk c (sXS s) r ∗ reached EB (dc c (sXS s)) r ∗ Tk c (sXR ⟨a, ha⟩) 0)
      ⊢ iprop(((Cr c (sXS s) ∗ owes (c : Thread nD τ) (oweOn c (rem (a + 1) b)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sv o inb) (.remote (Dev.tc n : Thread nD τ) (rv o' inb') (.dma s₁) hsc) (.dma s₂) hsrc hdst hsem) k) Q) := by
  subst hn h₁ h₂
  unfold barX Tk
  have hts : tgt (sXS s) c = c := by unfold tgt; rw [role_xs]
  rw [tgt_xr, hts]
  iintro ⟨#HR, Hs, ⟨⟨%fd, Hd⟩, #Hrd⟩, HO, Hts, #Hrs, Htd⟩
  have hX := Rounds.wp_send_pointsTo (Q := Q) (k := k) (defs := defs₀ (F := F)) 𝒱₀ EB (Rd own snd) (c : Thread nD τ) none (κ₁ := κ (dc c (sXS s))) (κ₂ := κ (dc (xp c) (sXR ⟨a, ha⟩)))
    (c' := ((xp c : Dev nD) : Thread nD τ)) (sS := .dma (sXS s)) (sem := .dma (sXR ⟨a, ha⟩)) (src := sv o inb) (dst := rv o' inb') (hsc := hsc) (hsrc := hsrc) (hdst := hdst) (hsem := hsem) (Γ := .empty) (Es := Set.univ) (q := fullShare) (fs := ofSlots4 fun _ => snd c a)
    (r₁ := r) (r₂ := 0) (d₁ := 0) (d₂ := 0) (fd := fd)
    (by rw [duties_dma own snd c _ r (by rw [rounds_xs]; exact hr)]; exact Finset.mem_singleton_self _)
    (by rw [duties_dma own snd _ _ 0 (by rw [rounds_xr]; exact Nat.one_pos)]; exact Finset.mem_singleton_self _)
    () () NB rfl rfl rfl (O₀ := oweOn c (rem a b)) (oweOn c (rem (a + 1) b)) (by rw [← (rem_x a b ha).2, ← tgt_xr ⟨a, ha⟩ c]; exact oweOn_erase c _ _ (rem_x a b ha).1) (W := W)
    (by
      rw [show (Rd own snd).payload (dc c (sXS s)) r 0 = pay own snd c (sXS s) from rfl, pay_xs, sv_set ho]
      exact exists_intro (Φ := fun f => ptS (F := F) c s.val f) _)
    (by
      rw [show (Rd own snd).payload (dc (xp c) (sXR ⟨a, ha⟩)) 0 0 = pay own snd (xp c) (sXR ⟨a, ha⟩) from rfl, pay_xr, xp_xp,
        sv_read ho]
      refine (ent_of_eq (pointsTo_congr (rv_write ho' inb' (snd c) fd))).trans ?_
      rw [rv_set ho'])
  rw [sv_set ho, rv_set ho'] at hX
  iapply hX $$ [Hs Hd HO Hts Htd]
  · isplitr; · iapply (Recs_dc own snd κ c (sXS s)) $$ HR
    isplitr; · iapply (Recs_dc own snd κ (xp c) (sXR ⟨a, ha⟩)) $$ HR
    isplitl [Hs]; · iexact Hs
    isplitl [Hd]; · iexact Hd
    isplitl [HO]; · iexact HO
    isplitl [Hts]; · iexact Hts
    isplitr; · iexact Hrs
    isplitl [Htd]; · iexact Htd
    iexact Hrd

/-- The copy of the device's finished chunk `b` to its neighbour `g`. -/
theorem wp_gsend (c n : Dev nD) (g : Fin 3) (b : Fin 8) (hn : n = gp g c) {s₁ s₂ : DmaSem sig} (h₁ : s₁ = sGS g b) (h₂ : s₂ = sGR g b)
    (S : Finset (DmaSem sig)) (hS : sGR g b ∈ S)
    {o : Fin 3 → ℕ} (ho : o = ![0, 0, (qd c * 8 + b.val) * 256]) {inb}
    {hsc : (ov o inb).view.ref.isScScratch = false} {hsrc : (ov o inb).view.WordExact} {hdst : (ov o inb).view.WordExact}
    {hsem : DmaTarget.Typed .vmem (.dma s₂) (.remote (Dev.tc n : Thread nD τ) (ov o inb) (.dma s₁) hsc)} (W : Waits sig Unit)
    (k : PUnit → Prog (TpuEff nD τ sig (Elt F) Λ₀ .tc) α) (Q : α → sProp 𝕄) :
    iprop(Recs own snd κ ∗ ptO c (qd c * 8 + b.val) (sh g) (outF own snd c) ∗ barG c g b ∗ owes (c : Thread nD τ) (oweOn c S) W
        ∗ Tk c (sGS g b) 0 ∗ reached EB (dc c (sGS g b)) 0 ∗ Tk c (sGR g b) 0)
      ⊢ iprop(((Cr c (sGS g b) ∗ owes (c : Thread nD τ) (oweOn c (S.erase (sGR g b))) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ov o inb) (.remote (Dev.tc n : Thread nD τ) (ov o inb) (.dma s₁) hsc) (.dma s₂) hsrc hdst hsem) k) Q) := by
  subst hn h₁ h₂
  unfold barG Tk
  have hts : tgt (sGS g b) c = c := by unfold tgt; rw [role_gs]
  rw [tgt_gr, hts]
  iintro ⟨#HR, Hs, ⟨⟨%fd, Hd⟩, #Hrd⟩, HO, Hts, #Hrs, Htd⟩
  have p1 : ((ov o inb).view.loc (c : Thread nD τ) ↦[(ov o inb).view.set]{sh g} outF own snd c) ⊢ (Rd own snd).payload (dc c (sGS g b)) 0 0 := by
    rw [payload_dma, pay_gs, ov_set ho]
  have p2 : ((ov o inb).view.loc ((gp g c : Dev nD) : Thread nD τ) ↦[(ov o inb).view.set]{fullShare}
      ((ov o inb).view.write (Elt F) fd ((ov o inb).view.read (Elt F) (outF own snd c)) Finset.univ)) ⊢ (Rd own snd).payload (dc (gp g c) (sGR g b)) 0 0 := by
    rw [payload_dma, pay_gr, gp_gp]
    unfold outF
    rw [ov_read ho, show outG own snd (gp g c) = outG own snd c from funext fun j => outG_gp own snd g c j]
    refine (ent_of_eq (pointsTo_congr (ov_write ho inb (outG own snd c) fd))).trans ?_
    rw [ov_set ho]
  have hO : oweOn c S = oweOn c (S.erase (sGR g b)) + tallyAt (dc (gp g c) (sGR g b)) () NB := by
    rw [← tgt_gr g b c]; exact oweOn_erase c _ _ hS
  have hX := Rounds.wp_send_pointsTo (Q := Q) (k := k) (defs := defs₀ (F := F)) 𝒱₀ EB (Rd own snd) (c : Thread nD τ) none (κ₁ := κ (dc c (sGS g b))) (κ₂ := κ (dc (gp g c) (sGR g b)))
    (c' := ((gp g c : Dev nD) : Thread nD τ)) (sS := .dma (sGS g b)) (sem := .dma (sGR g b)) (src := ov o inb) (dst := ov o inb)
    (hsc := hsc) (hsrc := hsrc) (hdst := hdst) (hsem := hsem) (Γ := .empty) (Es := Set.univ) (q := sh g) (fs := outF own snd c)
    (r₁ := 0) (r₂ := 0) (d₁ := (0 : Fin 4)) (d₂ := (0 : Fin 4)) (fd := fd)
    (by rw [duties_dma own snd c _ 0 (by rw [rounds_gs]; exact Nat.one_pos)]; exact Finset.mem_singleton_self _)
    (by rw [duties_dma own snd _ _ 0 (by rw [rounds_gr]; exact Nat.one_pos)]; exact Finset.mem_singleton_self _)
    () () NB rfl rfl rfl (O₀ := oweOn c S) (oweOn c (S.erase (sGR g b))) hO (W := W) p1 p2
  rw [ov_set ho] at hX
  iapply hX $$ [Hs Hd HO Hts Htd]
  · isplitr; · iapply (Recs_dc own snd κ c (sGS g b)) $$ HR
    isplitr; · iapply (Recs_dc own snd κ (gp g c) (sGR g b)) $$ HR
    isplitl [Hs]; · iexact Hs
    isplitl [Hd]; · iexact Hd
    isplitl [HO]; · iexact HO
    isplitl [Hts]; · iexact Hts
    isplitr; · iexact Hrs
    isplitl [Htd]; · iexact Htd
    iexact Hrd

/-! ## The waits -/

/-- A wait for the one copy of the open round. -/
theorem wp_waitOne (c : Dev nD) (n : DmaSem sig) (r : ℕ) (hr : r < roundsOf n) {s : DmaSem sig} (hs : s = n)
    {sp sp' : Space} {e e' : EltTy} {sh sh' : Shape} {src : Memref sig .tc sp sh e} {dst : Memref sig .tc sp' sh' e'} {hsrc : src.view.WordExact} {hdst : dst.view.WordExact}
    (hN : dst.view.dmaCredit = NB) (S : Finset (DmaSem sig)) (l : ℕ) (hl : lvn n ≤ l) (h : ∀ n' ∈ S, l < lvn n') (W : Waits sig Unit)
    (k : PUnit → Prog (TpuEff nD τ sig (Elt F) Λ₀ .tc) α) (Q : α → sProp 𝕄) :
    iprop(Recs own snd κ ∗ levAts L lv ∗ atPos EB (dc c n) r ∅ 0 ∗ Cr c n ∗ owes (c : Thread nD τ) (oweOn c S) W)
      ⊢ iprop(((At c n (r + 1) ∗ pay own snd c n ∗ owes (c : Thread nD τ) (oweOn c S) (insert (.dma n, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s src dst hsrc hdst) k) Q) := by
  subst hs
  iintro ⟨#HR, #Hlev, Hat, Hc, HO⟩ Hk
  have hX := Rounds.wp_wait_rest_token (Γ := .empty) (Q := Q) (k := k) (defs := defs₀ (F := F)) 𝒱₀ EB (Rd own snd) (c : Thread nD τ) none (κ := κ (dc c s))
    (wpE_waitDma2_eq (sem := s) (src := src) (dst := dst) (hsrc := hsrc) (hdst := hdst) (defs := defs₀ (F := F)) 𝒱₀ (c : Thread nD τ) none Set.univ) (Set.mem_univ _) ()
    (O := oweOn c S) (W := W) (R := r) (m := 0) (T := ∅) (by rw [hN, expect_dma own snd c s r hr, Nat.zero_add])
  rw [rest_dma own snd c s r hr, hN] at hX
  iapply hX $$ [Hat Hc HO]
  · isplitr; · iapply (Recs_dc own snd κ c s) $$ HR
    isplitl [Hc]; · iexact Hc
    isplitl [HO]; · iexact HO
    isplitr; · iapply (mayWait_on c (.dma s) S l hl h) $$ Hlev
    iexact Hat
  iintro ⟨HO, Hat, Hr, Hp⟩
  iapply Hk
  isplitl [Hat Hr]
  · isplitl [Hat]; · iexact Hat
    iexact Hr
  isplitl [Hp]; · iexact Hp
  iexact HO

end

end Cert.KernelIdeal.Work
-- ==== Proof.Blocks.lean ====
/-
  The kernel's body at one grid point, cut into its four blocks, each with what comes after it as an argument.
-/
module

public import proofs.«01_k».proof.Proof.Views

@[expose] public section

noncomputable section

namespace Cert.KernelIdeal.Work

open Cert.KernelIdeal Cert.KernelIdeal.Gen
open Idealize.ShloMosaic Idealize.ShloMosaic.TcCoe
open Idealize.SL.Sem

variable {F : FTy → Type} [FloatOps F]

theorem hO4 : (O4 : Memref sig .tc .vmem S1x1024x8192 .bf16).IsWhole := Memref.isWhole_whole _
theorem hSB : (SB : Memref sig .tc .vmem S4x1024x256 .bf16).IsWhole := Memref.isWhole_whole _
theorem hRX : (RX : Memref sig .tc .vmem S8x1024x256 .bf16).IsWhole := Memref.isWhole_whole _

/-- The barrier at the first point, and then `K`. -/
def blkBar (i : grid0.Coords) (a3 : Memref sig .tc .vmem S4096x256 .bf16) (h3 : a3.IsWhole) (d0 : Dev nD) (v14 : Elt F .i32) (k0_hw1 : k0_chk1 i d0 v14)
    (K : Prog (TpuEff nD τ sig (Elt F) Λ₀ .tc) PUnit) : Prog (TpuEff nD τ sig (Elt F) Λ₀ .tc) PUnit :=
  let arg0 : BitVec 32 := BitVec.ofNat 32 (i 0).val
  let v0 : BitVec 32 := Dev.word d0
  let v1 : BitVec 32 := Scalar.divsi v0 8#32
  let v2 : BitVec 32 := Scalar.remsi v1 2#32
  let v3 : BitVec 32 := Dev.word d0
  let v4 : BitVec 32 := Scalar.divsi v3 4#32
  let v5 : BitVec 32 := Scalar.remsi v4 2#32
  let v6 : BitVec 32 := Dev.word d0
  let v7 : BitVec 32 := Scalar.divsi v6 1#32
  let v8 : BitVec 32 := Scalar.remsi v7 4#32
  let v9 : BitVec 32 := Scalar.xori v8 1#32
  let v10 : BitVec 32 := Scalar.subi 1#32 v2
  let v11 : BitVec 32 := Scalar.subi 1#32 v5
  let v12 : BitVec 32 := Scalar.subi 1#32 v5
  let v13 : BitVec 1 := Scalar.cmpi .eq v2 0#32
  let v15 : BitVec 32 := Scalar.muli v14 256#32
  if k0_h1 : k0_cond1 i = 1#1 then do
    let v28 : Sems sig S_ := SemArray.scalar (sig.barrier 0 rfl)
    semSignalWord (⟨k0_dev1 d0, k0_dev1_lt i d0 k0_h1⟩ : Dev nD) v28.sem 1#32
    semSignalWord (⟨k0_dev2 d0, k0_dev2_lt i d0 k0_h1⟩ : Dev nD) v28.sem 1#32
    semSignalWord (⟨k0_dev3 d0, k0_dev3_lt i d0 k0_h1⟩ : Dev nD) v28.sem 1#32
    semSignalWord (⟨k0_dev4 d0, k0_dev4_lt i d0 k0_h1⟩ : Dev nD) v28.sem 1#32
    semWaitWord v28.sem 4#32
    K
  else K

/-- Points 2 to 9: the half that arrived is added to the device's own and the finished chunk is copied to the three others; and then `K`. -/
def blkGather (i : grid0.Coords) (a3 : Memref sig .tc .vmem S4096x256 .bf16) (h3 : a3.IsWhole) (d0 : Dev nD) (v14 : Elt F .i32) (k0_hw1 : k0_chk1 i d0 v14)
    (K : Prog (TpuEff nD τ sig (Elt F) Λ₀ .tc) PUnit) : Prog (TpuEff nD τ sig (Elt F) Λ₀ .tc) PUnit :=
  let arg0 : BitVec 32 := BitVec.ofNat 32 (i 0).val
  let v0 : BitVec 32 := Dev.word d0
  let v1 : BitVec 32 := Scalar.divsi v0 8#32
  let v2 : BitVec 32 := Scalar.remsi v1 2#32
  let v3 : BitVec 32 := Dev.word d0
  let v4 : BitVec 32 := Scalar.divsi v3 4#32
  let v5 : BitVec 32 := Scalar.remsi v4 2#32
  let v6 : BitVec 32 := Dev.word d0
  let v7 : BitVec 32 := Scalar.divsi v6 1#32
  let v8 : BitVec 32 := Scalar.remsi v7 4#32
  let v9 : BitVec 32 := Scalar.xori v8 1#32
  let v10 : BitVec 32 := Scalar.subi 1#32 v2
  let v11 : BitVec 32 := Scalar.subi 1#32 v5
  let v12 : BitVec 32 := Scalar.subi 1#32 v5
  let v13 : BitVec 1 := Scalar.cmpi .eq v2 0#32
  let v15 : BitVec 32 := Scalar.muli v14 256#32
  if k0_h2 : k0_cond2 i = 1#1 then do
    k0_part1 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 arg0 d0 v2 v5 v8 v10 v11 v14 k0_hw1 v15 k0_h2
    let v62 : DmaSems sig S1 := cc0_scratch5.slice (Rect.unit (s := S8) (k0_off5 i) S1.size (k0_off5_inb i k0_h2))
    let v63 : DmaSems sig S_ := v62.squeeze S_ squeezes_S1_S_
    let v64 : Memref sig .tc .vmem S1x1024x256 .bf16 := O4.slice (Rect.unit (s := S1x1024x8192) (k0_off6 i v14) S1x1024x256.size (k0_off6_inb i d0 v14 k0_hw1 k0_h2)) (fun _ => rfl)
    let v65 : Memref sig .tc .vmem S1024x256 .bf16 := v64.squeeze S1024x256 squeezes_S1x1024x256_S1024x256
    let v66 : Memref sig .tc .vmem S1x1024x256 .bf16 := O4.slice (Rect.unit (s := S1x1024x8192) (k0_off6 i v14) S1x1024x256.size (k0_off6_inb i d0 v14 k0_hw1 k0_h2)) (fun _ => rfl)
    let v67 : Memref sig .tc .vmem S1024x256 .bf16 := v66.squeeze S1024x256 squeezes_S1x1024x256_S1024x256
    let v60 : DmaSems sig S1 := cc0_scratch4.slice (Rect.unit (s := S8) (k0_off5 i) S1.size (k0_off5_inb i k0_h2))
    let v61 : DmaSems sig S_ := v60.squeeze S_ squeezes_S1_S_
    Prog.lift (.enqueueDma v67 (.remote (Dev.tc (⟨k0_dev5 d0, k0_dev5_lt i d0 k0_h2⟩ : Dev nD)) v65 (.dma v61.sem)) (.dma v63.sem) ((hO4.wordExact_slice rfl _ (k0_off6_wordsbf16 i d0 v14 k0_hw1 k0_h2)).reshape _ _) ((hO4.wordExact_slice rfl _ (k0_off6_wordsbf16 i d0 v14 k0_hw1 k0_h2)).reshape _ _) ⟨⟨rfl, Or.inl rfl⟩, trivial⟩)
    let v74 : DmaSems sig S1 := cc0_scratch6.slice (Rect.unit (s := S8) (k0_off5 i) S1.size (k0_off5_inb i k0_h2))
    let v75 : DmaSems sig S_ := v74.squeeze S_ squeezes_S1_S_
    let v76 : DmaSems sig S1 := cc0_scratch7.slice (Rect.unit (s := S8) (k0_off5 i) S1.size (k0_off5_inb i k0_h2))
    let v77 : DmaSems sig S_ := v76.squeeze S_ squeezes_S1_S_
    let v78 : Memref sig .tc .vmem S1x1024x256 .bf16 := O4.slice (Rect.unit (s := S1x1024x8192) (k0_off6 i v14) S1x1024x256.size (k0_off6_inb i d0 v14 k0_hw1 k0_h2)) (fun _ => rfl)
    let v79 : Memref sig .tc .vmem S1024x256 .bf16 := v78.squeeze S1024x256 squeezes_S1x1024x256_S1024x256
    let v80 : Memref sig .tc .vmem S1x1024x256 .bf16 := O4.slice (Rect.unit (s := S1x1024x8192) (k0_off6 i v14) S1x1024x256.size (k0_off6_inb i d0 v14 k0_hw1 k0_h2)) (fun _ => rfl)
    let v81 : Memref sig .tc .vmem S1024x256 .bf16 := v80.squeeze S1024x256 squeezes_S1x1024x256_S1024x256
    Prog.lift (.enqueueDma v81 (.remote (Dev.tc (⟨k0_dev6 d0, k0_dev6_lt i d0 k0_h2⟩ : Dev nD)) v79 (.dma v75.sem)) (.dma v77.sem) ((hO4.wordExact_slice rfl _ (k0_off6_wordsbf16 i d0 v14 k0_hw1 k0_h2)).reshape _ _) ((hO4.wordExact_slice rfl _ (k0_off6_wordsbf16 i d0 v14 k0_hw1 k0_h2)).reshape _ _) ⟨⟨rfl, Or.inl rfl⟩, trivial⟩)
    let v88 : DmaSems sig S1 := cc0_scratch8.slice (Rect.unit (s := S8) (k0_off5 i) S1.size (k0_off5_inb i k0_h2))
    let v89 : DmaSems sig S_ := v88.squeeze S_ squeezes_S1_S_
    let v90 : DmaSems sig S1 := cc0_scratch9.slice (Rect.unit (s := S8) (k0_off5 i) S1.size (k0_off5_inb i k0_h2))
    let v91 : DmaSems sig S_ := v90.squeeze S_ squeezes_S1_S_
    let v92 : Memref sig .tc .vmem S1x1024x256 .bf16 := O4.slice (Rect.unit (s := S1x1024x8192) (k0_off6 i v14) S1x1024x256.size (k0_off6_inb i d0 v14 k0_hw1 k0_h2)) (fun _ => rfl)
    let v93 : Memref sig .tc .vmem S1024x256 .bf16 := v92.squeeze S1024x256 squeezes_S1x1024x256_S1024x256
    let v94 : Memref sig .tc .vmem S1x1024x256 .bf16 := O4.slice (Rect.unit (s := S1x1024x8192) (k0_off6 i v14) S1x1024x256.size (k0_off6_inb i d0 v14 k0_hw1 k0_h2)) (fun _ => rfl)
    let v95 : Memref sig .tc .vmem S1024x256 .bf16 := v94.squeeze S1024x256 squeezes_S1x1024x256_S1024x256
    Prog.lift (.enqueueDma v95 (.remote (Dev.tc (⟨k0_dev7 d0, k0_dev7_lt i d0 k0_h2⟩ : Dev nD)) v93 (.dma v89.sem)) (.dma v91.sem) ((hO4.wordExact_slice rfl _ (k0_off6_wordsbf16 i d0 v14 k0_hw1 k0_h2)).reshape _ _) ((hO4.wordExact_slice rfl _ (k0_off6_wordsbf16 i d0 v14 k0_hw1 k0_h2)).reshape _ _) ⟨⟨rfl, Or.inl rfl⟩, trivial⟩)
    K
  else K

/-- Points 0 to 7: both halves of a chunk are computed, and one is copied across `x`; and then `K`. -/
def blkComp (i : grid0.Coords) (a3 : Memref sig .tc .vmem S4096x256 .bf16) (h3 : a3.IsWhole) (d0 : Dev nD) (v14 : Elt F .i32) (k0_hw1 : k0_chk1 i d0 v14)
    (K : Prog (TpuEff nD τ sig (Elt F) Λ₀ .tc) PUnit) : Prog (TpuEff nD τ sig (Elt F) Λ₀ .tc) PUnit :=
  let arg0 : BitVec 32 := BitVec.ofNat 32 (i 0).val
  let v0 : BitVec 32 := Dev.word d0
  let v1 : BitVec 32 := Scalar.divsi v0 8#32
  let v2 : BitVec 32 := Scalar.remsi v1 2#32
  let v3 : BitVec 32 := Dev.word d0
  let v4 : BitVec 32 := Scalar.divsi v3 4#32
  let v5 : BitVec 32 := Scalar.remsi v4 2#32
  let v6 : BitVec 32 := Dev.word d0
  let v7 : BitVec 32 := Scalar.divsi v6 1#32
  let v8 : BitVec 32 := Scalar.remsi v7 4#32
  let v9 : BitVec 32 := Scalar.xori v8 1#32
  let v10 : BitVec 32 := Scalar.subi 1#32 v2
  let v11 : BitVec 32 := Scalar.subi 1#32 v5
  let v12 : BitVec 32 := Scalar.subi 1#32 v5
  let v13 : BitVec 1 := Scalar.cmpi .eq v2 0#32
  let v15 : BitVec 32 := Scalar.muli v14 256#32
  if k0_h3 : k0_cond3 i = 1#1 then do
    let v61 : BitVec 32 ← k0_part2 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 arg0 d0 v5 v10 v13 v14 k0_hw1 v15 k0_h3
    let v64 : DmaSems sig S1 := cc0_scratch2.slice (Rect.unit (s := S4) (k0_off13 i) S1.size (k0_off13_inb i k0_h3))
    let v65 : DmaSems sig S_ := v64.squeeze S_ squeezes_S1_S_
    let v66 : DmaSems sig S1 := cc0_scratch3.slice (Rect.unit (s := S8) (k0_off14 i) S1.size (k0_off14_inb i k0_h3))
    let v67 : DmaSems sig S_ := v66.squeeze S_ squeezes_S1_S_
    let v68 : Memref sig .tc .vmem S1x1024x256 .bf16 := RX.slice (Rect.unit (s := S8x1024x256) (k0_off15 i) S1x1024x256.size (k0_off15_inb i k0_h3)) (fun _ => rfl)
    let v69 : Memref sig .tc .vmem S1024x256 .bf16 := v68.squeeze S1024x256 squeezes_S1x1024x256_S1024x256
    let v70 : Memref sig .tc .vmem S1x1024x256 .bf16 := SB.slice (Rect.unit (s := S4x1024x256) (k0_off16 i) S1x1024x256.size (k0_off16_inb i k0_h3)) (fun _ => rfl)
    let v71 : Memref sig .tc .vmem S1024x256 .bf16 := v70.squeeze S1024x256 squeezes_S1x1024x256_S1024x256
    Prog.lift (.enqueueDma v71 (.remote (Dev.tc (⟨k0_dev8 d0, k0_dev8_lt i d0 k0_h3⟩ : Dev nD)) v69 (.dma v65.sem)) (.dma v67.sem) ((hSB.wordExact_slice rfl _ (k0_off16_wordsbf16 i k0_h3)).reshape _ _) ((hRX.wordExact_slice rfl _ (k0_off15_wordsbf16 i k0_h3)).reshape _ _) ⟨⟨rfl, Or.inl rfl⟩, trivial⟩)
    K
  else K

/-- The last point: every copy is waited for; and then `K`. -/
def blkFin (i : grid0.Coords) (a3 : Memref sig .tc .vmem S4096x256 .bf16) (h3 : a3.IsWhole) (d0 : Dev nD) (v14 : Elt F .i32) (k0_hw1 : k0_chk1 i d0 v14)
    (K : Prog (TpuEff nD τ sig (Elt F) Λ₀ .tc) PUnit) : Prog (TpuEff nD τ sig (Elt F) Λ₀ .tc) PUnit :=
  let arg0 : BitVec 32 := BitVec.ofNat 32 (i 0).val
  let v0 : BitVec 32 := Dev.word d0
  let v1 : BitVec 32 := Scalar.divsi v0 8#32
  let v2 : BitVec 32 := Scalar.remsi v1 2#32
  let v3 : BitVec 32 := Dev.word d0
  let v4 : BitVec 32 := Scalar.divsi v3 4#32
  let v5 : BitVec 32 := Scalar.remsi v4 2#32
  let v6 : BitVec 32 := Dev.word d0
  let v7 : BitVec 32 := Scalar.divsi v6 1#32
  let v8 : BitVec 32 := Scalar.remsi v7 4#32
  let v9 : BitVec 32 := Scalar.xori v8 1#32
  let v10 : BitVec 32 := Scalar.subi 1#32 v2
  let v11 : BitVec 32 := Scalar.subi 1#32 v5
  let v12 : BitVec 32 := Scalar.subi 1#32 v5
  let v13 : BitVec 1 := Scalar.cmpi .eq v2 0#32
  let v15 : BitVec 32 := Scalar.muli v14 256#32
  if k0_h7 : k0_cond7 i = 1#1 then do
    k0_part3 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    k0_part4 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    k0_part5 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    k0_part6 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    k0_part7 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    k0_part8 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    k0_part9 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9
    let ⟨v208, c0_i32_278⟩ : Σ' (v208 : BitVec 32), BitVec 32 ← k0_part10 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v8 v11
    k0_part11 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v8 v11 v208 c0_i32_278
    k0_part12 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v8 v11
    let ⟨v295, c1_i32_364⟩ : Σ' (v295 : BitVec 32), BitVec 32 ← k0_part13 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v8 v11
    k0_part14 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v9 v295 c1_i32_364
    let ⟨v352, c0_i32_422⟩ : Σ' (v352 : BitVec 32), BitVec 32 ← k0_part15 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v9
    k0_part16 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v9 v352 c0_i32_422
    k0_part17 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v9 v12
    let ⟨v439, c1_i32_508⟩ : Σ' (v439 : BitVec 32), BitVec 32 ← k0_part18 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v9 v12
    k0_part19 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v9 v12 v439 c1_i32_508
    let v470 : Memref sig .tc .vmem S1x1024x256 .bf16 := O4.slice (Rect.unit (s := S1x1024x8192) ![0, 0, 0] S1x1024x256.size inb_S1x1024x8192_S1x1024x256_0_0_0) (fun _ => rfl)
    let v471 : Memref sig .tc .vmem S1024x256 .bf16 := v470.squeeze S1024x256 squeezes_S1x1024x256_S1024x256
    let v466 : DmaSems sig S1 := cc0_scratch9.slice (Rect.unit (s := S8) ![6] S1.size inb_S8_S1_6)
    let v467 : DmaSems sig S_ := v466.squeeze S_ squeezes_S1_S_
    let v468 : Memref sig .tc .vmem S1x1024x256 .bf16 := O4.slice (Rect.unit (s := S1x1024x8192) ![0, 0, 0] S1x1024x256.size inb_S1x1024x8192_S1x1024x256_0_0_0) (fun _ => rfl)
    let v469 : Memref sig .tc .vmem S1024x256 .bf16 := v468.squeeze S1024x256 squeezes_S1x1024x256_S1024x256
    Prog.lift (.waitDma2 v467.sem v471 v469 ((hO4.wordExact_slice rfl _ wordsbf16_S1x1024x8192_S1x1024x256_0_0_0).reshape _ _) ((hO4.wordExact_slice rfl _ wordsbf16_S1x1024x8192_S1x1024x256_0_0_0).reshape _ _))
    let v478 : DmaSems sig S1 := cc0_scratch9.slice (Rect.unit (s := S8) ![7] S1.size inb_S8_S1_7)
    let v479 : DmaSems sig S_ := v478.squeeze S_ squeezes_S1_S_
    let v480 : Memref sig .tc .vmem S1x1024x256 .bf16 := O4.slice (Rect.unit (s := S1x1024x8192) ![0, 0, 0] S1x1024x256.size inb_S1x1024x8192_S1x1024x256_0_0_0) (fun _ => rfl)
    let v481 : Memref sig .tc .vmem S1024x256 .bf16 := v480.squeeze S1024x256 squeezes_S1x1024x256_S1024x256
    let v482 : Memref sig .tc .vmem S1x1024x256 .bf16 := O4.slice (Rect.unit (s := S1x1024x8192) ![0, 0, 0] S1x1024x256.size inb_S1x1024x8192_S1x1024x256_0_0_0) (fun _ => rfl)
    let v483 : Memref sig .tc .vmem S1024x256 .bf16 := v482.squeeze S1024x256 squeezes_S1x1024x256_S1024x256
    Prog.lift (.waitDma2 v479.sem v483 v481 ((hO4.wordExact_slice rfl _ wordsbf16_S1x1024x8192_S1x1024x256_0_0_0).reshape _ _) ((hO4.wordExact_slice rfl _ wordsbf16_S1x1024x8192_S1x1024x256_0_0_0).reshape _ _))
    K
  else K

set_option maxRecDepth 65536 in
/-- The kernel's body is the four blocks, one after the other. -/
theorem body_blocks (i : grid0.Coords) (a3 : Memref sig .tc .vmem S4096x256 .bf16) (h3 : a3.IsWhole) :
    cc0_body_skel (F := F) i (Memref.whole main_v14) (Memref.isWhole_whole _) (Memref.whole cc0_stg0_0) (Memref.isWhole_whole _) a3 h3
      O4 hO4 SB hSB RX hRX cc0_scratch2 cc0_scratch3 cc0_scratch4 cc0_scratch5 cc0_scratch6 cc0_scratch7 cc0_scratch8 cc0_scratch9
    = (do
      let d0 : Dev nD ← Prog.lift .deviceId
      let v14 : Elt F .i32 ← smemLoad (Memref.whole main_v14) (Rect.unit (s := S1) ![0] S1.size inb_S1_S1_0) numel1_S1 rfl
      have k0_hw1 : k0_chk1 i d0 v14 := (← Prog.lift (TpuEff.assume (k0_chk1 i d0 v14) (k0_chk1.dec i d0 v14))).down
      blkBar i a3 h3 d0 v14 k0_hw1 (blkGather i a3 h3 d0 v14 k0_hw1 (blkComp i a3 h3 d0 v14 k0_hw1 (blkFin i a3 h3 d0 v14 k0_hw1 (pure ⟨⟩))))) := rfl

end Cert.KernelIdeal.Work
-- ==== Proof.State.lean ====
/-
  What a device holds between two grid points, and the run of the gathering block: the half that arrived is added
  to the device's own half, and the finished chunk is copied to the three other devices of the group.
-/
module

public import proofs.«01_k».proof.Proof.Steps
public import proofs.«01_k».proof.Proof.Blocks

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-! ## The state -/

/-- What it takes to copy the finished chunk `k` to neighbour `g`, -/
def gat (c : Dev nD) (g : Fin 3) (k : Fin 8) : sProp 𝕄 :=
  iprop(barG c g k ∗ Tk c (sGR g k) 0 ∗ Tk c (sGS g k) 0 ∗ At c (sGS g k) 0)
/-- and what is left of that once the copy is on its way. -/
def gone (c : Dev nD) (g : Fin 3) (k : Fin 8) : sProp 𝕄 := iprop(At c (sGS g k) 0 ∗ Cr c (sGS g k))
def gat3 (c : Dev nD) (k : Fin 8) : sProp 𝕄 := iprop(gat c 0 k ∗ gat c 1 k ∗ gat c 2 k)

/-- A chunk not yet computed; -/
def ck0 (c : Dev nD) (k : Fin 8) : sProp 𝕄 :=
  iprop((∃ f, ptO c (qd c * 8 + k.val) fullShare f) ∗ barX c k ∗ Tk c (sXR k) 0 ∗ Cr c (sXR k) ∗ At c (sXR k) 0 ∗ gat3 c k)
/-- with its own half computed and the other's sent; -/
def ck1 (c : Dev nD) (k : Fin 8) : sProp 𝕄 :=
  iprop(ptO c (qd c * 8 + k.val) fullShare (ofChunks fun _ => own c k.val) ∗ Cr c (sXR k) ∗ At c (sXR k) 0 ∗ gat3 c k)
/-- finished. -/
def ck2 (c : Dev nD) (k : Fin 8) : sProp 𝕄 :=
  iprop(ptR c k.val (ofSlots8 (snd (xp c))) ∗ At c (sXR k) 1 ∗ gone c 0 k ∗ gone c 1 k ∗ gone c 2 k)
def CK (c : Dev nD) (a b : ℕ) (k : Fin 8) : sProp 𝕄 := if k.val < b then ck2 snd c k else if k.val < a then ck1 own c k else ck0 c k

/-- A send slot not yet used, used once, used twice. -/
def sl0 (c : Dev nD) (s : Fin 4) : sProp 𝕄 := iprop((∃ f, ptS c s.val f) ∗ At c (sXS s) 0 ∗ Tk c (sXS s) 0 ∗ Tk c (sXS s) 1)
def sl1 (c : Dev nD) (s : Fin 4) : sProp 𝕄 := iprop(At c (sXS s) 0 ∗ Cr c (sXS s) ∗ Tk c (sXS s) 1)
def sl2 (c : Dev nD) (s : Fin 4) : sProp 𝕄 := iprop(At c (sXS s) 1 ∗ Cr c (sXS s))
def SL (c : Dev nD) (a : ℕ) (s : Fin 4) : sProp 𝕄 := if a ≤ s.val then sl0 c s else if a ≤ s.val + 4 then sl1 c s else sl2 c s

/-- With `a` chunks computed and `b` of them finished. -/
def St (c : Dev nD) (a b : ℕ) : sProp 𝕄 :=
  iprop((∃ W, owes (c : Thread nD τ) (oweOn c (rem a b)) W) ∗ (bigSep Finset.univ fun k => CK own snd c a b k) ∗ bigSep Finset.univ fun s => SL c a s)

section
variable {α : Type}

/-! ## Loads and stores of a piece -/

theorem wp_ldO (c : Dev nD) {j : ℕ} {q : PosShare TreeShare} (f : (cc0_stg2_0 : Ref sig .tc).ty.Contents (Elt F)) {o : Fin 3 → ℕ} (ho : o = ![0, 0, j * 256]) {inb}
    {hl : (O4 : Memref sig .tc .vmem S1x1024x8192 .bf16).view.LoadsAt (Rect.unit (s := S1x1024x8192) o S1x1024x256.size inb).toLoadRect}
    (k : Vec F S1x1024x256 .bf16 → Prog (TpuEff nD τ sig (Elt F) Λ₀ .tc) α) (Q : α → sProp 𝕄) :
    ptO c j q f ⊢ iprop((ptO c j q f -∗ wp frame (wpE (defs₀ (F := F)) 𝒱₀ (c : Thread nD τ) none) Set.univ
          (k ((O4.access (Rect.unit (s := S1x1024x8192) o S1x1024x256.size inb) : View sig .tc _ _ _).read (Elt F) f)) Q)
        -∗ wp frame (wpE (defs₀ (F := F)) 𝒱₀ (c : Thread nD τ) none) Set.univ
            (.op (.load O4 (Rect.unit (s := S1x1024x8192) o S1x1024x256.size inb).toLoadRect hl) k) Q) := by
  have h := wp_load_rect (c := (c : Thread nD τ)) (m := O4) (r := Rect.unit (s := S1x1024x8192) o S1x1024x256.size inb) (hl := hl) (defs := defs₀ (F := F)) (Γ := .empty)
    (U := UU) (Q := Q) (k := k) (f := f) (q := q) (S := colSet j) 𝒱₀ none Set.univ (by rw [out_access ho inb])
  exact h

theorem wp_ldS (c : Dev nD) {s : ℕ} (f : (cc0_scratch0 : Ref sig .tc).ty.Contents (Elt F)) {o : Fin 3 → ℕ} (ho : o = ![s, 0, 0]) {inb}
    {hl : (SB : Memref sig .tc .vmem S4x1024x256 .bf16).view.LoadsAt (Rect.unit (s := S4x1024x256) o S1x1024x256.size inb).toLoadRect}
    (k : Vec F S1x1024x256 .bf16 → Prog (TpuEff nD τ sig (Elt F) Λ₀ .tc) α) (Q : α → sProp 𝕄) :
    ptS c s f ⊢ iprop((ptS c s f -∗ wp frame (wpE (defs₀ (F := F)) 𝒱₀ (c : Thread nD τ) none) Set.univ
          (k ((SB.access (Rect.unit (s := S4x1024x256) o S1x1024x256.size inb) : View sig .tc _ _ _).read (Elt F) f)) Q)
        -∗ wp frame (wpE (defs₀ (F := F)) 𝒱₀ (c : Thread nD τ) none) Set.univ
            (.op (.load SB (Rect.unit (s := S4x1024x256) o S1x1024x256.size inb).toLoadRect hl) k) Q) := by
  have h := wp_load_rect (c := (c : Thread nD τ)) (m := SB) (r := Rect.unit (s := S4x1024x256) o S1x1024x256.size inb) (hl := hl) (defs := defs₀ (F := F)) (Γ := .empty)
    (U := UU) (Q := Q) (k := k) (f := f) (q := fullShare) (S := slot4 s) 𝒱₀ none Set.univ (by rw [sb_access ho inb])
  exact h

theorem wp_ldR (c : Dev nD) {s : ℕ} (f : (cc0_scratch1 : Ref sig .tc).ty.Contents (Elt F)) {o : Fin 3 → ℕ} (ho : o = ![s, 0, 0]) {inb}
    {hl : (RX : Memref sig .tc .vmem S8x1024x256 .bf16).view.LoadsAt (Rect.unit (s := S8x1024x256) o S1x1024x256.size inb).toLoadRect}
    (k : Vec F S1x1024x256 .bf16 → Prog (TpuEff nD τ sig (Elt F) Λ₀ .tc) α) (Q : α → sProp 𝕄) :
    ptR c s f ⊢ iprop((ptR c s f -∗ wp frame (wpE (defs₀ (F := F)) 𝒱₀ (c : Thread nD τ) none) Set.univ
          (k ((RX.access (Rect.unit (s := S8x1024x256) o S1x1024x256.size inb) : View sig .tc _ _ _).read (Elt F) f)) Q)
        -∗ wp frame (wpE (defs₀ (F := F)) 𝒱₀ (c : Thread nD τ) none) Set.univ
            (.op (.load RX (Rect.unit (s := S8x1024x256) o S1x1024x256.size inb).toLoadRect hl) k) Q) := by
  have h := wp_load_rect (c := (c : Thread nD τ)) (m := RX) (r := Rect.unit (s := S8x1024x256) o S1x1024x256.size inb) (hl := hl) (defs := defs₀ (F := F)) (Γ := .empty)
    (U := UU) (Q := Q) (k := k) (f := f) (q := fullShare) (S := slot8 s) 𝒱₀ none Set.univ (by rw [rx_access ho inb])
  exact h

theorem wp_stO (c : Dev nD) {j : ℕ} (f : (cc0_stg2_0 : Ref sig .tc).ty.Contents (Elt F)) (w : Chunk F) {o : Fin 3 → ℕ} (ho : o = ![0, 0, j * 256]) {inb}
    {hx : (O4.access (Rect.unit (s := S1x1024x8192) o S1x1024x256.size inb) : View sig .tc _ _ _).Stores Finset.univ}
    {hm : (Finset.univ : Finset (Rect.unit (s := S1x1024x8192) o S1x1024x256.size inb).shape.Idx) = Finset.univ ∨ ∀ a, (Rect.unit (s := S1x1024x8192) o S1x1024x256.size inb).stride a = 1}
    (k : PUnit → Prog (TpuEff nD τ sig (Elt F) Λ₀ .tc) α) (Q : α → sProp 𝕄) :
    ptO c j fullShare f ⊢ iprop((ptO c j fullShare (ofChunks fun _ => w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store O4 (Rect.unit (s := S1x1024x8192) o S1x1024x256.size inb) w Finset.univ hx hm) k) Q) := by
  have h := wp_store (c := (c : Thread nD τ)) (m := O4) (r := Rect.unit (s := S1x1024x8192) o S1x1024x256.size inb) (Mk := Finset.univ) (defs := defs₀ (F := F)) (Γ := .empty) (U := UU) (Q := Q) (k := k) (w := w) (f := f) (hx := hx) (hm := hm) (S := colSet j) 𝒱₀ none Set.univ
    (by rw [View.setOn_univ, out_access ho inb])
  have e : ptO c j fullShare ((O4.access (Rect.unit (s := S1x1024x8192) o S1x1024x256.size inb) : View sig .tc _ _ _).write (Elt F) f w Finset.univ) = ptO c j fullShare (ofChunks fun _ => w) :=
    pointsTo_congr fun i hi => out_store ho inb (fun _ => w) f i hi
  rw [← e]
  exact h

theorem wp_stS (c : Dev nD) {s : ℕ} (f : (cc0_scratch0 : Ref sig .tc).ty.Contents (Elt F)) (w : Chunk F) {o : Fin 3 → ℕ} (ho : o = ![s, 0, 0]) {inb}
    {hx : (SB.access (Rect.unit (s := S4x1024x256) o S1x1024x256.size inb) : View sig .tc _ _ _).Stores Finset.univ}
    {hm : (Finset.univ : Finset (Rect.unit (s := S4x1024x256) o S1x1024x256.size inb).shape.Idx) = Finset.univ ∨ ∀ a, (Rect.unit (s := S4x1024x256) o S1x1024x256.size inb).stride a = 1}
    (k : PUnit → Prog (TpuEff nD τ sig (Elt F) Λ₀ .tc) α) (Q : α → sProp 𝕄) :
    ptS c s f ⊢ iprop((ptS c s (ofSlots4 fun _ => w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store SB (Rect.unit (s := S4x1024x256) o S1x1024x256.size inb) w Finset.univ hx hm) k) Q) := by
  have h := wp_store (c := (c : Thread nD τ)) (m := SB) (r := Rect.unit (s := S4x1024x256) o S1x1024x256.size inb) (Mk := Finset.univ) (defs := defs₀ (F := F)) (Γ := .empty) (U := UU) (Q := Q) (k := k) (w := w) (f := f) (hx := hx) (hm := hm) (S := slot4 s) 𝒱₀ none Set.univ
    (by rw [View.setOn_univ, sb_access ho inb])
  have e : ptS c s ((SB.access (Rect.unit (s := S4x1024x256) o S1x1024x256.size inb) : View sig .tc _ _ _).write (Elt F) f w Finset.univ) = ptS c s (ofSlots4 fun _ => w) :=
    pointsTo_congr fun i hi => sb_store ho inb (fun _ => w) f i hi
  rw [← e]
  exact h

end

end Cert.KernelIdeal.Work
-- ==== Proof.Bar.lean ====
/-
  The barrier at the first point: a device lends its receive slots to the device across `x`, and to each of the three
  others of its group the columns of its output that one will fill; and it gets theirs.
-/
module

public import proofs.«01_k».proof.Proof.State
public import proofs.«01_k».proof.Proof.Blocks

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

theorem sep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- What a chunk starts with on its own device, before the neighbours' loans. -/
def gk (c : Dev nD) (g : Fin 3) (k : Fin 8) : sProp 𝕄 := iprop(Tk c (sGR g k) 0 ∗ Tk c (sGS g k) 0 ∗ At c (sGS g k) 0)
def pk (c : Dev nD) (k : Fin 8) : sProp 𝕄 :=
  iprop((∃ f, ptO c (qd c * 8 + k.val) fullShare f) ∗ Tk c (sXR k) 0 ∗ Cr c (sXR k) ∗ At c (sXR k) 0 ∗ gk c 0 k ∗ gk c 1 k ∗ gk c 2 k)

/-- What the barrier takes. -/
def BarPre (c : Dev nD) : sProp 𝕄 :=
  iprop((∃ W, owes (c : Thread nD τ) (O₀ c) W) ∗ (bigSep Finset.univ fun d : Fin 4 => dutyTok EB (bar (nb d c)) 0 d)
    ∗ (bigSep Finset.univ fun d : Fin 4 => barPay (nb d c) d) ∗ atPos EB (bar c) 0 ∅ 0 ∗ cred (tallyAt (bar c) () 4)
    ∗ (bigSep Finset.univ fun k => pk c k) ∗ bigSep Finset.univ fun s => sl0 c s)

/-- The chunks with the loans. -/
theorem chunks_in (c : Dev nD) :
    iprop((bigSep Finset.univ fun k => pk c k) ∗ (bigSep Finset.univ fun d : Fin 4 => barPay c d)) ⊢ (bigSep Finset.univ fun k => CK own snd c 0 0 k : sProp 𝕄) := by
  have e4 : (bigSep Finset.univ fun d : Fin 4 => barPay c d : sProp 𝕄) ⊢ iprop((bigSep Finset.univ fun k => barX c k) ∗ (bigSep Finset.univ fun k => barG c 0 k)
      ∗ (bigSep Finset.univ fun k => barG c 1 k) ∗ bigSep Finset.univ fun k => barG c 2 k) := ent_of_eq (sep_fin4 _)
  refine (sep_mono_right e4).trans ?_
  rw [← bigSep_sep', ← bigSep_sep', ← bigSep_sep', ← bigSep_sep']
  refine bigSep_mono fun k _ => ?_
  change (_ : sProp 𝕄) ⊢ (_ : sProp 𝕄)
  unfold CK pk ck0 gat3 gat gk
  rw [if_neg (Nat.not_lt_zero _), if_neg (Nat.not_lt_zero _)]
  iintro ⟨⟨Hp, HT, Hc, Ha, H0, H1, H2⟩, HX, G0, G1, G2⟩
  isplitl [Hp]; · iexact Hp
  isplitl [HX]; · iexact HX
  isplitl [HT]; · iexact HT
  isplitl [Hc]; · iexact Hc
  isplitl [Ha]; · iexact Ha
  isplitl [H0 G0]
  · isplitl [G0]; · iexact G0
    iexact H0
  isplitl [H1 G1]
  · isplitl [G1]; · iexact G1
    iexact H1
  · isplitl [G2]; · iexact G2
    iexact H2

/-- One signal of a neighbour's barrier. -/
theorem wp_barsig {α : Type} (c n : Dev nD) (d : Fin 4) (hn : n = nb d c) (O O' : CellTallies nD τ sig Unit) (hO : O = O' + tallyAt (bar (nb d c)) () 1) (W : Waits sig Unit)
    (k : PUnit → Prog (TpuEff nD τ sig (Elt F) Λ₀ .tc) α) (Q : α → sProp 𝕄) :
    iprop(Recs own snd κ ∗ owes (c : Thread nD τ) O W ∗ dutyTok EB (bar (nb d c)) 0 d ∗ barPay (nb d c) d)
      ⊢ iprop((owes (c : Thread nD τ) O' W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS (1#32 : BitVec 32).toInt) k) Q) := by
  subst hn
  have hX := Rounds.wp_signal (Q := Q) (k := k) (defs := defs₀ (F := F)) (Γ := .empty) (Es := Set.univ) (W := W) (k' := 1) 𝒱₀ EB (Rd own snd) (c : Thread nD τ) none (dst := ((nb d c : Dev nD) : Thread nD τ)) (sem := barS) (r := 0) (d := d)
    (κ := κ (bar (nb d c))) (by rw [duties_bar]; exact Finset.mem_univ _) rfl () O' hO
  have p : barPay (F := F) (nb d c) d ⊢ (Rd own snd).payload (bar (nb d c)) 0 d := .rfl
  iintro ⟨#HR, HO, HT, HP⟩ Hk
  ihave #H := (Recs_bar own snd κ (nb d c)) $$ HR
  icases H with ⟨#HI, #Hr⟩
  iapply hX $$ [HO HT HP]
  · isplitr; · iexact HI
    isplitl [HO]; · iexact HO
    isplitl [HT]; · iexact HT
    isplitl [HP]; · iapply p $$ HP
    iexact Hr
  iexact Hk

theorem rest_bar (c : Dev nD) : bigSep ((Rd own snd).duties (bar c) 0 \ ∅) (fun d => (Rd own snd).payload (bar c) 0 d) = (bigSep Finset.univ fun d : Fin 4 => barPay c d : sProp 𝕄) := by
  rw [Finset.sdiff_empty, duties_bar]; rfl

set_option maxHeartbeats 200000 in
theorem run_bar (c : Dev nD) (t : Fin grid0.N) (ht : t.val = 0) (a3 : Memref sig .tc .vmem S4096x256 .bf16) (h3 : a3.IsWhole)
    (hw : k0_chk1 (grid0.coords t) c (tb c)) (K : Prog (TpuEff nD τ sig (Elt F) Λ₀ .tc) PUnit) (Q : PUnit → sProp 𝕄) :
    iprop(Recs own snd κ ∗ levAts L lv ∗ BarPre c
        ∗ ((St own snd c 0 0 ∗ semVal (bar c) 0) -∗ wp frame (wpE (defs₀ (F := F)) 𝒱₀ (c : Thread nD τ) none) Set.univ K Q))
      ⊢ wp frame (wpE (defs₀ (F := F)) 𝒱₀ (c : Thread nD τ) none) Set.univ (blkBar (grid0.coords t) a3 h3 c (tb c) hw K) Q := by
  unfold blkBar
  rw [dif_pos ((cond1_iff t).mpr ht)]
  simp only [semSignalWord, semWaitWord, Prog.lift, Prog.bind_op, Prog.bind_ret, Prog.pure_eq_ret]
  have e4 : (bigSep Finset.univ fun d : Fin 4 => dutyTok EB (bar (nb d c)) 0 d : sProp 𝕄) ⊢ iprop(dutyTok EB (bar (nb 0 c)) 0 (0 : Fin 4) ∗ dutyTok EB (bar (nb 1 c)) 0 (1 : Fin 4) ∗ dutyTok EB (bar (nb 2 c)) 0 (2 : Fin 4) ∗ dutyTok EB (bar (nb 3 c)) 0 (3 : Fin 4)) := ent_of_eq (sep_fin4 _)
  have p4 : (bigSep Finset.univ fun d : Fin 4 => barPay (nb d c) d : sProp 𝕄) ⊢ iprop(barPay (nb 0 c) 0 ∗ barPay (nb 1 c) 1 ∗ barPay (nb 2 c) 2 ∗ barPay (nb 3 c) 3) := ent_of_eq (sep_fin4 _)
  have hX : ∀ (W : Waits sig Unit) (k : PUnit → Prog (TpuEff nD τ sig (Elt F) Λ₀ .tc) PUnit), _ := fun W k => Rounds.wp_wait_rest_token (Γ := .empty) (Q := Q) (k := k) (defs := defs₀ (F := F)) 𝒱₀ EB (Rd own snd) (c : Thread nD τ) none (κ := κ (bar c))
    (wpE_semWait_eq (sem := barS) (k := (4#32 : BitVec 32).toInt.toNat) (defs := defs₀ (F := F)) 𝒱₀ (c : Thread nD τ) none Set.univ) (Set.mem_univ _) ()
    (O := oweOn c (rem 0 0)) (W := W) (R := 0) (m := 0) (T := ∅) (by rw [expect_bar]; decide)
  unfold BarPre
  iintro ⟨#HR, #Hlev, ⟨⟨%W, HO⟩, HT, HP, Hat, Hc, Hpk, Hsl⟩, Hk⟩
  ihave HT := e4 $$ HT
  icases HT with ⟨T0, T1, T2, T3⟩
  ihave HP := p4 $$ HP
  icases HP with ⟨P0, P1, P2, P3⟩
  iapply (wp_barsig own snd κ 𝒱₀ c _ 0 (Fin.ext (dev1_eq c)) (O₀ c) _ rfl W) $$ [HO T0 P0]
  · isplitr; · iexact HR
    isplitl [HO]; · iexact HO
    isplitl [T0]; · iexact T0
    iexact P0
  iintro HO
  iapply (wp_barsig own snd κ 𝒱₀ c _ 1 (Fin.ext (dev2_eq c)) _ _ rfl W) $$ [HO T1 P1]
  · isplitr; · iexact HR
    isplitl [HO]; · iexact HO
    isplitl [T1]; · iexact T1
    iexact P1
  iintro HO
  iapply (wp_barsig own snd κ 𝒱₀ c _ 2 (Fin.ext (dev3_eq c)) _ _ rfl W) $$ [HO T2 P2]
  · isplitr; · iexact HR
    isplitl [HO]; · iexact HO
    isplitl [T2]; · iexact T2
    iexact P2
  iintro HO
  iapply (wp_barsig own snd κ 𝒱₀ c _ 3 (Fin.ext (dev4_eq c)) _ _ rfl W) $$ [HO T3 P3]
  · isplitr; · iexact HR
    isplitl [HO]; · iexact HO
    isplitl [T3]; · iexact T3
    iexact P3
  iintro HO
  ihave #H := (Recs_bar own snd κ c) $$ HR
  icases H with ⟨#HI, -⟩
  iapply (hX W _) $$ [Hc HO Hat]
  · isplitr; · iexact HI
    isplitl [Hc]; · iexact Hc
    isplitl [HO]; · iexact HO
    isplitr; · iapply (mayWait_on c (.reg barS) (rem 0 0) 1 (Nat.le_refl 1) (rem_above0 0 0)) $$ Hlev
    iexact Hat
  iintro ⟨HO, Hat, -, Hpay⟩
  ihave Hp := (ent_of_eq (rest_bar own snd c)) $$ Hpay
  imod (Rounds.cell_close EB (Rd own snd) (Set.mem_univ (κ (bar c))) id (duties_bar_done own snd c)) $$ [Hat] with Hs0
  · isplitr; · iexact HI
    iexact Hat
  iapply Hk
  isplitr [Hs0]
  · unfold St
    isplitl [HO]; · iexists _; iexact HO
    isplitl [Hpk Hp]
    · iapply (chunks_in own snd c)
      isplitl [Hpk]; · iexact Hpk
      iexact Hp
    · have e : (bigSep Finset.univ fun s => sl0 c s : sProp 𝕄) ⊢ bigSep Finset.univ fun s => SL c 0 s :=
        bigSep_mono fun s _ => by unfold SL; rw [if_pos (Nat.zero_le _)]; exact .refl _
      iapply e $$ Hsl
  · iexact Hs0

end Cert.KernelIdeal.Work
-- ==== Proof.Comp.lean ====
/-
  Points 0 to 7: one grid point's half-products. Its own half goes to its place in the output; the other is put into a
  send slot, after a wait for the copy that last left the slot, and copied across `x`.
-/
module

public import proofs.«01_k».proof.Proof.State
public import proofs.«01_k».proof.Proof.Blocks

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

abbrev A2 : Memref sig .tc .vmem S2048x4096 .bf16 := Memref.whole cc0_stg0_0

/-- The first and the last 1024 rows of the activations, and the window's weights, as the body loads them. -/
def rowsLo (f : (cc0_stg0_0 : Ref sig .tc).ty.Contents (Elt F)) : Vec F S1024x4096 .bf16 :=
  (A2.access (Rect.unit (s := S2048x4096) ![0, 0] S1024x4096.size inb_S2048x4096_S1024x4096_0_0) : View sig .tc _ _ _).read (Elt F) f
def rowsHi (f : (cc0_stg0_0 : Ref sig .tc).ty.Contents (Elt F)) : Vec F S1024x4096 .bf16 :=
  (A2.access (Rect.unit (s := S2048x4096) ![1024, 0] S1024x4096.size inb_S2048x4096_S1024x4096_1024_0) : View sig .tc _ _ _).read (Elt F) f
def colsOf (a3 : Memref sig .tc .vmem S4096x256 .bf16) {c : Dev nD} (f : Buf (Elt F) (a3.view.loc (c : Thread nD τ))) : Vec F S4096x256 .bf16 :=
  (a3.access (Rect.unit (s := S4096x256) ![0, 0] S4096x256.size inb_S4096x256_S4096x256_0_0) : View sig .tc _ _ _).read (Elt F) f

/-- The half a device keeps, and the half it sends. -/
def keepOf (c : Dev nD) (w : Vec F S4096x256 .bf16) (lo hi : Vec F S1024x4096 .bf16) : Chunk F := if c.val / 8 = 0 then k0_pay5 w lo else k0_pay7 w hi
def sendOf (c : Dev nD) (w : Vec F S4096x256 .bf16) (lo hi : Vec F S1024x4096 .bf16) : Chunk F := if c.val / 8 = 0 then k0_pay6 w hi else k0_pay8 w lo

section
variable {α : Type}

theorem wp_ldA (c : Dev nD) (f : (cc0_stg0_0 : Ref sig .tc).ty.Contents (Elt F)) {r : Rect S2048x4096} {hl : (A2 : Memref sig .tc .vmem S2048x4096 .bf16).view.LoadsAt r.toLoadRect}
    (k : (r.shape.Idx → Elt F .bf16) → Prog (TpuEff nD τ sig (Elt F) Λ₀ .tc) α) (Q : α → sProp 𝕄) :
    (A2.view.loc (c : Thread nD τ) ↦{fullShare} f) ⊢ iprop(((A2.view.loc (c : Thread nD τ) ↦{fullShare} f) -∗ wp frame (wpE (defs₀ (F := F)) 𝒱₀ (c : Thread nD τ) none) Set.univ
          (k ((A2.access r : View sig .tc _ _ _).read (Elt F) f)) Q)
        -∗ wp frame (wpE (defs₀ (F := F)) 𝒱₀ (c : Thread nD τ) none) Set.univ (.op (.load A2 r.toLoadRect hl) k) Q) := by
  have h := wp_load_rect (c := (c : Thread nD τ)) (m := A2) (r := r) (hl := hl) (defs := defs₀ (F := F)) (Γ := .empty)
    (U := UU) (Q := Q) (k := k) (f := f) (q := fullShare) (S := Finset.univ) 𝒱₀ none Set.univ (Finset.subset_univ _)
  exact h

theorem wp_ldW (c : Dev nD) (a3 : Memref sig .tc .vmem S4096x256 .bf16) (f : Buf (Elt F) (a3.view.loc (c : Thread nD τ))) {r : Rect S4096x256} {hl : a3.view.LoadsAt r.toLoadRect}
    (k : (r.shape.Idx → Elt F .bf16) → Prog (TpuEff nD τ sig (Elt F) Λ₀ .tc) α) (Q : α → sProp 𝕄) :
    (a3.view.loc (c : Thread nD τ) ↦{fullShare} f) ⊢ iprop(((a3.view.loc (c : Thread nD τ) ↦{fullShare} f) -∗ wp frame (wpE (defs₀ (F := F)) 𝒱₀ (c : Thread nD τ) none) Set.univ
          (k ((a3.access r : View sig .tc _ _ _).read (Elt F) f)) Q)
        -∗ wp frame (wpE (defs₀ (F := F)) 𝒱₀ (c : Thread nD τ) none) Set.univ (.op (.load a3 r.toLoadRect hl) k) Q) := by
  have h := wp_load_rect (c := (c : Thread nD τ)) (m := a3) (r := r) (hl := hl) (defs := defs₀ (F := F)) (Γ := .empty)
    (U := UU) (Q := Q) (k := k) (f := f) (q := fullShare) (S := Finset.univ) 𝒱₀ none Set.univ (Finset.subset_univ _)
  exact h

end

/-- A send slot free for the copy of round `r`. -/
def slotFree (c : Dev nD) (s : Fin 4) (r : ℕ) : sProp 𝕄 :=
  iprop((∃ f, ptS c s.val f) ∗ At c (sXS s) r ∗ Tk c (sXS s) r ∗ if r = 0 then Tk c (sXS s) 1 else emp)

theorem SL_free0 (c : Dev nD) (t : ℕ) (s : Fin 4) (h : t = s.val) : (SL c t s : sProp 𝕄) ⊢ slotFree c s 0 := by
  unfold SL slotFree
  rw [if_pos (by omega), if_pos rfl]
  exact .rfl

theorem SL_used (c : Dev nD) (t : ℕ) (s : Fin 4) (r : ℕ) (hr : r < 2) (h : t = r * 4 + s.val) :
    iprop(At c (sXS s) r ∗ Cr c (sXS s) ∗ if r = 0 then Tk c (sXS s) 1 else emp) ⊢ (SL c (t + 1) s : sProp 𝕄) := by
  unfold SL
  match r, hr with
  | 0, _ => rw [if_neg (show ¬ t + 1 ≤ s.val by omega), if_pos (show t + 1 ≤ s.val + 4 by omega), if_pos rfl]; exact .rfl
  | 1, _ =>
    rw [if_neg (show ¬ t + 1 ≤ s.val by omega), if_neg (show ¬ t + 1 ≤ s.val + 4 by omega), if_neg (by decide)]
    unfold sl2
    iintro ⟨H1, H2, -⟩
    isplitl [H1]; · iexact H1
    iexact H2

/-- The wait before a slot's second use. -/
theorem run_slot {α : Type} (c : Dev nD) (t : Fin grid0.N) (h8 : t.val < 8) (s : Fin 4) (r : ℕ) (hs : t.val = r * 4 + s.val) (a b : ℕ) (W : Waits sig Unit)
    (k3 : k0_cond3 (grid0.coords t) = 1#1) {h5} {h6 : ∀ k4 : k0_cond4 (grid0.coords t) = 1#1, (sv (k0_off8 (grid0.coords t)) (k0_off8_inb (grid0.coords t) k3 k4)).view.WordExact} (R : Prog (TpuEff nD τ sig (Elt F) Λ₀ .tc) α) (Q : α → sProp 𝕄) :
    iprop(Recs own snd κ ∗ levAts L lv ∗ SL c t.val s ∗ owes (c : Thread nD τ) (oweOn c (rem a b)) W
        ∗ ((slotFree c s r ∗ ∃ W, owes (c : Thread nD τ) (oweOn c (rem a b)) W)
          -∗ wp frame (wpE (defs₀ (F := F)) 𝒱₀ (c : Thread nD τ) none) Set.univ R Q))
      ⊢ wp frame (wpE (defs₀ (F := F)) 𝒱₀ (c : Thread nD τ) none) Set.univ
          (if k0_h4 : k0_cond4 (grid0.coords t) = 1#1 then
            .op (.waitDma2 ((cc0_scratch2.slice (Rect.unit (s := S4) (k0_off7 (grid0.coords t)) S1.size (k0_off7_inb (grid0.coords t) k3 k0_h4))).squeeze S_ squeezes_S1_S_).sem
              (rv ![0, 0, 0] inb_S8x1024x256_S1x1024x256_0_0_0) (sv (k0_off8 (grid0.coords t)) (k0_off8_inb (grid0.coords t) k3 k0_h4)) h5 (h6 k0_h4)) fun _ => R
          else R) Q := by
  have hs4 := s.isLt
  by_cases h4 : 4 ≤ t.val
  · obtain rfl : r = 1 := by omega
    rw [dif_pos ((cond4_iff t).mpr h4)]
    have o7 := off7_eq t
    have o8 := off8_eq t
    rw [show t.val % 4 = s.val by omega] at o7 o8
    have e : (SL c t.val s : sProp 𝕄) ⊢ sl1 c s := by unfold SL; rw [if_neg (by omega), if_pos (by omega)]
    iintro ⟨#HR, #Hlev, HS, HO, Hk⟩
    ihave HS := e $$ HS
    unfold sl1
    icases HS with ⟨⟨Hat, -⟩, Hc, HT⟩
    iapply (wp_waitOne own snd κ 𝒱₀ c (sXS s) 0 (dst := sv (k0_off8 (grid0.coords t)) _) (by rw [rounds_xs]; decide) (sem_xs s o7 _) rfl (rem a b) 1
      (by unfold lvn; rw [role_xs]; exact Nat.zero_le _) (rem_above0 a b) W) $$ [Hat Hc HO]
    · isplitr; · iexact HR
      isplitr; · iexact Hlev
      isplitl [Hat]; · iexact Hat
      isplitl [Hc]; · iexact Hc
      iexact HO
    iintro ⟨Hat, Hp, HO⟩
    ihave Hp := (ent_of_eq (pay_xs own snd c s)) $$ Hp
    iapply Hk
    isplitr [HO]
    · unfold slotFree
      isplitl [Hp]; · iexact Hp
      isplitl [Hat]; · iexact Hat
      isplitl [HT]; · iexact HT
      rw [if_neg (by decide)]
      iempintro
    · iexists _; iexact HO
  · obtain rfl : r = 0 := by omega
    rw [dif_neg (fun h => h4 ((cond4_iff t).mp h))]
    iintro ⟨#HR, #Hlev, HS, HO, Hk⟩
    iapply Hk
    isplitl [HS]
    · iapply (SL_free0 c t.val s (by omega)) $$ HS
    · iexists _; iexact HO

/-- The copy across `x` of the half just put into a slot, and the chunk and the slot after it. -/
theorem run_xcopy (c : Dev nD) (t : Fin grid0.N) (h8 : t.val < 8) (s : Fin 4) (r : ℕ) (hs : t.val = r * 4 + s.val) (b : ℕ) (hb : b ≤ t.val) (W : Waits sig Unit)
    (k3 : k0_cond3 (grid0.coords t) = 1#1) {s₁ s₂ : DmaSem sig} (hs₁ : s₁ = sXS s) (hs₂ : s₂ = sXR ⟨t.val, h8⟩) {hlt : k0_dev8 c < nD} {hsc hsrc hdst hsem}
    (K : Prog (TpuEff nD τ sig (Elt F) Λ₀ .tc) PUnit) (Q : PUnit → sProp 𝕄) :
    iprop(Recs own snd κ ∗ ptO c (qd c * 8 + t.val) fullShare (ofChunks fun _ => own c t.val) ∗ ptS c s.val (ofSlots4 fun _ => snd c t.val)
        ∗ barX c ⟨t.val, h8⟩ ∗ Tk c (sXR ⟨t.val, h8⟩) 0 ∗ Cr c (sXR ⟨t.val, h8⟩) ∗ At c (sXR ⟨t.val, h8⟩) 0 ∗ gat3 c ⟨t.val, h8⟩
        ∗ At c (sXS s) r ∗ Tk c (sXS s) r ∗ (if r = 0 then Tk c (sXS s) 1 else emp) ∗ owes (c : Thread nD τ) (oweOn c (rem t.val b)) W
        ∗ ((CK own snd c (t.val + 1) b ⟨t.val, h8⟩ ∗ SL c (t.val + 1) s ∗ ∃ W, owes (c : Thread nD τ) (oweOn c (rem (t.val + 1) b)) W)
          -∗ wp frame (wpE (defs₀ (F := F)) 𝒱₀ (c : Thread nD τ) none) Set.univ K Q))
      ⊢ wp frame (wpE (defs₀ (F := F)) 𝒱₀ (c : Thread nD τ) none) Set.univ
          (.op (.enqueueDma (sv (k0_off16 (grid0.coords t)) (k0_off16_inb (grid0.coords t) k3))
            (.remote (Dev.tc (⟨k0_dev8 c, hlt⟩ : Dev nD) : Thread nD τ) (rv (k0_off15 (grid0.coords t)) (k0_off15_inb (grid0.coords t) k3)) (.dma s₁) hsc)
            (.dma s₂) hsrc hdst hsem) fun _ => K) Q := by
  have hs4 := s.isLt
  have hr : r < 2 := by omega
  have o16 := off16_eq t
  rw [show t.val % 4 = s.val by omega] at o16
  have o15 := off15_eq t
  have e : iprop(ptO c (qd c * 8 + t.val) fullShare (ofChunks fun _ => own c t.val) ∗ Cr c (sXR ⟨t.val, h8⟩) ∗ At c (sXR ⟨t.val, h8⟩) 0 ∗ gat3 c ⟨t.val, h8⟩)
      ⊢ (CK own snd c (t.val + 1) b ⟨t.val, h8⟩ : sProp 𝕄) := by
    unfold CK
    rw [if_neg (show ¬ t.val < b by omega), if_pos (show t.val < t.val + 1 by omega)]
    exact .rfl
  iintro ⟨#HR, Hp, Hs, HB, HT, Hc, Ha, Hg, ⟨HA, #Hr⟩, HTs, HT1, HO, Hk⟩
  iapply (wp_xsend own snd κ 𝒱₀ c _ t.val b h8 s r hr (Fin.ext (dev8_eq c)) hs₁ hs₂ o16 o15 W _ _) $$ [Hs HB HO HTs HT]
  · isplitr; · iexact HR
    isplitl [Hs]; · iexact Hs
    isplitl [HB]; · iexact HB
    isplitl [HO]; · iexact HO
    isplitl [HTs]; · iexact HTs
    isplitr; · iexact Hr
    iexact HT
  iintro ⟨Hcs, HO⟩
  iapply Hk
  isplitl [Hp Hc Ha Hg]
  · iapply e
    isplitl [Hp]; · iexact Hp
    isplitl [Hc]; · iexact Hc
    isplitl [Ha]; · iexact Ha
    iexact Hg
  isplitr [HO]
  · iapply (SL_used c t.val s r hr hs)
    isplitl [HA]
    · isplitl [HA]; · iexact HA
      iexact Hr
    isplitl [Hcs]; · iexact Hcs
    iexact HT1
  · iexists _; iexact HO

set_option maxHeartbeats 3200000 in
theorem run_comp (c : Dev nD) (t : Fin grid0.N) (h8 : t.val < 8) (b : ℕ) (hb : b ≤ t.val)
    (a3 : Memref sig .tc .vmem S4096x256 .bf16) (h3 : a3.IsWhole) (fa : (cc0_stg0_0 : Ref sig .tc).ty.Contents (Elt F)) (fw : Buf (Elt F) (a3.view.loc (c : Thread nD τ)))
    (hown : own c t.val = keepOf c (colsOf a3 fw) (rowsLo fa) (rowsHi fa)) (hsnd : snd c t.val = sendOf c (colsOf a3 fw) (rowsLo fa) (rowsHi fa))
    (hw : k0_chk1 (grid0.coords t) c (tb c)) (K : Prog (TpuEff nD τ sig (Elt F) Λ₀ .tc) PUnit) (Q : PUnit → sProp 𝕄) :
    iprop(Recs own snd κ ∗ levAts L lv ∗ (A2.view.loc (c : Thread nD τ) ↦{fullShare} fa) ∗ (a3.view.loc (c : Thread nD τ) ↦{fullShare} fw) ∗ St own snd c t.val b
        ∗ (((A2.view.loc (c : Thread nD τ) ↦{fullShare} fa) ∗ (a3.view.loc (c : Thread nD τ) ↦{fullShare} fw) ∗ St own snd c (t.val + 1) b)
          -∗ wp frame (wpE (defs₀ (F := F)) 𝒱₀ (c : Thread nD τ) none) Set.univ K Q))
      ⊢ wp frame (wpE (defs₀ (F := F)) 𝒱₀ (c : Thread nD τ) none) Set.univ (blkComp (grid0.coords t) a3 h3 c (tb c) hw K) Q := by
  have k3 := (cond3_iff t).mpr h8
  obtain ⟨s, r, hs⟩ : ∃ (s : Fin 4) (r : ℕ), t.val = r * 4 + s.val := ⟨⟨t.val % 4, Nat.mod_lt _ (by decide)⟩, t.val / 4, by simp only; omega⟩
  have hs4 := s.isLt
  have hr : r < 2 := by omega
  have o9 := off9_eq t c h8
  have o11 := off11_eq t c h8
  have o10 := off10_eq t
  have o12 := off12_eq t
  have o13 := off13_eq t
  have o14 := off14_eq t
  rw [show t.val % 4 = s.val by omega] at o10 o12 o13
  unfold blkComp
  rw [dif_pos k3, k0_part2_eq_skeleton]
  unfold k0_part2_skel
  simp only [Prog.lift, Prog.bind_op, Prog.bind_ret, Prog.pure_eq_ret]
  have e0 : CK own snd c t.val b ⟨t.val, h8⟩ = iprop((∃ f, ptO c (qd c * 8 + t.val) fullShare f) ∗ barX c ⟨t.val, h8⟩ ∗ Tk c (sXR ⟨t.val, h8⟩) 0 ∗ Cr c (sXR ⟨t.val, h8⟩) ∗ At c (sXR ⟨t.val, h8⟩) 0 ∗ gat3 c ⟨t.val, h8⟩) := by
    unfold CK; rw [if_neg (show ¬ t.val < b by omega), if_neg (show ¬ t.val < t.val by omega)]; rfl
  unfold St
  iintro ⟨#HR, #Hlev, HA, HW, ⟨⟨%W, HO⟩, HC, HS⟩, Hk⟩
  ihave H := (bigSep_univ_update (Ψ := fun k' => CK own snd c (t.val + 1) b k') (⟨t.val, h8⟩ : Fin 8) (fun j hj => by
    have : j.val ≠ t.val := fun h => hj (Fin.ext h)
    unfold CK
    by_cases h1 : j.val < b
    · rw [if_pos h1, if_pos h1]
    · rw [if_neg h1, if_neg h1]
      by_cases h2 : j.val < t.val
      · rw [if_pos h2, if_pos (by omega)]
      · rw [if_neg h2, if_neg (by omega)])) $$ HC
  icases H with ⟨HCk, HCb⟩
  ihave HCk := (ent_of_eq e0) $$ HCk
  icases HCk with ⟨⟨%f0, Hp⟩, HB, HT, Hc, Ha, Hg⟩
  ihave H := (bigSep_univ_update (Ψ := fun s' => SL c (t.val + 1) s') s (fun j hj => by
    have : j.val ≠ s.val := fun h => hj (Fin.ext h)
    have hj4 := j.isLt
    unfold SL
    by_cases h1 : t.val ≤ j.val
    · rw [if_pos h1, if_pos (by omega)]
    · rw [if_neg h1, if_neg (by omega)]
      by_cases h2 : t.val ≤ j.val + 4
      · rw [if_pos h2, if_pos (by omega)]
      · rw [if_neg h2, if_neg (by omega)])) $$ HS
  icases H with ⟨HSs, HSb⟩
  iapply (wp_ldW 𝒱₀ c a3 fw) $$ HW
  iintro HW
  iapply (wp_ldA 𝒱₀ c fa) $$ HA
  iintro HA
  iapply (wp_ldA 𝒱₀ c fa) $$ HA
  iintro HA
  rw [wp_bind]
  iapply (run_slot own snd κ 𝒱₀ c t h8 s r hs t.val b W k3) $$ [HSs HO Hk HA HW HCb HSb Hp HB HT Hc Ha Hg]
  isplitr; · iexact HR
  isplitr; · iexact Hlev
  isplitl [HSs]; · iexact HSs
  isplitl [HO]; · iexact HO
  unfold slotFree
  iintro ⟨⟨⟨%fs, Hs⟩, HAs, HTs, HT1⟩, %W', HO⟩
  by_cases hx : c.val / 8 = 0
  · rw [dif_pos ((cond5_iff c).mpr hx)]
    iapply (wp_ldO 𝒱₀ c f0 o9) $$ Hp
    iintro Hp
    iapply (wp_stO 𝒱₀ c f0 _ o9) $$ Hp
    iintro Hp
    iapply (wp_ldS 𝒱₀ c fs o10) $$ Hs
    iintro Hs
    iapply (wp_stS 𝒱₀ c fs _ o10) $$ Hs
    iintro Hs
    rw [dif_neg (fun h => (cond6_iff c).mp h hx), wp_ret]
    imodintro
    have ek : own c t.val = k0_pay5 (colsOf a3 fw) (rowsLo fa) := by rw [hown, keepOf, if_pos hx]
    have es : snd c t.val = k0_pay6 (colsOf a3 fw) (rowsHi fa) := by rw [hsnd, sendOf, if_pos hx]
    iapply (run_xcopy own snd κ 𝒱₀ c t h8 s r hs b hb W' k3 (sem_xs s o13 _) (sem_xr ⟨t.val, h8⟩ o14 _) K Q) $$ [HO Hk HA HW HCb HSb Hp HB HT Hc Ha Hg Hs HAs HTs HT1]
    rw [ek, es]
    isplitr; · iexact HR
    isplitl [Hp]; · iexact Hp
    isplitl [Hs]; · iexact Hs
    isplitl [HB]; · iexact HB
    isplitl [HT]; · iexact HT
    isplitl [Hc]; · iexact Hc
    isplitl [Ha]; · iexact Ha
    isplitl [Hg]; · iexact Hg
    isplitl [HAs]; · iexact HAs
    isplitl [HTs]; · iexact HTs
    isplitl [HT1]; · iexact HT1
    isplitl [HO]; · iexact HO
    iintro ⟨HCk, HSs, HO⟩
    iapply Hk
    isplitl [HA]; · iexact HA
    isplitl [HW]; · iexact HW
    isplitl [HO]; · iexact HO
    isplitl [HCb HCk]
    · iapply HCb; iexact HCk
    · iapply HSb; iexact HSs
  · rw [dif_neg (fun h => hx ((cond5_iff c).mp h)), dif_pos ((cond6_iff c).mpr hx)]
    iapply (wp_ldO 𝒱₀ c f0 o11) $$ Hp
    iintro Hp
    iapply (wp_stO 𝒱₀ c f0 _ o11) $$ Hp
    iintro Hp
    iapply (wp_ldS 𝒱₀ c fs o12) $$ Hs
    iintro Hs
    iapply (wp_stS 𝒱₀ c fs _ o12) $$ Hs
    iintro Hs
    rw [wp_ret]
    imodintro
    have ek : own c t.val = k0_pay7 (colsOf a3 fw) (rowsHi fa) := by rw [hown, keepOf, if_neg hx]
    have es : snd c t.val = k0_pay8 (colsOf a3 fw) (rowsLo fa) := by rw [hsnd, sendOf, if_neg hx]
    iapply (run_xcopy own snd κ 𝒱₀ c t h8 s r hs b hb W' k3 (sem_xs s o13 _) (sem_xr ⟨t.val, h8⟩ o14 _) K Q) $$ [HO Hk HA HW HCb HSb Hp HB HT Hc Ha Hg Hs HAs HTs HT1]
    rw [ek, es]
    isplitr; · iexact HR
    isplitl [Hp]; · iexact Hp
    isplitl [Hs]; · iexact Hs
    isplitl [HB]; · iexact HB
    isplitl [HT]; · iexact HT
    isplitl [Hc]; · iexact Hc
    isplitl [Ha]; · iexact Ha
    isplitl [Hg]; · iexact Hg
    isplitl [HAs]; · iexact HAs
    isplitl [HTs]; · iexact HTs
    isplitl [HT1]; · iexact HT1
    isplitl [HO]; · iexact HO
    iintro ⟨HCk, HSs, HO⟩
    iapply Hk
    isplitl [HA]; · iexact HA
    isplitl [HW]; · iexact HW
    isplitl [HO]; · iexact HO
    isplitl [HCb HCk]
    · iapply HCb; iexact HCk
    · iapply HSb; iexact HSs

end Cert.KernelIdeal.Work
-- ==== Proof.Waits.lean ====
/-
  The waits of the last point: a send slot's last copy four times, then each chunk's three copies out, then each copy in.
  Every semaphore is closed as its wait returns.
-/
module

public import proofs.«01_k».proof.Proof.State
public import proofs.«01_k».proof.Proof.Blocks

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-- The copies waited for: out of the send slots, out to the three others, in from the three others. -/
abbrev WJ := Fin 4 ⊕ (Fin 3 × Fin 8) ⊕ (Fin 3 × Fin 8)
def wsem : WJ → DmaSem sig | .inl s => sXS s | .inr (.inl p) => sGS p.1 p.2 | .inr (.inr p) => sGR p.1 p.2
def wpos : WJ → ℕ | .inl s => s.val | .inr (.inl p) => 4 + 8 * p.1.val + p.2.val | .inr (.inr p) => 28 + 8 * p.1.val + p.2.val
def wrnd : WJ → ℕ | .inl _ => 1 | .inr _ => 0

theorem wpos_inj : ∀ j j' : WJ, wpos j = wpos j' → j = j' := by decide +kernel
theorem wpos_lt : ∀ j : WJ, wpos j < 52 := by decide
theorem wrnd_rounds : ∀ j : WJ, wrnd j + 1 = roundsOf (wsem j)
  | .inl s => by rw [wsem, rounds_xs]; rfl
  | .inr (.inl p) => by rw [wsem, rounds_gs]; rfl
  | .inr (.inr p) => by rw [wsem, rounds_gr]; rfl

def todo (c : Dev nD) (j : WJ) : sProp 𝕄 := iprop(At c (wsem j) (wrnd j) ∗ Cr c (wsem j))
def done (c : Dev nD) (j : WJ) : sProp 𝕄 := iprop(pay own snd c (wsem j) ∗ semVal (dc c (wsem j)) 0)
/-- With the first `i` waits done. -/
def WS (R : sProp 𝕄) (c : Dev nD) (i : ℕ) : sProp 𝕄 :=
  iprop(R ∗ Recs own snd κ ∗ levAts L lv ∗ (∃ W, owes (c : Thread nD τ) (oweOn c ∅) W) ∗ bigSep Finset.univ fun j => if wpos j < i then done own snd c j else todo c j)

theorem wait_step {α : Type} (R : sProp 𝕄) (c : Dev nD) (j : WJ) (i : ℕ) (hp : wpos j = i) {s : DmaSem sig} (hs : s = wsem j)
    {sp sp' : Space} {e e' : EltTy} {sh sh' : Shape} {src : Memref sig .tc sp sh e} {dst : Memref sig .tc sp' sh' e'} {hsrc : src.view.WordExact} {hdst : dst.view.WordExact}
    (hN : dst.view.dmaCredit = NB) (k : PUnit → Prog (TpuEff nD τ sig (Elt F) Λ₀ .tc) α) (Q : α → sProp 𝕄)
    (h : WS own snd κ R c (i + 1) ⊢ wp frame (wpE (defs₀ (F := F)) 𝒱₀ (c : Thread nD τ) none) Set.univ (k ⟨⟩) Q) :
    WS own snd κ R c i ⊢ wp frame (wpE (defs₀ (F := F)) 𝒱₀ (c : Thread nD τ) none) Set.univ (.op (.waitDma2 s src dst hsrc hdst) k) Q := by
  subst hp
  have e1 : (if wpos j < wpos j then done own snd c j else todo c j) = iprop(At c (wsem j) (wrnd j) ∗ Cr c (wsem j)) := by rw [if_neg (Nat.lt_irrefl _)]; rfl
  have e2 : iprop(pay own snd c (wsem j) ∗ semVal (dc c (wsem j)) 0) = (if wpos j < wpos j + 1 then done own snd c j else todo c j) := by
    rw [if_pos (Nat.lt_succ_self _)]; rfl
  have h0 : lvn (wsem j) ≤ 200 := by
    unfold lvn; cases role (wsem j) with
    | st => exact Nat.zero_le _
    | xs _ => exact Nat.zero_le _
    | xr k => exact (show 2 + k.val ≤ 200 by omega)
    | gs _ _ => exact Nat.zero_le _
    | gr _ k => exact (show 100 + k.val ≤ 200 by omega)
  unfold WS
  iintro ⟨HF, #HR, #Hlev, ⟨%W, HO⟩, HT⟩
  ihave H := (bigSep_univ_update (Ψ := fun j' => if wpos j' < wpos j + 1 then done own snd c j' else todo c j') j (fun j' hj => by
    have : wpos j' ≠ wpos j := fun hh => hj (wpos_inj _ _ hh)
    by_cases h1 : wpos j' < wpos j
    · rw [if_pos h1, if_pos (by omega)]
    · rw [if_neg h1, if_neg (by omega)])) $$ HT
  icases H with ⟨Hj, Hb⟩
  ihave Hj := (ent_of_eq e1) $$ Hj
  icases Hj with ⟨⟨Hat, -⟩, Hc⟩
  iapply (wp_waitOne own snd κ 𝒱₀ c (wsem j) (wrnd j) (by rw [← wrnd_rounds]; exact Nat.lt_succ_self _) hs hN ∅ 200 h0 (fun n hn => absurd hn (Finset.notMem_empty n)) W) $$ [Hat Hc HO]
  · isplitr; · iexact HR
    isplitr; · iexact Hlev
    isplitl [Hat]; · iexact Hat
    isplitl [Hc]; · iexact Hc
    iexact HO
  iintro ⟨⟨Hat, -⟩, Hp, HO⟩
  ihave #HI := (Recs_dc own snd κ c (wsem j)) $$ HR
  imod (Rounds.cell_close EB (Rd own snd) (Set.mem_univ (κ (dc c (wsem j)))) id (duties_done own snd c (wsem j) (wrnd j + 1) (wrnd_rounds j).ge)) $$ [Hat] with Hs0
  · isplitr; · iexact HI
    iexact Hat
  iapply (show _ ⊢ _ from h)
  unfold WS
  isplitl [HF]; · iexact HF
  isplitr; · iexact HR
  isplitr; · iexact Hlev
  isplitl [HO]; · iexists _; iexact HO
  iapply Hb
  iapply (ent_of_eq e2)
  isplitl [Hp]; · iexact Hp
  iexact Hs0

theorem run_part3 (R : sProp 𝕄) (i : grid0.Coords) (a3 : Memref sig .tc .vmem S4096x256 .bf16) (h3 : a3.IsWhole) (c : Dev nD)
    (Q : PUnit → sProp 𝕄) (h : ∀ x, WS own snd κ R c 3 ⊢ Q x) :
    WS own snd κ R c 0 ⊢ wp frame (wpE (defs₀ (F := F)) 𝒱₀ (c : Thread nD τ) none) Set.univ
      (k0_part3 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part3_eq_skeleton]
  unfold k0_part3_skel
  simp only [Prog.lift, Prog.bind_op, Prog.bind_ret, Prog.pure_eq_ret]
  refine wait_step own snd κ 𝒱₀ R c (.inl 0) 0 rfl (sem_xs 0 rfl _) (by rfl) _ _ ?_
  refine wait_step own snd κ 𝒱₀ R c (.inl 1) 1 rfl (sem_xs 1 rfl _) (by rfl) _ _ ?_
  refine wait_step own snd κ 𝒱₀ R c (.inl 2) 2 rfl (sem_xs 2 rfl _) (by rfl) _ _ ?_
  rw [wp_ret]
  exact (h _).trans fupd_intro

theorem run_part4 (R : sProp 𝕄) (i : grid0.Coords) (a3 : Memref sig .tc .vmem S4096x256 .bf16) (h3 : a3.IsWhole) (c : Dev nD)
    (Q : PUnit → sProp 𝕄) (h : ∀ x, WS own snd κ R c 7 ⊢ Q x) :
    WS own snd κ R c 3 ⊢ wp frame (wpE (defs₀ (F := F)) 𝒱₀ (c : Thread nD τ) none) Set.univ
      (k0_part4 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part4_eq_skeleton]
  unfold k0_part4_skel
  simp only [Prog.lift, Prog.bind_op, Prog.bind_ret, Prog.pure_eq_ret]
  refine wait_step own snd κ 𝒱₀ R c (.inl 3) 3 rfl (sem_xs 3 rfl _) (by rfl) _ _ ?_
  refine wait_step own snd κ 𝒱₀ R c (.inr (.inl (0, 0))) 4 rfl (sem_gs0 0 rfl _) (by rfl) _ _ ?_
  refine wait_step own snd κ 𝒱₀ R c (.inr (.inl (0, 1))) 5 rfl (sem_gs0 1 rfl _) (by rfl) _ _ ?_
  refine wait_step own snd κ 𝒱₀ R c (.inr (.inl (0, 2))) 6 rfl (sem_gs0 2 rfl _) (by rfl) _ _ ?_
  rw [wp_ret]
  exact (h _).trans fupd_intro

theorem run_part5 (R : sProp 𝕄) (i : grid0.Coords) (a3 : Memref sig .tc .vmem S4096x256 .bf16) (h3 : a3.IsWhole) (c : Dev nD)
    (Q : PUnit → sProp 𝕄) (h : ∀ x, WS own snd κ R c 11 ⊢ Q x) :
    WS own snd κ R c 7 ⊢ wp frame (wpE (defs₀ (F := F)) 𝒱₀ (c : Thread nD τ) none) Set.univ
      (k0_part5 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part5_eq_skeleton]
  unfold k0_part5_skel
  simp only [Prog.lift, Prog.bind_op, Prog.bind_ret, Prog.pure_eq_ret]
  refine wait_step own snd κ 𝒱₀ R c (.inr (.inl (0, 3))) 7 rfl (sem_gs0 3 rfl _) (by rfl) _ _ ?_
  refine wait_step own snd κ 𝒱₀ R c (.inr (.inl (0, 4))) 8 rfl (sem_gs0 4 rfl _) (by rfl) _ _ ?_
  refine wait_step own snd κ 𝒱₀ R c (.inr (.inl (0, 5))) 9 rfl (sem_gs0 5 rfl _) (by rfl) _ _ ?_
  refine wait_step own snd κ 𝒱₀ R c (.inr (.inl (0, 6))) 10 rfl (sem_gs0 6 rfl _) (by rfl) _ _ ?_
  rw [wp_ret]
  exact (h _).trans fupd_intro

theorem run_part6 (R : sProp 𝕄) (i : grid0.Coords) (a3 : Memref sig .tc .vmem S4096x256 .bf16) (h3 : a3.IsWhole) (c : Dev nD)
    (Q : PUnit → sProp 𝕄) (h : ∀ x, WS own snd κ R c 15 ⊢ Q x) :
    WS own snd κ R c 11 ⊢ wp frame (wpE (defs₀ (F := F)) 𝒱₀ (c : Thread nD τ) none) Set.univ
      (k0_part6 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part6_eq_skeleton]
  unfold k0_part6_skel
  simp only [Prog.lift, Prog.bind_op, Prog.bind_ret, Prog.pure_eq_ret]
  refine wait_step own snd κ 𝒱₀ R c (.inr (.inl (0, 7))) 11 rfl (sem_gs0 7 rfl _) (by rfl) _ _ ?_
  refine wait_step own snd κ 𝒱₀ R c (.inr (.inl (1, 0))) 12 rfl (sem_gs1 0 rfl _) (by rfl) _ _ ?_
  refine wait_step own snd κ 𝒱₀ R c (.inr (.inl (1, 1))) 13 rfl (sem_gs1 1 rfl _) (by rfl) _ _ ?_
  refine wait_step own snd κ 𝒱₀ R c (.inr (.inl (1, 2))) 14 rfl (sem_gs1 2 rfl _) (by rfl) _ _ ?_
  rw [wp_ret]
  exact (h _).trans fupd_intro

theorem run_part7 (R : sProp 𝕄) (i : grid0.Coords) (a3 : Memref sig .tc .vmem S4096x256 .bf16) (h3 : a3.IsWhole) (c : Dev nD)
    (Q : PUnit → sProp 𝕄) (h : ∀ x, WS own snd κ R c 18 ⊢ Q x) :
    WS own snd κ R c 15 ⊢ wp frame (wpE (defs₀ (F := F)) 𝒱₀ (c : Thread nD τ) none) Set.univ
      (k0_part7 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part7_eq_skeleton]
  unfold k0_part7_skel
  simp only [Prog.lift, Prog.bind_op, Prog.bind_ret, Prog.pure_eq_ret]
  refine wait_step own snd κ 𝒱₀ R c (.inr (.inl (1, 3))) 15 rfl (sem_gs1 3 rfl _) (by rfl) _ _ ?_
  refine wait_step own snd κ 𝒱₀ R c (.inr (.inl (1, 4))) 16 rfl (sem_gs1 4 rfl _) (by rfl) _ _ ?_
  refine wait_step own snd κ 𝒱₀ R c (.inr (.inl (1, 5))) 17 rfl (sem_gs1 5 rfl _) (by rfl) _ _ ?_
  rw [wp_ret]
  exact (h _).trans fupd_intro

theorem run_part8 (R : sProp 𝕄) (i : grid0.Coords) (a3 : Memref sig .tc .vmem S4096x256 .bf16) (h3 : a3.IsWhole) (c : Dev nD)
    (Q : PUnit → sProp 𝕄) (h : ∀ x, WS own snd κ R c 22 ⊢ Q x) :
    WS own snd κ R c 18 ⊢ wp frame (wpE (defs₀ (F := F)) 𝒱₀ (c : Thread nD τ) none) Set.univ
      (k0_part8 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part8_eq_skeleton]
  unfold k0_part8_skel
  simp only [Prog.lift, Prog.bind_op, Prog.bind_ret, Prog.pure_eq_ret]
  refine wait_step own snd κ 𝒱₀ R c (.inr (.inl (1, 6))) 18 rfl (sem_gs1 6 rfl _) (by rfl) _ _ ?_
  refine wait_step own snd κ 𝒱₀ R c (.inr (.inl (1, 7))) 19 rfl (sem_gs1 7 rfl _) (by rfl) _ _ ?_
  refine wait_step own snd κ 𝒱₀ R c (.inr (.inl (2, 0))) 20 rfl (sem_gs2 0 rfl _) (by rfl) _ _ ?_
  refine wait_step own snd κ 𝒱₀ R c (.inr (.inl (2, 1))) 21 rfl (sem_gs2 1 rfl _) (by rfl) _ _ ?_
  rw [wp_ret]
  exact (h _).trans fupd_intro

theorem run_part9 (R : sProp 𝕄) (i : grid0.Coords) (a3 : Memref sig .tc .vmem S4096x256 .bf16) (h3 : a3.IsWhole) (c : Dev nD)
    (Q : PUnit → sProp 𝕄) (h : ∀ x, WS own snd κ R c 26 ⊢ Q x) :
    WS own snd κ R c 22 ⊢ wp frame (wpE (defs₀ (F := F)) 𝒱₀ (c : Thread nD τ) none) Set.univ
      (k0_part9 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 ) Q := by
  rw [k0_part9_eq_skeleton]
  unfold k0_part9_skel
  simp only [Prog.lift, Prog.bind_op, Prog.bind_ret, Prog.pure_eq_ret]
  refine wait_step own snd κ 𝒱₀ R c (.inr (.inl (2, 2))) 22 rfl (sem_gs2 2 rfl _) (by rfl) _ _ ?_
  refine wait_step own snd κ 𝒱₀ R c (.inr (.inl (2, 3))) 23 rfl (sem_gs2 3 rfl _) (by rfl) _ _ ?_
  refine wait_step own snd κ 𝒱₀ R c (.inr (.inl (2, 4))) 24 rfl (sem_gs2 4 rfl _) (by rfl) _ _ ?_
  refine wait_step own snd κ 𝒱₀ R c (.inr (.inl (2, 5))) 25 rfl (sem_gs2 5 rfl _) (by rfl) _ _ ?_
  rw [wp_ret]
  exact (h _).trans fupd_intro

theorem run_part10 (R : sProp 𝕄) (i : grid0.Coords) (a3 : Memref sig .tc .vmem S4096x256 .bf16) (h3 : a3.IsWhole) (c : Dev nD) (v2 : BitVec 32) (v8 : BitVec 32) (v11 : BitVec 32)
    (Q : (Σ' (_ : BitVec 32), BitVec 32) → sProp 𝕄) (h : ∀ x, WS own snd κ R c 29 ⊢ Q x) :
    WS own snd κ R c 26 ⊢ wp frame (wpE (defs₀ (F := F)) 𝒱₀ (c : Thread nD τ) none) Set.univ
      (k0_part10 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v8 v11) Q := by
  rw [k0_part10_eq_skeleton]
  unfold k0_part10_skel
  simp only [Prog.lift, Prog.bind_op, Prog.bind_ret, Prog.pure_eq_ret]
  refine wait_step own snd κ 𝒱₀ R c (.inr (.inl (2, 6))) 26 rfl (sem_gs2 6 rfl _) (by rfl) _ _ ?_
  refine wait_step own snd κ 𝒱₀ R c (.inr (.inl (2, 7))) 27 rfl (sem_gs2 7 rfl _) (by rfl) _ _ ?_
  refine wait_step own snd κ 𝒱₀ R c (.inr (.inr (0, 0))) 28 rfl (sem_gr0 0 rfl _) (by rfl) _ _ ?_
  rw [wp_ret]
  exact (h _).trans fupd_intro

theorem run_part11 (R : sProp 𝕄) (i : grid0.Coords) (a3 : Memref sig .tc .vmem S4096x256 .bf16) (h3 : a3.IsWhole) (c : Dev nD) (v2 : BitVec 32) (v8 : BitVec 32) (v11 : BitVec 32) (v208 : BitVec 32) (c0_i32_278 : BitVec 32)
    (Q : PUnit → sProp 𝕄) (h : ∀ x, WS own snd κ R c 31 ⊢ Q x) :
    WS own snd κ R c 29 ⊢ wp frame (wpE (defs₀ (F := F)) 𝒱₀ (c : Thread nD τ) none) Set.univ
      (k0_part11 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v8 v11 v208 c0_i32_278) Q := by
  rw [k0_part11_eq_skeleton]
  unfold k0_part11_skel
  simp only [Prog.lift, Prog.bind_op, Prog.bind_ret, Prog.pure_eq_ret]
  refine wait_step own snd κ 𝒱₀ R c (.inr (.inr (0, 1))) 29 rfl (sem_gr0 1 rfl _) (by rfl) _ _ ?_
  refine wait_step own snd κ 𝒱₀ R c (.inr (.inr (0, 2))) 30 rfl (sem_gr0 2 rfl _) (by rfl) _ _ ?_
  rw [wp_ret]
  exact (h _).trans fupd_intro

theorem run_part12 (R : sProp 𝕄) (i : grid0.Coords) (a3 : Memref sig .tc .vmem S4096x256 .bf16) (h3 : a3.IsWhole) (c : Dev nD) (v2 : BitVec 32) (v8 : BitVec 32) (v11 : BitVec 32)
    (Q : PUnit → sProp 𝕄) (h : ∀ x, WS own snd κ R c 34 ⊢ Q x) :
    WS own snd κ R c 31 ⊢ wp frame (wpE (defs₀ (F := F)) 𝒱₀ (c : Thread nD τ) none) Set.univ
      (k0_part12 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v8 v11) Q := by
  rw [k0_part12_eq_skeleton]
  unfold k0_part12_skel
  simp only [Prog.lift, Prog.bind_op, Prog.bind_ret, Prog.pure_eq_ret]
  refine wait_step own snd κ 𝒱₀ R c (.inr (.inr (0, 3))) 31 rfl (sem_gr0 3 rfl _) (by rfl) _ _ ?_
  refine wait_step own snd κ 𝒱₀ R c (.inr (.inr (0, 4))) 32 rfl (sem_gr0 4 rfl _) (by rfl) _ _ ?_
  refine wait_step own snd κ 𝒱₀ R c (.inr (.inr (0, 5))) 33 rfl (sem_gr0 5 rfl _) (by rfl) _ _ ?_
  rw [wp_ret]
  exact (h _).trans fupd_intro

theorem run_part13 (R : sProp 𝕄) (i : grid0.Coords) (a3 : Memref sig .tc .vmem S4096x256 .bf16) (h3 : a3.IsWhole) (c : Dev nD) (v2 : BitVec 32) (v5 : BitVec 32) (v8 : BitVec 32) (v11 : BitVec 32)
    (Q : (Σ' (_ : BitVec 32), BitVec 32) → sProp 𝕄) (h : ∀ x, WS own snd κ R c 36 ⊢ Q x) :
    WS own snd κ R c 34 ⊢ wp frame (wpE (defs₀ (F := F)) 𝒱₀ (c : Thread nD τ) none) Set.univ
      (k0_part13 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v8 v11) Q := by
  rw [k0_part13_eq_skeleton]
  unfold k0_part13_skel
  simp only [Prog.lift, Prog.bind_op, Prog.bind_ret, Prog.pure_eq_ret]
  refine wait_step own snd κ 𝒱₀ R c (.inr (.inr (0, 6))) 34 rfl (sem_gr0 6 rfl _) (by rfl) _ _ ?_
  refine wait_step own snd κ 𝒱₀ R c (.inr (.inr (0, 7))) 35 rfl (sem_gr0 7 rfl _) (by rfl) _ _ ?_
  rw [wp_ret]
  exact (h _).trans fupd_intro

theorem run_part14 (R : sProp 𝕄) (i : grid0.Coords) (a3 : Memref sig .tc .vmem S4096x256 .bf16) (h3 : a3.IsWhole) (c : Dev nD) (v2 : BitVec 32) (v5 : BitVec 32) (v9 : BitVec 32) (v295 : BitVec 32) (c1_i32_364 : BitVec 32)
    (Q : PUnit → sProp 𝕄) (h : ∀ x, WS own snd κ R c 38 ⊢ Q x) :
    WS own snd κ R c 36 ⊢ wp frame (wpE (defs₀ (F := F)) 𝒱₀ (c : Thread nD τ) none) Set.univ
      (k0_part14 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v9 v295 c1_i32_364) Q := by
  rw [k0_part14_eq_skeleton]
  unfold k0_part14_skel
  simp only [Prog.lift, Prog.bind_op, Prog.bind_ret, Prog.pure_eq_ret]
  refine wait_step own snd κ 𝒱₀ R c (.inr (.inr (1, 0))) 36 rfl (sem_gr1 0 rfl _) (by rfl) _ _ ?_
  refine wait_step own snd κ 𝒱₀ R c (.inr (.inr (1, 1))) 37 rfl (sem_gr1 1 rfl _) (by rfl) _ _ ?_
  rw [wp_ret]
  exact (h _).trans fupd_intro

theorem run_part15 (R : sProp 𝕄) (i : grid0.Coords) (a3 : Memref sig .tc .vmem S4096x256 .bf16) (h3 : a3.IsWhole) (c : Dev nD) (v2 : BitVec 32) (v5 : BitVec 32) (v9 : BitVec 32)
    (Q : (Σ' (_ : BitVec 32), BitVec 32) → sProp 𝕄) (h : ∀ x, WS own snd κ R c 41 ⊢ Q x) :
    WS own snd κ R c 38 ⊢ wp frame (wpE (defs₀ (F := F)) 𝒱₀ (c : Thread nD τ) none) Set.univ
      (k0_part15 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v9) Q := by
  rw [k0_part15_eq_skeleton]
  unfold k0_part15_skel
  simp only [Prog.lift, Prog.bind_op, Prog.bind_ret, Prog.pure_eq_ret]
  refine wait_step own snd κ 𝒱₀ R c (.inr (.inr (1, 2))) 38 rfl (sem_gr1 2 rfl _) (by rfl) _ _ ?_
  refine wait_step own snd κ 𝒱₀ R c (.inr (.inr (1, 3))) 39 rfl (sem_gr1 3 rfl _) (by rfl) _ _ ?_
  refine wait_step own snd κ 𝒱₀ R c (.inr (.inr (1, 4))) 40 rfl (sem_gr1 4 rfl _) (by rfl) _ _ ?_
  rw [wp_ret]
  exact (h _).trans fupd_intro

theorem run_part16 (R : sProp 𝕄) (i : grid0.Coords) (a3 : Memref sig .tc .vmem S4096x256 .bf16) (h3 : a3.IsWhole) (c : Dev nD) (v2 : BitVec 32) (v5 : BitVec 32) (v9 : BitVec 32) (v352 : BitVec 32) (c0_i32_422 : BitVec 32)
    (Q : PUnit → sProp 𝕄) (h : ∀ x, WS own snd κ R c 43 ⊢ Q x) :
    WS own snd κ R c 41 ⊢ wp frame (wpE (defs₀ (F := F)) 𝒱₀ (c : Thread nD τ) none) Set.univ
      (k0_part16 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v5 v9 v352 c0_i32_422) Q := by
  rw [k0_part16_eq_skeleton]
  unfold k0_part16_skel
  simp only [Prog.lift, Prog.bind_op, Prog.bind_ret, Prog.pure_eq_ret]
  refine wait_step own snd κ 𝒱₀ R c (.inr (.inr (1, 5))) 41 rfl (sem_gr1 5 rfl _) (by rfl) _ _ ?_
  refine wait_step own snd κ 𝒱₀ R c (.inr (.inr (1, 6))) 42 rfl (sem_gr1 6 rfl _) (by rfl) _ _ ?_
  rw [wp_ret]
  exact (h _).trans fupd_intro

theorem run_part17 (R : sProp 𝕄) (i : grid0.Coords) (a3 : Memref sig .tc .vmem S4096x256 .bf16) (h3 : a3.IsWhole) (c : Dev nD) (v2 : BitVec 32) (v9 : BitVec 32) (v12 : BitVec 32)
    (Q : PUnit → sProp 𝕄) (h : ∀ x, WS own snd κ R c 46 ⊢ Q x) :
    WS own snd κ R c 43 ⊢ wp frame (wpE (defs₀ (F := F)) 𝒱₀ (c : Thread nD τ) none) Set.univ
      (k0_part17 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v9 v12) Q := by
  rw [k0_part17_eq_skeleton]
  unfold k0_part17_skel
  simp only [Prog.lift, Prog.bind_op, Prog.bind_ret, Prog.pure_eq_ret]
  refine wait_step own snd κ 𝒱₀ R c (.inr (.inr (1, 7))) 43 rfl (sem_gr1 7 rfl _) (by rfl) _ _ ?_
  refine wait_step own snd κ 𝒱₀ R c (.inr (.inr (2, 0))) 44 rfl (sem_gr2 0 rfl _) (by rfl) _ _ ?_
  refine wait_step own snd κ 𝒱₀ R c (.inr (.inr (2, 1))) 45 rfl (sem_gr2 1 rfl _) (by rfl) _ _ ?_
  rw [wp_ret]
  exact (h _).trans fupd_intro

theorem run_part18 (R : sProp 𝕄) (i : grid0.Coords) (a3 : Memref sig .tc .vmem S4096x256 .bf16) (h3 : a3.IsWhole) (c : Dev nD) (v2 : BitVec 32) (v9 : BitVec 32) (v12 : BitVec 32)
    (Q : (Σ' (_ : BitVec 32), BitVec 32) → sProp 𝕄) (h : ∀ x, WS own snd κ R c 48 ⊢ Q x) :
    WS own snd κ R c 46 ⊢ wp frame (wpE (defs₀ (F := F)) 𝒱₀ (c : Thread nD τ) none) Set.univ
      (k0_part18 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v9 v12) Q := by
  rw [k0_part18_eq_skeleton]
  unfold k0_part18_skel
  simp only [Prog.lift, Prog.bind_op, Prog.bind_ret, Prog.pure_eq_ret]
  refine wait_step own snd κ 𝒱₀ R c (.inr (.inr (2, 2))) 46 rfl (sem_gr2 2 rfl _) (by rfl) _ _ ?_
  refine wait_step own snd κ 𝒱₀ R c (.inr (.inr (2, 3))) 47 rfl (sem_gr2 3 rfl _) (by rfl) _ _ ?_
  rw [wp_ret]
  exact (h _).trans fupd_intro

theorem run_part19 (R : sProp 𝕄) (i : grid0.Coords) (a3 : Memref sig .tc .vmem S4096x256 .bf16) (h3 : a3.IsWhole) (c : Dev nD) (v2 : BitVec 32) (v9 : BitVec 32) (v12 : BitVec 32) (v439 : BitVec 32) (c1_i32_508 : BitVec 32)
    (Q : PUnit → sProp 𝕄) (h : ∀ x, WS own snd κ R c 50 ⊢ Q x) :
    WS own snd κ R c 48 ⊢ wp frame (wpE (defs₀ (F := F)) 𝒱₀ (c : Thread nD τ) none) Set.univ
      (k0_part19 i (Memref.whole main_v14) (Memref.isWhole_whole _) (Memref.whole cc0_stg0_0) (Memref.isWhole_whole _) a3 h3 O4 hO4 SB hSB RX hRX cc0_scratch2 cc0_scratch3 cc0_scratch4 cc0_scratch5 cc0_scratch6 cc0_scratch7 cc0_scratch8 cc0_scratch9 v2 v9 v12 v439 c1_i32_508) Q := by
  rw [k0_part19_eq_skeleton]
  unfold k0_part19_skel
  simp only [Prog.lift, Prog.bind_op, Prog.bind_ret, Prog.pure_eq_ret]
  refine wait_step own snd κ 𝒱₀ R c (.inr (.inr (2, 4))) 48 rfl (sem_gr2 4 rfl _) (by rfl) _ _ ?_
  refine wait_step own snd κ 𝒱₀ R c (.inr (.inr (2, 5))) 49 rfl (sem_gr2 5 rfl _) (by rfl) _ _ ?_
  rw [wp_ret]
  exact (h _).trans fupd_intro

theorem wp_bind_of {α β : Type} (R : sProp 𝕄) (c : Dev nD) (i : ℕ) (p : Prog (TpuEff nD τ sig (Elt F) Λ₀ .tc) α) (k : α → Prog (TpuEff nD τ sig (Elt F) Λ₀ .tc) β) (Q : β → sProp 𝕄)
    (h : WS own snd κ R c i ⊢ wp frame (wpE (defs₀ (F := F)) 𝒱₀ (c : Thread nD τ) none) Set.univ p fun a => wp frame (wpE (defs₀ (F := F)) 𝒱₀ (c : Thread nD τ) none) Set.univ (k a) Q) :
    WS own snd κ R c i ⊢ wp frame (wpE (defs₀ (F := F)) 𝒱₀ (c : Thread nD τ) none) Set.univ (p >>= k) Q := by
  rw [wp_bind]; exact h

/-- All the waits of the last point. -/
theorem run_waits (R : sProp 𝕄) (c : Dev nD) (t : Fin grid0.N) (ht : t.val = 9) (a3 : Memref sig .tc .vmem S4096x256 .bf16) (h3 : a3.IsWhole)
    (hw : k0_chk1 (grid0.coords t) c (tb c)) (K : Prog (TpuEff nD τ sig (Elt F) Λ₀ .tc) PUnit) (Q : PUnit → sProp 𝕄)
    (h : WS own snd κ R c 52 ⊢ wp frame (wpE (defs₀ (F := F)) 𝒱₀ (c : Thread nD τ) none) Set.univ K Q) :
    WS own snd κ R c 0 ⊢ wp frame (wpE (defs₀ (F := F)) 𝒱₀ (c : Thread nD τ) none) Set.univ (blkFin (grid0.coords t) a3 h3 c (tb c) hw K) Q := by
  unfold blkFin
  rw [dif_pos ((cond7_iff t).mpr ht)]
  refine wp_bind_of own snd κ 𝒱₀ R c _ _ _ _ (run_part3 own snd κ 𝒱₀ R _ _ _ c _ fun _ => ?_)
  refine wp_bind_of own snd κ 𝒱₀ R c _ _ _ _ (run_part4 own snd κ 𝒱₀ R _ _ _ c _ fun _ => ?_)
  refine wp_bind_of own snd κ 𝒱₀ R c _ _ _ _ (run_part5 own snd κ 𝒱₀ R _ _ _ c _ fun _ => ?_)
  refine wp_bind_of own snd κ 𝒱₀ R c _ _ _ _ (run_part6 own snd κ 𝒱₀ R _ _ _ c _ fun _ => ?_)
  refine wp_bind_of own snd κ 𝒱₀ R c _ _ _ _ (run_part7 own snd κ 𝒱₀ R _ _ _ c _ fun _ => ?_)
  refine wp_bind_of own snd κ 𝒱₀ R c _ _ _ _ (run_part8 own snd κ 𝒱₀ R _ _ _ c _ fun _ => ?_)
  refine wp_bind_of own snd κ 𝒱₀ R c _ _ _ _ (run_part9 own snd κ 𝒱₀ R _ _ _ c _ fun _ => ?_)
  refine wp_bind_of own snd κ 𝒱₀ R c _ _ _ _ (run_part10 own snd κ 𝒱₀ R _ _ _ c _ _ _ _ fun ⟨_, _⟩ => ?_)
  refine wp_bind_of own snd κ 𝒱₀ R c _ _ _ _ (run_part11 own snd κ 𝒱₀ R _ _ _ c _ _ _ _ _ _ fun _ => ?_)
  refine wp_bind_of own snd κ 𝒱₀ R c _ _ _ _ (run_part12 own snd κ 𝒱₀ R _ _ _ c _ _ _ _ fun _ => ?_)
  refine wp_bind_of own snd κ 𝒱₀ R c _ _ _ _ (run_part13 own snd κ 𝒱₀ R _ _ _ c _ _ _ _ _ fun ⟨_, _⟩ => ?_)
  refine wp_bind_of own snd κ 𝒱₀ R c _ _ _ _ (run_part14 own snd κ 𝒱₀ R _ _ _ c _ _ _ _ _ _ fun _ => ?_)
  refine wp_bind_of own snd κ 𝒱₀ R c _ _ _ _ (run_part15 own snd κ 𝒱₀ R _ _ _ c _ _ _ _ fun ⟨_, _⟩ => ?_)
  refine wp_bind_of own snd κ 𝒱₀ R c _ _ _ _ (run_part16 own snd κ 𝒱₀ R _ _ _ c _ _ _ _ _ _ fun _ => ?_)
  refine wp_bind_of own snd κ 𝒱₀ R c _ _ _ _ (run_part17 own snd κ 𝒱₀ R _ _ _ c _ _ _ _ fun _ => ?_)
  refine wp_bind_of own snd κ 𝒱₀ R c _ _ _ _ (run_part18 own snd κ 𝒱₀ R _ _ _ c _ _ _ _ fun ⟨_, _⟩ => ?_)
  refine wp_bind_of own snd κ 𝒱₀ R c _ _ _ _ (run_part19 own snd κ 𝒱₀ R _ _ _ c _ _ _ _ _ _ fun _ => ?_)
  simp only [Prog.lift, Prog.bind_op, Prog.bind_ret, Prog.pure_eq_ret]
  refine wait_step own snd κ 𝒱₀ R c (.inr (.inr (2, 6))) 50 rfl (sem_gr2 6 rfl _) (by rfl) _ _ ?_
  refine wait_step own snd κ 𝒱₀ R c (.inr (.inr (2, 7))) 51 rfl (sem_gr2 7 rfl _) (by rfl) _ _ ?_
  exact h

end Cert.KernelIdeal.Work
-- ==== Proof.Pieces.lean ====
/-
  The kernel's three buffers as the pieces the protocol moves: the output by the columns each device of a group computes,
  the send and receive buffers by slots.
-/
module

public import proofs.«01_k».proof.Proof.State

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The quarter of the columns that a device itself (0) or one of its three neighbours computes. -/
def qq (c : Dev nD) (q : Fin 4) : ℕ := Fin.cases (qd c) (fun g => qd (gp g c)) q
theorem qq_lt : ∀ (c : Dev nD) (q : Fin 4), qq c q < 4 := by decide +kernel
theorem qq_inj : ∀ (c : Dev nD) (q q' : Fin 4), qq c q = qq c q' → q = q' := by decide +kernel
theorem qq_surj : ∀ (c : Dev nD) (n : Fin 4), ∃ q, qq c q = n.val := by decide +kernel

abbrev locO (c : Dev nD) := (O4 : Memref sig .tc .vmem S1x1024x8192 .bf16).view.loc (c : Thread nD τ)
abbrev locS (c : Dev nD) := (SB : Memref sig .tc .vmem S4x1024x256 .bf16).view.loc (c : Thread nD τ)
abbrev locR (c : Dev nD) := (RX : Memref sig .tc .vmem S8x1024x256 .bf16).view.loc (c : Thread nD τ)

theorem cols_cover (c : Dev nD) : (Finset.univ : Finset (Fin 4 × Fin 8)).biUnion (fun p => colSet (qq c p.1 * 8 + p.2.val)) = Finset.univ := by
  ext i
  simp only [Finset.mem_biUnion, Finset.mem_univ, _root_.true_and, iff_true, mem_colSet]
  have h : (i 2).val < 8192 := (i 2).isLt
  obtain ⟨q, hq⟩ := qq_surj c ⟨(i 2).val / 256 / 8, by omega⟩
  refine ⟨(q, ⟨(i 2).val / 256 % 8, Nat.mod_lt _ (by decide)⟩), ?_⟩
  rw [hq]
  show (i 2).val / 256 = (i 2).val / 256 / 8 * 8 + (i 2).val / 256 % 8
  omega

theorem O_pieces (c : Dev nD) (f : (cc0_stg2_0 : Ref sig .tc).ty.Contents (Elt F)) :
    (locO c ↦{fullShare} f : sProp 𝕄) = iprop((bigSep Finset.univ fun k : Fin 8 => ptO c (qd c * 8 + k.val) fullShare f)
      ∗ (bigSep Finset.univ fun k : Fin 8 => ptO c (qd (gp 0 c) * 8 + k.val) fullShare f)
      ∗ (bigSep Finset.univ fun k : Fin 8 => ptO c (qd (gp 1 c) * 8 + k.val) fullShare f)
      ∗ bigSep Finset.univ fun k : Fin 8 => ptO c (qd (gp 2 c) * 8 + k.val) fullShare f) := by
  have h := pointsTo_biUnion (Ix := Unit) (Name := ℕ) (U := UU) (Lvl := ℕ) (ℓ := locO c) (q := fullShare) (f := f) (Finset.univ : Finset (Fin 4 × Fin 8))
    (fun p => colSet (qq c p.1 * 8 + p.2.val)) (fun p _ p' _ hp => colSet_disj fun he => hp (by
      have he' : qq c p.1 * 8 + p.2.val = qq c p'.1 * 8 + p'.2.val := he
      have h1 := p.2.isLt
      have h2 := p'.2.isLt
      exact Prod.ext (qq_inj c _ _ (by omega)) (Fin.ext (show p.2.val = p'.2.val by omega))))
  rw [cols_cover] at h
  rw [h, bigSep_univ_prod]
  exact bigSep_univ_eq_bigSepL [(0 : Fin 4), 1, 2, 3] (by decide) (by decide) _

theorem S_pieces (c : Dev nD) (f : (cc0_scratch0 : Ref sig .tc).ty.Contents (Elt F)) :
    (locS c ↦{fullShare} f : sProp 𝕄) = bigSep Finset.univ fun s : Fin 4 => ptS c s.val f := by
  have h := pointsTo_biUnion (Ix := Unit) (Name := ℕ) (U := UU) (Lvl := ℕ) (ℓ := locS c) (q := fullShare) (f := f) (Finset.univ : Finset (Fin 4))
    (fun s => slot4 s.val) (fun p _ p' _ hp => slot4_disj fun he => hp (Fin.ext he))
  rw [slot4_cover] at h
  exact h
theorem R_pieces (c : Dev nD) (f : (cc0_scratch1 : Ref sig .tc).ty.Contents (Elt F)) :
    (locR c ↦{fullShare} f : sProp 𝕄) = bigSep Finset.univ fun s : Fin 8 => ptR c s.val f := by
  have h := pointsTo_biUnion (Ix := Unit) (Name := ℕ) (U := UU) (Lvl := ℕ) (ℓ := locR c) (q := fullShare) (f := f) (Finset.univ : Finset (Fin 8))
    (fun s => slot8 s.val) (fun p _ p' _ hp => slot8_disj fun he => hp (Fin.ext he))
  rw [slot8_cover] at h
  exact h

/-- The send slots joined, whatever each holds. -/
theorem S_join (c : Dev nD) : (bigSep Finset.univ fun s : Fin 4 => iprop(∃ f, ptS c s.val f) : sProp 𝕄) ⊢ iprop(∃ f, locS c ↦{fullShare} f) := by
  have h1 := bigSep_exists_pi (M := 𝕄) (Finset.univ : Finset (Fin 4)) (fun s (f : (cc0_scratch0 : Ref sig .tc).ty.Contents (Elt F)) => ptS c s.val f)
  refine h1.trans ?_
  iintro ⟨%fs, H⟩
  have h := pointsTo_biUnion_join (Ix := Unit) (Name := ℕ) (U := UU) (Lvl := ℕ) (ℓ := locS c) (q := fullShare) (Finset.univ : Finset (Fin 4))
    (fun s => slot4 s.val) fs (fs 0) (fun p _ p' _ hp => slot4_disj fun he => hp (Fin.ext he))
  rw [slot4_cover] at h
  ihave H := h $$ H
  icases H with ⟨%g, -, H⟩
  iexists g
  iexact H

end Cert.KernelIdeal.Work
-- ==== Proof.Gather.lean ====
/-
  The run of the gathering block.
-/
module

public import proofs.«01_k».proof.Proof.State

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

omit [FloatOps F] in
/-- A finished chunk is held in three shares, one per copy. -/
theorem ptO_shares (c : Dev nD) (j : ℕ) (f : (cc0_stg2_0 : Ref sig .tc).ty.Contents (Elt F)) :
    (ptO c j fullShare f : sProp 𝕄) ⊣⊢ iprop(ptO c j (sh 0) f ∗ ptO c j (sh 1) f ∗ ptO c j (sh 2) f) := by
  have h1 := pointsTo_share (Ix := Unit) (Name := ℕ) (U := UU) (Lvl := ℕ) (ℓ := (O4 : Memref sig .tc .vmem S1x1024x8192 .bf16).view.loc (c : Thread nD τ)) (I := colSet j) (f := f) (PosShare.mem_left_op_right fullShare)
  have h2 := pointsTo_share (Ix := Unit) (Name := ℕ) (U := UU) (Lvl := ℕ) (ℓ := (O4 : Memref sig .tc .vmem S1x1024x8192 .bf16).view.loc (c : Thread nD τ)) (I := colSet j) (f := f) (PosShare.mem_left_op_right fullShare.right)
  constructor
  · refine h1.1.trans (sep_mono_right h2.1)
  · refine (sep_mono_right h2.2).trans h1.2

set_option maxHeartbeats 1600000 in
theorem run_gather (c : Dev nD) (t : Fin grid0.N) (k : Fin 8) (ht : t.val = k.val + 2) (a : ℕ) (ha : k.val < a) (ha8 : a ≤ 8)
    (a3 : Memref sig .tc .vmem S4096x256 .bf16) (h3 : a3.IsWhole) (hw : k0_chk1 (grid0.coords t) c (tb c)) (K : Prog (TpuEff nD τ sig (Elt F) Λ₀ .tc) PUnit) (Q : PUnit → sProp 𝕄) :
    iprop(Recs own snd κ ∗ levAts L lv ∗ St own snd c a k.val ∗ (St own snd c a (k.val + 1) -∗ wp frame (wpE (defs₀ (F := F)) 𝒱₀ (c : Thread nD τ) none) Set.univ K Q))
      ⊢ wp frame (wpE (defs₀ (F := F)) 𝒱₀ (c : Thread nD τ) none) Set.univ (blkGather (grid0.coords t) a3 h3 c (tb c) hw K) Q := by
  have h2 : 2 ≤ t.val := by omega
  have hk : t.val - 2 = k.val := by omega
  have o1 := off1_eq t h2
  have o2 := off2_eq t h2
  have o3 := off3_eq t c h2
  have o4 := off4_eq t h2
  have o5 := off5_eq t h2
  have o6 := off6_eq t c h2
  rw [hk] at o1 o2 o3 o4 o5 o6
  unfold blkGather
  rw [dif_pos ((cond2_iff t).mpr h2)]
  rw [k0_part1_eq_skeleton]
  unfold k0_part1_skel
  simp only [Prog.lift, Prog.bind_op, Prog.bind_ret, Prog.pure_eq_ret]
  have e1 : CK own snd c a k.val k = iprop(ptO c (qd c * 8 + k.val) fullShare (ofChunks fun _ => own c k.val) ∗ Cr c (sXR k) ∗ At c (sXR k) 0
      ∗ (barG c 0 k ∗ Tk c (sGR 0 k) 0 ∗ Tk c (sGS 0 k) 0 ∗ At c (sGS 0 k) 0) ∗ (barG c 1 k ∗ Tk c (sGR 1 k) 0 ∗ Tk c (sGS 1 k) 0 ∗ At c (sGS 1 k) 0)
      ∗ (barG c 2 k ∗ Tk c (sGR 2 k) 0 ∗ Tk c (sGS 2 k) 0 ∗ At c (sGS 2 k) 0)) := by unfold CK; rw [if_neg (by omega), if_pos ha]; rfl
  have e2 : iprop(ptR c k.val (ofSlots8 (snd (xp c))) ∗ At c (sXR k) 1 ∗ (At c (sGS 0 k) 0 ∗ Cr c (sGS 0 k)) ∗ (At c (sGS 1 k) 0 ∗ Cr c (sGS 1 k)) ∗ (At c (sGS 2 k) 0 ∗ Cr c (sGS 2 k)))
      = CK own snd c a (k.val + 1) k := by unfold CK; rw [if_pos (by omega)]; rfl
  unfold St
  iintro ⟨#HR, #Hlev, ⟨⟨%W, HO⟩, HC, HS⟩, Hk⟩
  ihave H := (bigSep_univ_update (Ψ := fun k' => CK own snd c a (k.val + 1) k') k (fun j hj => by
    have : j.val ≠ k.val := fun h => hj (Fin.ext h)
    unfold CK
    by_cases h1 : j.val < k.val
    · rw [if_pos h1, if_pos (by omega)]
    · rw [if_neg h1, if_neg (by omega)])) $$ HC
  icases H with ⟨HCk, HCb⟩
  ihave HCk := (ent_of_eq e1) $$ HCk
  icases HCk with ⟨Hp, Hc, ⟨Hat, -⟩, ⟨HB0, HT0, HS0, ⟨HA0, #Hr0⟩⟩, ⟨HB1, HT1, HS1, ⟨HA1, #Hr1⟩⟩, ⟨HB2, HT2, HS2, ⟨HA2, #Hr2⟩⟩⟩
  -- the wait for the half that arrives
  iapply (wp_waitOne own snd κ 𝒱₀ c (sXR k) 0 (dst := rv (k0_off2 (grid0.coords t)) _) (by rw [rounds_xr]; exact Nat.one_pos) (sem_xr k o1 _) rfl (rem a k.val) (2 + k.val)
    (by unfold lvn; rw [role_xr]) (rem_above a k.val k.val ha ha8 (by omega)) W) $$ [Hat Hc HO]
  · isplitr; · iexact HR
    isplitr; · iexact Hlev
    isplitl [Hat]; · iexact Hat
    isplitl [Hc]; · iexact Hc
    iexact HO
  iintro ⟨Hat, Hrx, HO⟩
  ihave Hrx := (ent_of_eq (pay_xr own snd c k)) $$ Hrx
  iapply (wp_ldO 𝒱₀ c _ o3) $$ Hp
  iintro Hp
  iapply (wp_ldR 𝒱₀ c _ o4) $$ Hrx
  iintro Hrx
  iapply (wp_ldO 𝒱₀ c _ o3) $$ Hp
  iintro Hp
  rw [out_load o3, rx_load o4]
  iapply (wp_stO 𝒱₀ c _ _ o3) $$ Hp
  iintro Hp
  have ef : (ptO c (qd c * 8 + k.val) fullShare (ofChunks fun _ => k0_pay1 (own c k.val) (snd (xp c) k.val)) : sProp 𝕄)
      = ptO c (qd c * 8 + k.val) fullShare (outF own snd c) := by
    refine pointsTo_congr fun i hi => ?_
    have hi' := mem_colSet.mp hi
    unfold outF ofChunks
    rw [show (i 2).val / 256 = qd c * 8 + k.val from hi', outG_own]
    rfl
  ihave Hp := (ent_of_eq ef) $$ Hp
  ihave Hp := (ptO_shares c (qd c * 8 + k.val) (outF own snd c)).1 $$ Hp
  icases Hp with ⟨Hp0, Hp1, Hp2⟩
  obtain ⟨m0, m1, m2, m3⟩ := rem_g a k.val k.isLt
  iapply (wp_gsend own snd κ 𝒱₀ c _ 0 k (Fin.ext (dev5_eq c)) (sem_gs0 k o5 _) (sem_gr0 k o5 _) (rem a k.val) m0 o6 _ _ _) $$ [Hp0 HB0 HO HT0 HS0]
  · isplitr; · iexact HR
    isplitl [Hp0]; · iexact Hp0
    isplitl [HB0]; · iexact HB0
    isplitl [HO]; · iexact HO
    isplitl [HS0]; · iexact HS0
    isplitr; · iexact Hr0
    iexact HT0
  iintro ⟨Hc0, HO⟩
  iapply (wp_gsend own snd κ 𝒱₀ c _ 1 k (Fin.ext (dev6_eq c)) (sem_gs1 k o5 _) (sem_gr1 k o5 _) _ m1 o6 _ _ _) $$ [Hp1 HB1 HO HT1 HS1]
  · isplitr; · iexact HR
    isplitl [Hp1]; · iexact Hp1
    isplitl [HB1]; · iexact HB1
    isplitl [HO]; · iexact HO
    isplitl [HS1]; · iexact HS1
    isplitr; · iexact Hr1
    iexact HT1
  iintro ⟨Hc1, HO⟩
  iapply (wp_gsend own snd κ 𝒱₀ c _ 2 k (Fin.ext (dev7_eq c)) (sem_gs2 k o5 _) (sem_gr2 k o5 _) _ m2 o6 _ _ _) $$ [Hp2 HB2 HO HT2 HS2]
  · isplitr; · iexact HR
    isplitl [Hp2]; · iexact Hp2
    isplitl [HB2]; · iexact HB2
    isplitl [HO]; · iexact HO
    isplitl [HS2]; · iexact HS2
    isplitr; · iexact Hr2
    iexact HT2
  iintro ⟨Hc2, HO⟩
  rw [m3]
  iapply Hk
  isplitl [HO]; · iexists _; iexact HO
  isplitl [HCb Hrx Hat HA0 HA1 HA2 Hc0 Hc1 Hc2]
  · iapply HCb
    iapply (ent_of_eq e2)
    isplitl [Hrx]; · iexact Hrx
    isplitl [Hat]; · iexact Hat
    isplitl [HA0 Hc0]
    · isplitl [HA0]
      · isplitl [HA0]; · iexact HA0
        iexact Hr0
      · iexact Hc0
    isplitl [HA1 Hc1]
    · isplitl [HA1]
      · isplitl [HA1]; · iexact HA1
        iexact Hr1
      · iexact Hc1
    · isplitl [HA2]
      · isplitl [HA2]; · iexact HA2
        iexact Hr2
      · iexact Hc2
  · iexact HS

end Cert.KernelIdeal.Work
-- ==== Proof.Fin.lean ====
/-
  The last point: after its waits the device holds its three buffers whole again, the result in the output, and all its
  semaphores back at zero.
-/
module

public import proofs.«01_k».proof.Proof.Waits
public import proofs.«01_k».proof.Proof.Pieces
public import proofs.«01_k».proof.Proof.Gather

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-- What a device keeps from the launch for the copies that come in. -/
def FB (c : Dev nD) : sProp 𝕄 := bigSep Finset.univ fun p : Fin 3 × Fin 8 => iprop(At c (sGR p.1 p.2) 0 ∗ Cr c (sGR p.1 p.2))

/-- What is left when the kernel ends: the result, the two scratch buffers, every semaphore at zero, nothing owed. -/
def FinPost (c : Dev nD) : sProp 𝕄 :=
  iprop((∃ W, owes (c : Thread nD τ) 0 W) ∗ (locO c ↦{fullShare} outF own snd c) ∗ (∃ f, locS c ↦{fullShare} f) ∗ (∃ f, locR c ↦{fullShare} f)
    ∗ (bigSep Finset.univ fun j : WJ => semVal (dc c (wsem j)) 0) ∗ bigSep Finset.univ fun k : Fin 8 => semVal (dc c (sXR k)) 0)

def FR (c : Dev nD) : sProp 𝕄 :=
  iprop((bigSep Finset.univ fun k : Fin 8 => ptR c k.val (ofSlots8 (snd (xp c)))) ∗ bigSep Finset.univ fun k : Fin 8 => At c (sXR k) 1)

theorem bigSep_fin3' {I : Type} [Fintype I] (Φ : Fin 3 × I → sProp 𝕄) :
    bigSep Finset.univ Φ = iprop((bigSep Finset.univ fun k => Φ (0, k)) ∗ (bigSep Finset.univ fun k => Φ (1, k)) ∗ bigSep Finset.univ fun k => Φ (2, k)) :=
  (bigSep_univ_prod Φ).trans (bigSep_univ_eq_bigSepL [(0 : Fin 3), 1, 2] (by decide) (by decide) _)

theorem WS_start (c : Dev nD) :
    iprop(Recs own snd κ ∗ levAts L lv ∗ St own snd c 8 8 ∗ FB c) ⊢ WS own snd κ (FR snd c) c 0 := by
  have e0 : rem 8 8 = ∅ := by decide +kernel
  have eT : (bigSep Finset.univ fun j : WJ => if wpos j < 0 then done own snd c j else todo c j : sProp 𝕄)
      = iprop((bigSep Finset.univ fun s : Fin 4 => iprop(At c (sXS s) 1 ∗ Cr c (sXS s)))
        ∗ ((bigSep Finset.univ fun k : Fin 8 => gone c 0 k) ∗ (bigSep Finset.univ fun k : Fin 8 => gone c 1 k) ∗ bigSep Finset.univ fun k : Fin 8 => gone c 2 k)
        ∗ FB c) := by
    rw [bigSep_congr (Ψ := fun j => todo c j) fun j _ => if_neg (Nat.not_lt_zero _), BI.bigSep_univ_sum, BI.bigSep_univ_sum, bigSep_fin3' (fun p : Fin 3 × Fin 8 => todo c (.inr (.inl p)))]
    rfl
  have eC : (bigSep Finset.univ fun k : Fin 8 => CK own snd c 8 8 k : sProp 𝕄)
      = iprop((bigSep Finset.univ fun k : Fin 8 => ptR c k.val (ofSlots8 (snd (xp c)))) ∗ (bigSep Finset.univ fun k : Fin 8 => At c (sXR k) 1)
        ∗ (bigSep Finset.univ fun k : Fin 8 => gone c 0 k) ∗ (bigSep Finset.univ fun k : Fin 8 => gone c 1 k) ∗ bigSep Finset.univ fun k : Fin 8 => gone c 2 k) := by
    refine (bigSep_congr (Ψ := fun k : Fin 8 => iprop(ptR c k.val (ofSlots8 (snd (xp c))) ∗ At c (sXR k) 1 ∗ gone c 0 k ∗ gone c 1 k ∗ gone c 2 k)) fun k _ => if_pos k.isLt).trans ?_
    simp only [bigSep_sep']
  have eS : (bigSep Finset.univ fun s : Fin 4 => SL c 8 s : sProp 𝕄) = bigSep Finset.univ fun s : Fin 4 => iprop(At c (sXS s) 1 ∗ Cr c (sXS s)) :=
    bigSep_congr fun s _ => by
      have := s.isLt
      unfold SL sl2
      rw [if_neg (by omega), if_neg (by omega)]
  unfold St WS FR
  rw [e0, eT, eC, eS]
  iintro ⟨#HR, #Hlev, ⟨HO, ⟨HP, HA, HG⟩, HS⟩, HF⟩
  isplitl [HP HA]
  · isplitl [HP]; · iexact HP
    iexact HA
  isplitr; · iexact HR
  isplitr; · iexact Hlev
  isplitl [HO]; · iexact HO
  isplitl [HS]; · iexact HS
  isplitl [HG]; · iexact HG
  iexact HF

/-- The output's chunks and the send slots, out of the payloads collected. -/
theorem pays_out (c : Dev nD) :
    (bigSep Finset.univ fun j : WJ => pay own snd c (wsem j) : sProp 𝕄) ⊢ iprop((locO c ↦{fullShare} outF own snd c) ∗ ∃ f, locS c ↦{fullShare} f) := by
  have e1 : (bigSep Finset.univ fun s : Fin 4 => pay own snd c (wsem (.inl s)) : sProp 𝕄) = bigSep Finset.univ fun s : Fin 4 => iprop(∃ f, ptS c s.val f) :=
    bigSep_congr fun s _ => pay_xs own snd c s
  have e2 : ∀ g : Fin 3, (bigSep Finset.univ fun k : Fin 8 => pay own snd c (wsem (.inr (.inl (g, k)))) : sProp 𝕄)
      = bigSep Finset.univ fun k : Fin 8 => ptO c (qd c * 8 + k.val) (sh g) (outF own snd c) := fun g => bigSep_congr fun k _ => pay_gs own snd c g k
  have e3 : ∀ g : Fin 3, (bigSep Finset.univ fun k : Fin 8 => pay own snd c (wsem (.inr (.inr (g, k)))) : sProp 𝕄)
      = bigSep Finset.univ fun k : Fin 8 => ptO c (qd (gp g c) * 8 + k.val) fullShare (outF own snd c) := fun g => bigSep_congr fun k _ => pay_gr own snd c g k
  have e4 : iprop((bigSep Finset.univ fun k : Fin 8 => ptO c (qd c * 8 + k.val) (sh 0) (outF own snd c)) ∗ (bigSep Finset.univ fun k : Fin 8 => ptO c (qd c * 8 + k.val) (sh 1) (outF own snd c))
      ∗ bigSep Finset.univ fun k : Fin 8 => ptO c (qd c * 8 + k.val) (sh 2) (outF own snd c)) ⊢ (bigSep Finset.univ fun k : Fin 8 => ptO c (qd c * 8 + k.val) fullShare (outF own snd c) : sProp 𝕄) := by
    rw [← bigSep_sep', ← bigSep_sep']
    exact bigSep_mono fun k _ => (ptO_shares c _ _).2
  rw [BI.bigSep_univ_sum, BI.bigSep_univ_sum, bigSep_fin3' (fun p : Fin 3 × Fin 8 => pay own snd c (wsem (.inr (.inl p)))),
    bigSep_fin3' (fun p : Fin 3 × Fin 8 => pay own snd c (wsem (.inr (.inr p)))), e1, e2, e2, e2, e3, e3, e3, O_pieces]
  change iprop(_ ∗ _ ∗ _) ⊢ _
  iintro ⟨HS, HG, H0, H1, H2⟩
  isplitr [HS]
  · isplitl [HG]; · iapply e4 $$ HG
    isplitl [H0]; · iexact H0
    isplitl [H1]; · iexact H1
    iexact H2
  · iapply (S_join c) $$ HS

theorem close_xr (c : Dev nD) :
    iprop(Recs own snd κ ∗ bigSep Finset.univ fun k : Fin 8 => At c (sXR k) 1) ⊢ (|={Set.univ}=> bigSep Finset.univ fun k : Fin 8 => semVal (dc c (sXR k)) 0 : sProp 𝕄) := by
  refine (bigSep_with_persistent (Ψ := fun k : Fin 8 => iprop(|={Set.univ}=> semVal (dc c (sXR k)) 0)) fun k _ => ?_).trans (bigSep_fupd _ _)
  iintro ⟨#HR, Hat, -⟩
  ihave #HI := (Recs_dc own snd κ c (sXR k)) $$ HR
  iapply (Rounds.cell_close EB (Rd own snd) (Set.mem_univ (κ (dc c (sXR k)))) id (duties_done own snd c (sXR k) 1 (rounds_xr k).le))
  isplitr; · iexact HI
  iexact Hat

theorem run_fin (c : Dev nD) (t : Fin grid0.N) (ht : t.val = 9) (a3 : Memref sig .tc .vmem S4096x256 .bf16) (h3 : a3.IsWhole)
    (hw : k0_chk1 (grid0.coords t) c (tb c)) (K : Prog (TpuEff nD τ sig (Elt F) Λ₀ .tc) PUnit) (Q : PUnit → sProp 𝕄) :
    iprop(Recs own snd κ ∗ levAts L lv ∗ St own snd c 8 8 ∗ FB c
        ∗ (FinPost own snd c -∗ wp frame (wpE (defs₀ (F := F)) 𝒱₀ (c : Thread nD τ) none) Set.univ K Q))
      ⊢ wp frame (wpE (defs₀ (F := F)) 𝒱₀ (c : Thread nD τ) none) Set.univ (blkFin (grid0.coords t) a3 h3 c (tb c) hw K) Q := by
  have h := run_waits own snd κ 𝒱₀ iprop(FR snd c ∗ (FinPost own snd c -∗ wp frame (wpE (defs₀ (F := F)) 𝒱₀ (c : Thread nD τ) none) Set.univ K Q)) c t ht a3 h3 hw K Q (by
    unfold WS
    have e : (bigSep Finset.univ fun j : WJ => if wpos j < 52 then done own snd c j else todo c j : sProp 𝕄)
        = iprop((bigSep Finset.univ fun j : WJ => pay own snd c (wsem j)) ∗ bigSep Finset.univ fun j : WJ => semVal (dc c (wsem j)) 0) := by
      refine (bigSep_congr (Ψ := fun j => iprop(pay own snd c (wsem j) ∗ semVal (dc c (wsem j)) 0)) fun j _ => if_pos (wpos_lt j)).trans ?_
      rw [bigSep_sep']
    rw [e]
    unfold FR
    iintro ⟨⟨⟨HP, HA⟩, Hk⟩, #HR, -, HO, Hpay, Hs⟩
    imod (close_xr own snd κ c) $$ [HA] with Hx
    · isplitr; · iexact HR
      iexact HA
    ihave Hpay := (pays_out own snd c) $$ Hpay
    icases Hpay with ⟨Ho, Hb⟩
    iapply Hk
    unfold FinPost
    isplitl [HO]; · iexact HO
    isplitl [Ho]; · iexact Ho
    isplitl [Hb]; · iexact Hb
    isplitl [HP]
    · iexists _
      iapply (ent_of_eq (R_pieces c (ofSlots8 (snd (xp c)))).symm)
      iexact HP
    isplitl [Hs]; · iexact Hs
    iexact Hx)
  refine BIBase.Entails.trans ?_ h
  have h0 := WS_start own snd κ c
  unfold WS at h0 ⊢
  iintro ⟨#HR, #Hlev, HSt, HF, Hk⟩
  ihave H := h0 $$ [HSt HF]
  · isplitr; · iexact HR
    isplitr; · iexact Hlev
    isplitl [HSt]; · iexact HSt
    iexact HF
  icases H with ⟨H1, -, -, H4⟩
  isplitl [H1 Hk]
  · isplitl [H1]; · iexact H1
    iexact Hk
  isplitr; · iexact HR
  isplitr; · iexact Hlev
  iexact H4

end Cert.KernelIdeal.Work
-- ==== Proof.Body.lean ====
/-
  The kernel's body at each of the ten points, from the state before the point to the state after it.
-/
module

public import proofs.«01_k».proof.Proof.Bar
public import proofs.«01_k».proof.Proof.Comp
public import proofs.«01_k».proof.Proof.Fin

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-- The chunks computed, and those finished, before point `t`. -/
def KSt (c : Dev nD) (t : ℕ) : sProp 𝕄 :=
  if t = 0 then iprop(BarPre c ∗ FB c)
  else if t = 10 then iprop(FinPost own snd c ∗ semVal (bar c) 0)
  else iprop(St own snd c (min t 8) (t - 2) ∗ FB c ∗ semVal (bar c) 0)

theorem KSt_mid (c : Dev nD) (t : ℕ) (h0 : t ≠ 0) (h1 : t ≠ 10) : KSt own snd c t = iprop(St own snd c (min t 8) (t - 2) ∗ FB c ∗ semVal (bar c) 0) := by
  unfold KSt; rw [if_neg h0, if_neg h1]

theorem skip_bar (c : Dev nD) (t : Fin grid0.N) (ht : t.val ≠ 0) (a3 : Memref sig .tc .vmem S4096x256 .bf16) (h3 : a3.IsWhole)
    (hw : k0_chk1 (grid0.coords t) c (tb c)) (K : Prog (TpuEff nD τ sig (Elt F) Λ₀ .tc) PUnit) :
    blkBar (grid0.coords t) a3 h3 c (tb c) hw K = K := by
  unfold blkBar; rw [dif_neg fun h => ht ((cond1_iff t).mp h)]
theorem skip_gather (c : Dev nD) (t : Fin grid0.N) (ht : ¬ 2 ≤ t.val) (a3 : Memref sig .tc .vmem S4096x256 .bf16) (h3 : a3.IsWhole)
    (hw : k0_chk1 (grid0.coords t) c (tb c)) (K : Prog (TpuEff nD τ sig (Elt F) Λ₀ .tc) PUnit) :
    blkGather (grid0.coords t) a3 h3 c (tb c) hw K = K := by
  unfold blkGather; rw [dif_neg fun h => ht ((cond2_iff t).mp h)]
theorem skip_comp (c : Dev nD) (t : Fin grid0.N) (ht : ¬ t.val < 8) (a3 : Memref sig .tc .vmem S4096x256 .bf16) (h3 : a3.IsWhole)
    (hw : k0_chk1 (grid0.coords t) c (tb c)) (K : Prog (TpuEff nD τ sig (Elt F) Λ₀ .tc) PUnit) :
    blkComp (grid0.coords t) a3 h3 c (tb c) hw K = K := by
  unfold blkComp; rw [dif_neg fun h => ht ((cond3_iff t).mp h)]
theorem skip_fin (c : Dev nD) (t : Fin grid0.N) (ht : t.val ≠ 9) (a3 : Memref sig .tc .vmem S4096x256 .bf16) (h3 : a3.IsWhole)
    (hw : k0_chk1 (grid0.coords t) c (tb c)) (K : Prog (TpuEff nD τ sig (Elt F) Λ₀ .tc) PUnit) :
    blkFin (grid0.coords t) a3 h3 c (tb c) hw K = K := by
  unfold blkFin; rw [dif_neg fun h => ht ((cond7_iff t).mp h)]

abbrev locA (c : Dev nD) := A2.view.loc (c : Thread nD τ)
abbrev locT (c : Dev nD) := (Memref.whole main_v14 : Memref sig .tc .smem S1 .i32).view.loc (c : Thread nD τ)

/-- The blocks of one point. -/
theorem run_blocks (c : Dev nD) (t : Fin grid0.N)
    (a3 : Memref sig .tc .vmem S4096x256 .bf16) (h3 : a3.IsWhole) (fa : (cc0_stg0_0 : Ref sig .tc).ty.Contents (Elt F)) (fw : Buf (Elt F) (a3.view.loc (c : Thread nD τ)))
    (hown : t.val < 8 → own c t.val = keepOf c (colsOf a3 fw) (rowsLo fa) (rowsHi fa)) (hsnd : t.val < 8 → snd c t.val = sendOf c (colsOf a3 fw) (rowsLo fa) (rowsHi fa))
    (hw : k0_chk1 (grid0.coords t) c (tb c)) (K : Prog (TpuEff nD τ sig (Elt F) Λ₀ .tc) PUnit) (Q : PUnit → sProp 𝕄) :
    iprop(Recs own snd κ ∗ levAts L lv ∗ (locA c ↦{fullShare} fa) ∗ (a3.view.loc (c : Thread nD τ) ↦{fullShare} fw) ∗ KSt own snd c t.val
        ∗ (((locA c ↦{fullShare} fa) ∗ (a3.view.loc (c : Thread nD τ) ↦{fullShare} fw) ∗ KSt own snd c (t.val + 1))
          -∗ wp frame (wpE (defs₀ (F := F)) 𝒱₀ (c : Thread nD τ) none) Set.univ K Q))
      ⊢ wp frame (wpE (defs₀ (F := F)) 𝒱₀ (c : Thread nD τ) none) Set.univ
        (blkBar (grid0.coords t) a3 h3 c (tb c) hw (blkGather (grid0.coords t) a3 h3 c (tb c) hw (blkComp (grid0.coords t) a3 h3 c (tb c) hw (blkFin (grid0.coords t) a3 h3 c (tb c) hw K)))) Q := by
  have hN : t.val < 10 := t.isLt
  by_cases h0 : t.val = 0
  · have e0 : KSt own snd c t.val = iprop(BarPre c ∗ FB c) := by unfold KSt; rw [if_pos h0]
    have e1 : iprop(St own snd c (t.val + 1) 0 ∗ FB c ∗ semVal (bar c) 0) = KSt own snd c (t.val + 1) := by
      rw [KSt_mid own snd c _ (by omega) (by omega), show min (t.val + 1) 8 = t.val + 1 by omega, show t.val + 1 - 2 = 0 by omega]
    have e2 : St own snd c 0 0 = St own snd c t.val 0 := by rw [h0]
    rw [skip_gather c t (by omega), skip_fin c t (by omega)]
    iintro ⟨#HR, #Hlev, HA, HW, HS, Hk⟩
    ihave HS := (ent_of_eq e0) $$ HS
    icases HS with ⟨HB, HF⟩
    iapply (run_bar own snd κ 𝒱₀ c t h0 a3 h3 hw _ Q) $$ [HA HW HB HF Hk]
    isplitr; · iexact HR
    isplitr; · iexact Hlev
    isplitl [HB]; · iexact HB
    iintro ⟨HS, Hb⟩
    ihave HS := (ent_of_eq e2) $$ HS
    iapply (run_comp own snd κ 𝒱₀ c t (by omega) 0 (Nat.zero_le _) a3 h3 fa fw (hown (by omega)) (hsnd (by omega)) hw K Q) $$ [HA HW HS HF Hb Hk]
    isplitr; · iexact HR
    isplitr; · iexact Hlev
    isplitl [HA]; · iexact HA
    isplitl [HW]; · iexact HW
    isplitl [HS]; · iexact HS
    iintro ⟨HA, HW, HS⟩
    iapply Hk
    isplitl [HA]; · iexact HA
    isplitl [HW]; · iexact HW
    iapply (ent_of_eq e1)
    isplitl [HS]; · iexact HS
    isplitl [HF]; · iexact HF
    iexact Hb
  rw [skip_bar c t h0, KSt_mid own snd c t.val h0 (by omega)]
  by_cases h1 : t.val = 1
  · have e1 : iprop(St own snd c (t.val + 1) 0 ∗ FB c ∗ semVal (bar c) 0) = KSt own snd c (t.val + 1) := by
      rw [KSt_mid own snd c _ (by omega) (by omega), show min (t.val + 1) 8 = t.val + 1 by omega, show t.val + 1 - 2 = 0 by omega]
    rw [skip_gather c t (by omega), skip_fin c t (by omega), show min t.val 8 = t.val by omega, show t.val - 2 = 0 by omega]
    iintro ⟨#HR, #Hlev, HA, HW, ⟨HS, HF, Hb⟩, Hk⟩
    iapply (run_comp own snd κ 𝒱₀ c t (by omega) 0 (Nat.zero_le _) a3 h3 fa fw (hown (by omega)) (hsnd (by omega)) hw K Q) $$ [HA HW HS HF Hb Hk]
    isplitr; · iexact HR
    isplitr; · iexact Hlev
    isplitl [HA]; · iexact HA
    isplitl [HW]; · iexact HW
    isplitl [HS]; · iexact HS
    iintro ⟨HA, HW, HS⟩
    iapply Hk
    isplitl [HA]; · iexact HA
    isplitl [HW]; · iexact HW
    iapply (ent_of_eq e1)
    isplitl [HS]; · iexact HS
    isplitl [HF]; · iexact HF
    iexact Hb
  iintro ⟨#HR, #Hlev, HA, HW, ⟨HS, HF, Hb⟩, Hk⟩
  iapply (run_gather own snd κ 𝒱₀ c t ⟨t.val - 2, by omega⟩ (show t.val = t.val - 2 + 2 by omega) (min t.val 8) (show t.val - 2 < min t.val 8 by omega) (by omega) a3 h3 hw _ Q) $$ [HA HW HS HF Hb Hk]
  isplitr; · iexact HR
  isplitr; · iexact Hlev
  isplitl [HS]; · iexact HS
  iintro HS
  by_cases h8 : t.val < 8
  · have e1 : iprop(St own snd c (t.val + 1) (t.val - 2 + 1) ∗ FB c ∗ semVal (bar c) 0) = KSt own snd c (t.val + 1) := by
      rw [KSt_mid own snd c _ (by omega) (by omega), show min (t.val + 1) 8 = t.val + 1 by omega, show t.val + 1 - 2 = t.val - 2 + 1 by omega]
    have e2 : St own snd c (min t.val 8) (t.val - 2 + 1) = St own snd c t.val (t.val - 2 + 1) := by rw [show min t.val 8 = t.val by omega]
    rw [skip_fin c t (by omega)]
    ihave HS := (ent_of_eq e2) $$ HS
    iapply (run_comp own snd κ 𝒱₀ c t h8 (t.val - 2 + 1) (by omega) a3 h3 fa fw (hown h8) (hsnd h8) hw K Q) $$ [HA HW HS HF Hb Hk]
    isplitr; · iexact HR
    isplitr; · iexact Hlev
    isplitl [HA]; · iexact HA
    isplitl [HW]; · iexact HW
    isplitl [HS]; · iexact HS
    iintro ⟨HA, HW, HS⟩
    iapply Hk
    isplitl [HA]; · iexact HA
    isplitl [HW]; · iexact HW
    iapply (ent_of_eq e1)
    isplitl [HS]; · iexact HS
    isplitl [HF]; · iexact HF
    iexact Hb
  rw [skip_comp c t h8]
  by_cases h9 : t.val = 9
  · have e1 : iprop(FinPost own snd c ∗ semVal (bar c) 0) = KSt own snd c (t.val + 1) := by unfold KSt; rw [if_neg (by omega), if_pos (by omega)]
    have e2 : St own snd c (min t.val 8) (t.val - 2 + 1) = St own snd c 8 8 := by rw [show min t.val 8 = 8 by omega, show t.val - 2 + 1 = 8 by omega]
    ihave HS := (ent_of_eq e2) $$ HS
    iapply (run_fin own snd κ 𝒱₀ c t h9 a3 h3 hw K Q) $$ [HA HW HS HF Hb Hk]
    isplitr; · iexact HR
    isplitr; · iexact Hlev
    isplitl [HS]; · iexact HS
    isplitl [HF]; · iexact HF
    iintro HP
    iapply Hk
    isplitl [HA]; · iexact HA
    isplitl [HW]; · iexact HW
    iapply (ent_of_eq e1)
    isplitl [HP]; · iexact HP
    iexact Hb
  · have e1 : iprop(St own snd c (min t.val 8) (t.val - 2 + 1) ∗ FB c ∗ semVal (bar c) 0) = KSt own snd c (t.val + 1) := by
      rw [KSt_mid own snd c _ (by omega) (by omega), show min (t.val + 1) 8 = min t.val 8 by omega, show t.val + 1 - 2 = t.val - 2 + 1 by omega]
    rw [skip_fin c t h9]
    iapply Hk
    isplitl [HA]; · iexact HA
    isplitl [HW]; · iexact HW
    iapply (ent_of_eq e1)
    isplitl [HS]; · iexact HS
    isplitl [HF]; · iexact HF
    iexact Hb

/-- The body at point `t`, its window of the weights staged in `a3`. -/
theorem run_body (c : Dev nD) (t : Fin grid0.N)
    (a3 : Memref sig .tc .vmem S4096x256 .bf16) (h3 : a3.IsWhole) (fa : (cc0_stg0_0 : Ref sig .tc).ty.Contents (Elt F)) (fw : Buf (Elt F) (a3.view.loc (c : Thread nD τ)))
    (ft : Buf (Elt F) (locT c)) (hft : ft = fun _ => tb c)
    (hown : t.val < 8 → own c t.val = keepOf c (colsOf a3 fw) (rowsLo fa) (rowsHi fa)) (hsnd : t.val < 8 → snd c t.val = sendOf c (colsOf a3 fw) (rowsLo fa) (rowsHi fa))
    (Q : PUnit → sProp 𝕄) :
    iprop(Recs own snd κ ∗ levAts L lv ∗ (locT c ↦{fullShare} ft) ∗ (locA c ↦{fullShare} fa) ∗ (a3.view.loc (c : Thread nD τ) ↦{fullShare} fw) ∗ KSt own snd c t.val
        ∗ (((locT c ↦{fullShare} ft) ∗ (locA c ↦{fullShare} fa) ∗ (a3.view.loc (c : Thread nD τ) ↦{fullShare} fw) ∗ KSt own snd c (t.val + 1)) -∗ Q ⟨⟩))
      ⊢ wp frame (wpE (defs₀ (F := F)) 𝒱₀ (c : Thread nD τ) none) Set.univ
        (cc0_body (grid0.coords t) (Memref.whole main_v14) (Memref.isWhole_whole _) (Memref.whole cc0_stg0_0) (Memref.isWhole_whole _) a3 h3
          O4 hO4 SB hSB RX hRX cc0_scratch2 cc0_scratch3 cc0_scratch4 cc0_scratch5 cc0_scratch6 cc0_scratch7 cc0_scratch8 cc0_scratch9) Q := by
  rw [cc0_body_eq_skeleton, body_blocks]
  simp only [smemLoad, Prog.lift, Prog.bind_op, Prog.bind_ret, Prog.pure_eq_ret, wp_deviceId]
  have hr : ((Memref.whole main_v14 : Memref sig .tc .smem S1 .i32).access (Rect.unit (s := S1) ![0] S1.size inb_S1_S1_0) : View sig .tc _ _ _).read (Elt F) ft
      (Shape.Idx.first (numel1_S1.symm ▸ Nat.one_pos)) = tb c := by subst hft; rfl
  have hl := wp_smemLoadElt (c := (c : Thread nD τ)) (m := (Memref.whole main_v14 : Memref sig .tc .smem S1 .i32)) (r := Rect.unit (s := S1) ![0] S1.size inb_S1_S1_0)
    (hw := View.loads_smem_one rfl numel1_S1) (x := Shape.Idx.first (numel1_S1.symm ▸ Nat.one_pos)) (defs := defs₀ (F := F)) (Γ := .empty)
    (U := UU) (Q := Q) (k := fun v14 => .op (TpuEff.assume (k0_chk1 (grid0.coords t) c v14) (k0_chk1.dec (grid0.coords t) c v14)) fun h =>
      blkBar (grid0.coords t) a3 h3 c v14 h.down (blkGather (grid0.coords t) a3 h3 c v14 h.down (blkComp (grid0.coords t) a3 h3 c v14 h.down (blkFin (grid0.coords t) a3 h3 c v14 h.down (.ret ⟨⟩)))))
    (f := ft) (q := fullShare) (S := Finset.univ) 𝒱₀ none Set.univ (Finset.subset_univ _)
  rw [hr] at hl
  iintro ⟨#HR, #Hlev, HT, HA, HW, HS, Hk⟩
  iapply hl $$ HT
  iintro HT
  iapply (wp_assume 𝒱₀ (c : Thread nD τ) none Set.univ (chk1 t c))
  iapply (run_blocks own snd κ 𝒱₀ c t a3 h3 fa fw hown hsnd (chk1 t c) (.ret ⟨⟩) Q) $$ [HT HA HW HS Hk]
  isplitr; · iexact HR
  isplitr; · iexact Hlev
  isplitl [HA]; · iexact HA
  isplitl [HW]; · iexact HW
  isplitl [HS]; · iexact HS
  iintro ⟨HA, HW, HS⟩
  rw [wp_ret]
  imodintro
  iapply Hk
  isplitl [HT]; · iexact HT
  isplitl [HA]; · iexact HA
  isplitl [HW]; · iexact HW
  iexact HS

end Cert.KernelIdeal.Work
-- ==== Proof.Loop.lean ====
/-
  The kernel's region as a program: what each turn of its loop runs on device `c`, whose table names
  the device's quarter of the columns.
-/
module

public import proofs.«01_k».proof.Proof.Body

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table and the windows' blocks -/

/-- The table on device `c`: its one entry, the first block of the device's quarter. -/
def tabv (c : Dev nD) : pre0.Contents (Elt F) := fun | 0 => fun _ => tb c | ⟨_ + 1, h⟩ => absurd h (Nat.not_lt.2 (Nat.le_add_left _ _))

theorem coord0 (t : Fin grid0.N) : (grid0.coords t 0).val = t.val := by revert t; decide
theorem col_num (c : Dev nD) (j : Fin 10) : (Scalar.addi (tb c) (Scalar.minsi (BitVec.ofNat 32 j.val) 7#32)).toNat = 8 * qd c + min j.val 7 := by
  revert c j; decide +kernel

theorem ix1_eq (c : Dev nD) (i : grid0.Coords) : cc0_transform_1 inb_S1_S1_0 numel1_S1 (tabv (F := F) c) i = ![0, 8 * qd c + min (i 0).val 7] := by
  have h := col_num c (i 0)
  unfold cc0_transform_1
  show ![(0#32).toNat, (Scalar.addi (tb c) (Scalar.minsi (BitVec.ofNat 32 (i 0).val) 7#32)).toNat] = _
  rw [h]; rfl

theorem ok_tab (c : Dev nD) : ok0 (tabv (F := F) c) := by
  intro i
  have hq := qd_lt c
  have hb : ∀ a, (cc0_transform_1 inb_S1_S1_0 numel1_S1 (tabv (F := F) c) i a + 1) * S4096x256.size a ≤ S4096x8192.size a := by
    rw [ix1_eq]
    intro a
    fin_cases a
    · show (0 + 1) * 4096 ≤ 4096; omega
    · show (8 * qd c + min (i 0).val 7 + 1) * 256 ≤ 8192; omega
  exact ⟨hb, .inr (Affine.block_words_dvd (of_decide_eq_true rfl) (by decide))⟩

/-- The table, admissible. -/
def adm (c : Dev nD) : (pcfg0 (F := F)).Adm := ⟨tabv c, ok_tab c⟩

abbrev cfgc (c : Dev nD) : Pipeline.Cfg sig Λ₀ := cfg0 (adm (F := F) c)
abbrev wn0 (c : Dev nD) : Pipeline.Window sig grid0 := (cfgc (F := F) c).win (0 : Fin 3)
abbrev wn1 (c : Dev nD) : Pipeline.Window sig grid0 := (cfgc (F := F) c).win (1 : Fin 3)
abbrev wn2 (c : Dev nD) : Pipeline.Window sig grid0 := (cfgc (F := F) c).win (2 : Fin 3)

theorem index1 (c : Dev nD) (t : Fin grid0.N) : (wn1 (F := F) c).index t = ![0, 8 * qd c + min t.val 7] :=
  (ix1_eq c (grid0.coords t)).trans (by rw [coord0])

theorem fetch0 (c : Dev nD) (t : Fin grid0.N) : (wn0 (F := F) c).fetch t = decide (t.val = 0) := by
  unfold Pipeline.Window.fetch
  have : ¬ ∃ h : 0 < t.val, (wn0 (F := F) c).index t ≠ (wn0 (F := F) c).index ⟨t.val - 1, by omega⟩ := fun ⟨_, h⟩ => h rfl
  rw [decide_eq_false this]
  show (true && (decide (t.val = 0) || false)) = _
  simp
theorem fetch1 (c : Dev nD) (t : Fin grid0.N) : (wn1 (F := F) c).fetch t = decide (t.val < 8) := by
  unfold Pipeline.Window.fetch
  have hN : t.val < 10 := t.isLt
  have : (∃ h : 0 < t.val, (wn1 (F := F) c).index t ≠ (wn1 (F := F) c).index ⟨t.val - 1, by omega⟩) ↔ 0 < t.val ∧ t.val < 8 := by
    constructor
    · rintro ⟨h, hne⟩
      refine ⟨h, ?_⟩
      by_contra h8
      refine hne ?_
      rw [index1, index1]
      show ![0, 8 * qd c + min t.val 7] = ![0, 8 * qd c + min (t.val - 1) 7]
      rw [show min t.val 7 = min (t.val - 1) 7 by omega]
    · rintro ⟨h, h8⟩
      refine ⟨h, fun e => ?_⟩
      rw [index1, index1] at e
      have := congrFun e 1
      have : 8 * qd c + min t.val 7 = 8 * qd c + min (t.val - 1) 7 := this
      omega
  rw [decide_eq_decide.mpr this]
  show (true && (decide (t.val = 0) || decide (0 < t.val ∧ t.val < 8))) = _
  rw [Bool.true_and, ← Bool.decide_or]
  exact decide_eq_decide.mpr (by omega)
theorem fetch2 (c : Dev nD) (t : Fin grid0.N) : (wn2 (F := F) c).fetch t = false := rfl
theorem flush0 (c : Dev nD) (t : Fin grid0.N) : (wn0 (F := F) c).flush t = false := rfl
theorem flush1 (c : Dev nD) (t : Fin grid0.N) : (wn1 (F := F) c).flush t = false := rfl
theorem flush2 (c : Dev nD) (t : Fin grid0.N) : (wn2 (F := F) c).flush t = decide (t.val = 9) := by
  unfold Pipeline.Window.flush
  have : ¬ ∃ h : t.val + 1 < grid0.N, (wn2 (F := F) c).index ⟨t.val + 1, h⟩ ≠ (wn2 (F := F) c).index t := fun ⟨_, h⟩ => h rfl
  rw [decide_eq_false this]
  show (true && (decide (t.val + 1 = 10) || false)) = _
  rw [Bool.true_and, Bool.or_false]
  exact decide_eq_decide.mpr (by omega)
theorem single0 (c : Dev nD) : (wn0 (F := F) c).single = true := rfl
theorem single1 (c : Dev nD) : (wn1 (F := F) c).single = false := rfl
theorem single2 (c : Dev nD) : (wn2 (F := F) c).single = true := rfl

/-- The staging slot of the weights at point `t`: alternating, the last kept after point 7. -/
def par (t : ℕ) : Fin 2 := ⟨min t 7 % 2, by omega⟩
theorem slot1 (c : Dev nD) (t : ℕ) (ht : t < grid0.N) : (wn1 (F := F) c).slot t ht = par t := by
  induction t with
  | zero => rfl
  | succ t ih =>
    have hN : t + 1 < 10 := ht
    show (if (wn1 (F := F) c).fetch ⟨t + 1, ht⟩ then (⟨(((wn1 (F := F) c).slot t (Nat.lt_of_succ_lt ht)).val + 1) % 2, Nat.mod_lt _ (by omega)⟩ : Fin 2) else (wn1 (F := F) c).slot t (Nat.lt_of_succ_lt ht)) = _
    rw [fetch1, ih]
    by_cases h : t + 1 < 8
    · rw [if_pos (decide_eq_true h)]
      refine Fin.ext ?_
      show (min t 7 % 2 + 1) % 2 = min (t + 1) 7 % 2
      omega
    · rw [if_neg (by simpa using h)]
      refine Fin.ext ?_
      show min t 7 % 2 = min (t + 1) 7 % 2
      omega

/-! ## The loop's turns -/

/-- Programs of a device with the region's labels. -/
abbrev PP (F : FTy → Type) [FloatOps F] : Type 1 := Prog (TpuEff nD τ sig (Elt F) (Pipeline.Sig Λ₀ (Fin 1) fun p => (pcfgs (F := F) p).Adm) .tc) PUnit

/-- Fetch step of the activations, of the weights; their waits; the body; the write-back and its wait; the next turn. -/
def goA (c : Dev nD) (k : PP F) : PP F := .op ((cfgc (F := F) c).startIn (P := Fin 1) (A := fun p => (pcfgs (F := F) p).Adm) (0 : Fin 3) t0_0) fun _ => k
def goW (c : Dev nD) (t : Fin grid0.N) (k : PP F) : PP F := .op ((cfgc (F := F) c).startIn (P := Fin 1) (A := fun p => (pcfgs (F := F) p).Adm) (1 : Fin 3) t) fun _ => k
def waA (c : Dev nD) (k : PP F) : PP F := .op ((cfgc (F := F) c).waitIn (P := Fin 1) (A := fun p => (pcfgs (F := F) p).Adm) (0 : Fin 3) t0_0) fun _ => k
def waW (c : Dev nD) (t : Fin grid0.N) (k : PP F) : PP F := .op ((cfgc (F := F) c).waitIn (P := Fin 1) (A := fun p => (pcfgs (F := F) p).Adm) (1 : Fin 3) t) fun _ => k
def bod (c : Dev nD) (t : Fin grid0.N) (k : PP F) : PP F := .op (.call (Pipeline.kernel (cfgc (F := F) c).body) ((cfgc (F := F) c).bodyArgs t ((cfgc (F := F) c).slots t))) fun _ => k
def goO (c : Dev nD) (k : PP F) : PP F := .op ((cfgc (F := F) c).startOut (P := Fin 1) (A := fun p => (pcfgs (F := F) p).Adm) (2 : Fin 3) t0_9) fun _ => k
def waO (c : Dev nD) (k : PP F) : PP F := .op ((cfgc (F := F) c).waitOut (P := Fin 1) (A := fun p => (pcfgs (F := F) p).Adm) (2 : Fin 3) t0_9) fun _ => k
def nxt (c : Dev nD) (l : ℕ) : PP F := .op (.call (Pipeline.pipe (0 : Fin 1)) (adm c, l)) fun _ => .ret ⟨⟩

abbrev turn (c : Dev nD) (l : ℕ) : PP F := (cfgc (F := F) c).iter (0 : Fin 1) (adm c) l

/-- A step if `b`. -/
def cw (b : Bool) (f : PP F → PP F) (k : PP F) : PP F := if b then f k else k

theorem each3 (c : Dev nD) (p : Fin 3 → Bool) (f : Fin 3 → PP F → PP F) (k : PP F) :
    (cfgc (F := F) c).eachWin (P := Fin 1) (A := fun p => (pcfgs (F := F) p).Adm) p f k = cw (p 0) (f 0) (cw (p 1) (f 1) (cw (p 2) (f 2) k)) := rfl

theorem at_some (c : Dev nD) (l d : ℕ) (h1 : d ≤ l) (h2 : l - d < 10) (f : Fin grid0.N → PP F → PP F) (k : PP F) :
    (cfgc (F := F) c).atPoint (P := Fin 1) (A := fun p => (pcfgs (F := F) p).Adm) l d f k = f ⟨l - d, h2⟩ k := by
  unfold Pipeline.Cfg.atPoint Pipeline.Cfg.point
  rw [dif_pos ⟨h1, h2⟩]
theorem at_none (c : Dev nD) (l d : ℕ) (h : ¬ (d ≤ l ∧ l - d < 10)) (f : Fin grid0.N → PP F → PP F) (k : PP F) :
    (cfgc (F := F) c).atPoint (P := Fin 1) (A := fun p => (pcfgs (F := F) p).Adm) l d f k = k := by
  unfold Pipeline.Cfg.atPoint Pipeline.Cfg.point
  rw [dif_neg (show ¬ (d ≤ l ∧ l - d < (cfgc (F := F) c).N) from h)]

/-- The four groups of steps of a turn, in windows. -/
def gA (c : Dev nD) (l : ℕ) (k : PP F) : PP F :=
  (cfgc (F := F) c).atPoint l 1 (fun u => (cfgc (F := F) c).eachWin (fun w => ((cfgc (F := F) c).win w).single && ((cfgc (F := F) c).win w).fetch u) (fun w => (cfgc (F := F) c).fetchIn w u)) k
def gB (c : Dev nD) (l : ℕ) (k : PP F) : PP F :=
  (cfgc (F := F) c).atPoint l 0 (fun u => (cfgc (F := F) c).eachWin (fun w => !((cfgc (F := F) c).win w).single && ((cfgc (F := F) c).win w).fetch u) (fun w => (cfgc (F := F) c).fetchIn w u)) k
def gC (c : Dev nD) (l : ℕ) (k : PP F) : PP F :=
  (cfgc (F := F) c).atPoint l 1 (fun u k =>
    (cfgc (F := F) c).eachWin (fun w => ((cfgc (F := F) c).win w).fetch u) (fun w k => .op ((cfgc (F := F) c).waitIn w u) fun _ => k) <|
    bod c u <|
    (cfgc (F := F) c).eachWin (fun w => ((cfgc (F := F) c).win w).flush u) (fun w k => .op ((cfgc (F := F) c).startOut w u) fun _ => k) <|
    (cfgc (F := F) c).eachWin (fun w => ((cfgc (F := F) c).win w).single && ((cfgc (F := F) c).win w).flush u) (fun w k => .op ((cfgc (F := F) c).waitOut w u) fun _ => k) k) k
def gD (c : Dev nD) (l : ℕ) (k : PP F) : PP F :=
  (cfgc (F := F) c).atPoint l 2 (fun u => (cfgc (F := F) c).eachWin (fun w => !((cfgc (F := F) c).win w).single && ((cfgc (F := F) c).win w).flush u) (fun w k => .op ((cfgc (F := F) c).waitOut w u) fun _ => k)) k

theorem turn_groups (c : Dev nD) (l : ℕ) : turn (F := F) c l = gA c l (gB c l (gC c l (gD c l (if l + 1 < 12 then nxt c (l + 1) else .ret ⟨⟩)))) := by
  have hp : (cfgc (F := F) c).prologue = 1 := by
    unfold Pipeline.Cfg.prologue Pipeline.Cfg.hasInput
    rw [if_pos (decide_eq_true ⟨(0 : Fin 3), rfl⟩)]
  have ht : (cfgc (F := F) c).tripCount = 12 := by
    unfold Pipeline.Cfg.tripCount Pipeline.Cfg.epilogue Pipeline.Cfg.hasOutput
    rw [hp, if_pos (decide_eq_true ⟨(2 : Fin 3), rfl⟩)]; rfl
  unfold turn Pipeline.Cfg.iter
  rw [hp, ht]
  rfl

theorem gA_eq (c : Dev nD) (l : ℕ) (k : PP F) : gA c l k = if l = 1 then goA c k else k := by
  unfold gA
  by_cases h : 1 ≤ l ∧ l - 1 < 10
  · rw [at_some c l 1 h.1 h.2, each3]
    show cw (_ && (wn0 (F := F) c).fetch _) _ (cw (_ && (wn1 (F := F) c).fetch _) _ (cw (_ && (wn2 (F := F) c).fetch _) _ k)) = _
    rw [single0, single1, fetch0, fetch2]
    by_cases h1 : l = 1
    · subst h1; rfl
    · rw [decide_eq_false (show ¬ l - 1 = 0 by omega), if_neg h1]; rfl
  · rw [at_none c l 1 h, if_neg (by omega)]

theorem gB_eq (c : Dev nD) (l : ℕ) (k : PP F) : gB c l k = if h : l < 8 then goW c ⟨l, Nat.lt_trans h (by decide)⟩ k else k := by
  unfold gB
  by_cases h : 0 ≤ l ∧ l - 0 < 10
  · rw [at_some c l 0 h.1 h.2, each3]
    show cw (!_ && (wn0 (F := F) c).fetch _) _ (cw (!_ && (wn1 (F := F) c).fetch _) _ (cw (!_ && (wn2 (F := F) c).fetch _) _ k)) = _
    rw [single0, single1, fetch1, fetch2]
    by_cases h1 : l < 8
    · rw [dif_pos h1, decide_eq_true (show l - 0 < 8 by omega)]; rfl
    · rw [decide_eq_false (show ¬ l - 0 < 8 by omega), dif_neg h1]; rfl
  · rw [at_none c l 0 h, dif_neg (by omega)]

theorem gC_none (c : Dev nD) (l : ℕ) (k : PP F) (h : ¬ (1 ≤ l ∧ l - 1 < 10)) : gC c l k = k := by unfold gC; rw [at_none c l 1 h]
theorem gC_eq (c : Dev nD) (t : Fin grid0.N) (k : PP F) : gC c (t.val + 1) k
    = (if t.val = 0 then waA c else id) ((if t.val < 8 then waW c t else id) (bod c t ((if t.val = 9 then goO c else id) ((if t.val = 9 then waO c else id) k)))) := by
  have hN : t.val < 10 := t.isLt
  unfold gC
  rw [at_some c (t.val + 1) 1 (by omega) (show t.val + 1 - 1 < 10 by omega)]
  rw [show (⟨t.val + 1 - 1, show t.val + 1 - 1 < 10 by omega⟩ : Fin grid0.N) = t from Fin.ext (Nat.add_sub_cancel t.val 1)]
  rw [each3, each3, each3]
  show cw ((wn0 (F := F) c).fetch t) _ (cw ((wn1 (F := F) c).fetch t) _ (cw ((wn2 (F := F) c).fetch t) _ (bod c t
    (cw ((wn0 (F := F) c).flush t) _ (cw ((wn1 (F := F) c).flush t) _ (cw ((wn2 (F := F) c).flush t) _
    (cw (_ && (wn0 (F := F) c).flush t) _ (cw (_ && (wn1 (F := F) c).flush t) _ (cw (_ && (wn2 (F := F) c).flush t) _ k))))))))) = _
  rw [single0, single1, single2, fetch0, fetch1, fetch2, flush0, flush1, flush2]
  by_cases h0 : t.val = 0
  · obtain rfl : t = t0_0 := Fin.ext h0
    rfl
  by_cases h9 : t.val = 9
  · obtain rfl : t = t0_9 := Fin.ext h9
    rfl
  by_cases h8 : t.val < 8
  · rw [decide_eq_false h0, decide_eq_false h9, decide_eq_true h8, if_neg h0, if_neg h9, if_neg h9, if_pos h8]; rfl
  · rw [decide_eq_false h0, decide_eq_false h9, decide_eq_false h8, if_neg h0, if_neg h9, if_neg h9, if_neg h8]; rfl
theorem gD_eq (c : Dev nD) (l : ℕ) (k : PP F) : gD c l k = k := by
  unfold gD
  by_cases h : 2 ≤ l ∧ l - 2 < 10
  · rw [at_some c l 2 h.1 h.2, each3]
    show cw (!_ && (wn0 (F := F) c).flush _) _ (cw (!_ && (wn1 (F := F) c).flush _) _ (cw (!_ && (wn2 (F := F) c).flush _) _ k)) = _
    rw [single0, single1, single2, flush0, flush1]
    rfl
  · rw [at_none c l 2 h]

theorem turn_0 (c : Dev nD) : turn (F := F) c 0 = goW c t0_0 (nxt c 1) := by
  rw [turn_groups, gA_eq, gB_eq, gC_none _ _ _ (by omega), gD_eq]; rfl
theorem turn_1 (c : Dev nD) : turn (F := F) c 1 = goA c (goW c t0_1 (waA c (waW c t0_0 (bod c t0_0 (nxt c 2))))) := by
  rw [turn_groups, gA_eq, gB_eq, gD_eq]
  have h := gC_eq (F := F) c t0_0 (nxt c 2)
  have h' : gC c 1 (nxt (F := F) c 2) = _ := h
  rw [if_pos (by decide), if_pos (by decide), h']; rfl
/-- A turn in the middle: the next point's fetch, this point's wait and body. -/
theorem turn_mid (c : Dev nD) (t : Fin grid0.N) (h1 : 1 ≤ t.val) (h7 : t.val < 7) :
    turn (F := F) c (t.val + 1) = goW c ⟨t.val + 1, Nat.lt_trans (Nat.succ_lt_succ h7) (by decide)⟩ (waW c t (bod c t (nxt c (t.val + 2)))) := by
  rw [turn_groups, gA_eq, gB_eq, gD_eq, gC_eq, if_neg (show ¬ t.val + 1 = 1 by omega), dif_pos (show t.val + 1 < 8 by omega), if_neg (show ¬ t.val = 0 by omega),
    if_pos (show t.val < 8 by omega), if_neg (show ¬ t.val = 9 by omega), if_neg (show ¬ t.val = 9 by omega), if_pos (show t.val + 1 + 1 < 12 by omega)]; rfl
theorem turn_8 (c : Dev nD) : turn (F := F) c 8 = waW c t0_7 (bod c t0_7 (nxt c 9)) := by
  rw [turn_groups, gA_eq, gB_eq, gD_eq]
  have h := gC_eq (F := F) c t0_7 (nxt c 9)
  have h' : gC c 8 (nxt (F := F) c 9) = _ := h
  rw [if_neg (by decide), dif_neg (by decide), if_pos (by decide), h']; rfl
theorem turn_9 (c : Dev nD) : turn (F := F) c 9 = bod c t0_8 (nxt c 10) := by
  rw [turn_groups, gA_eq, gB_eq, gD_eq]
  have h := gC_eq (F := F) c t0_8 (nxt c 10)
  have h' : gC c 9 (nxt (F := F) c 10) = _ := h
  rw [if_neg (by decide), dif_neg (by decide), if_pos (by decide), h']; rfl
theorem turn_10 (c : Dev nD) : turn (F := F) c 10 = bod c t0_9 (goO c (waO c (nxt c 11))) := by
  rw [turn_groups, gA_eq, gB_eq, gD_eq]
  have h := gC_eq (F := F) c t0_9 (nxt c 11)
  have h' : gC c 10 (nxt (F := F) c 11) = _ := h
  rw [if_neg (by decide), dif_neg (by decide), if_pos (by decide), h']; rfl
theorem turn_11 (c : Dev nD) : turn (F := F) c 11 = .ret ⟨⟩ := by
  rw [turn_groups, gA_eq, gB_eq, gC_none _ _ _ (by omega), gD_eq]; rfl

end Cert.KernelIdeal.Work
-- ==== Proof.Stage.lean ====
/-
  The copies into and out of the staging buffers: the activations once, the weights' blocks by turns into
  two buffers, the result's staging buffer back at the end.
-/
module

public import proofs.«01_k».proof.Proof.Loop
public import Idealize.ShloMosaic.Lib.Transfers

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-- The counters' part of the ghost state. -/
abbrev EC : UEmb Counters 𝕄 := countersEmb

abbrev DD (F : FTy → Type) [FloatOps F] : Defs nD τ sig (Elt F) (Pipeline.Sig Λ₀ (Fin 1) fun p => (pcfgs (F := F) p).Adm) := Pipeline.defs pcfgs defs₀

/-- Half the weights for each of the two staging buffers. -/
def hf (p : Fin 2) : PosShare TreeShare := if p = 0 then fullShare.left else fullShare.right

abbrev stW (p : Fin 2) : Memref sig .tc .vmem S4096x256 .bf16 := stage0_1 p
abbrev locW (c : Dev nD) : Loc nD τ sig := (c : Thread nD τ).loc main_arg1
abbrev locV (c : Dev nD) : Loc nD τ sig := (c : Thread nD τ).loc main_v1
abbrev locY (c : Dev nD) : Loc nD τ sig := (c : Thread nD τ).loc main_v15

theorem cols_of_write (v : View sig .tc .vmem S4096x256 .bf16) {off : Fin 2 → ℕ} (h : off = ![0, 0]) (inb : ∀ a, off a + S4096x256.size a ≤ S4096x256.size a) (inb0 : ∀ a, (![0, 0] : Fin 2 → ℕ) a + S4096x256.size a ≤ S4096x256.size a)
    (f : v.ty.Contents (Elt F)) (w : S4096x256.Idx → Elt F .bf16) :
    (v.slice (Rect.unit (s := S4096x256) ![0, 0] S4096x256.size inb0)).read (Elt F) ((v.slice (Rect.unit (s := S4096x256) off S4096x256.size inb)).write (Elt F) f w Finset.univ) = w := by
  subst h; exact View.read_write_univ _ _

/-! ## The weights' blocks -/

/-- The block of point `t` in the weights, and the part of a staging buffer it goes to. -/
def bW (c : Dev nD) (t : Fin grid0.N) : Memref sig .tc .hbm S4096x256 .bf16 := (wn1 (F := F) c).blk t
def dW (c : Dev nD) (t : Fin grid0.N) (p : Fin 2) : Memref sig .tc .vmem S4096x256 .bf16 := (wn1 (F := F) c).stg t p
theorem bW_exact (c : Dev nD) (t : Fin grid0.N) : (bW (F := F) c t).view.WordExact := (wn1 (F := F) c).wordExact_blk t
theorem dW_exact (c : Dev nD) (t : Fin grid0.N) (p : Fin 2) : (dW (F := F) c t p).view.WordExact := (wn1 (F := F) c).wordExact_stg t p

theorem bW_loc (c : Dev nD) (t : Fin grid0.N) : (bW (F := F) c t).view.loc (c : Thread nD τ) = locW c := rfl
theorem dW_loc (c : Dev nD) (t : Fin grid0.N) (p : Fin 2) : (dW (F := F) c t p).view.loc (c : Thread nD τ) = (stW p).view.loc (c : Thread nD τ) := rfl

theorem goW_eq (c : Dev nD) (t : Fin grid0.N) (p : Fin 2) (hp : par t.val = p) (K : PP F) :
    goW c t K = .op (.enqueueDma (bW (F := F) c t) (.here (dW (F := F) c t p)) (.dma (sem0_1 p)) (bW_exact c t) (dW_exact c t p) ⟨Or.inl rfl, trivial⟩) fun _ => K := by
  have hs : (cfgc (F := F) c).slots t (1 : Fin 3) = p := (slot1 c t.val t.isLt).trans hp
  subst hs; rfl
theorem waW_eq (c : Dev nD) (t : Fin grid0.N) (p : Fin 2) (hp : par t.val = p) (K : PP F) :
    waW c t K = .op (.waitDma2 (sem0_1 p) (bW (F := F) c t) (dW (F := F) c t p) (bW_exact c t) (dW_exact c t p)) fun _ => K := by
  have hs : (cfgc (F := F) c).slots t (1 : Fin 3) = p := (slot1 c t.val t.isLt).trans hp
  subst hs; rfl

/-- The weights' block staged for point `t`. -/
def wblk (c : Dev nD) (t : Fin grid0.N) (fw : Buf (Elt F) (locW c)) : Vec F S4096x256 .bf16 := (bW (F := F) c t).view.read (Elt F) fw

/-- One staging buffer of the weights at rest; with a copy for point `t` under way; holding point `t`'s block. -/
def WFree (c : Dev nD) (p : Fin 2) (fw : Buf (Elt F) (locW c)) : sProp 𝕄 :=
  iprop((locW c ↦{hf p} fw) ∗ (∃ f : Buf (Elt F) ((stW p).view.loc (c : Thread nD τ)), (stW p).view.loc (c : Thread nD τ) ↦{fullShare} f) ∗ semVal (dc c (sem0_1 p)) 0)
def WFly (c : Dev nD) (p : Fin 2) (t : Fin grid0.N) (fw : Buf (Elt F) (locW c)) : sProp 𝕄 :=
  iprop(∃ fd : Buf (Elt F) ((dW (F := F) c t p).view.loc (c : Thread nD τ)),
    Transfers.Flight EC (c : Thread nD τ) (.dma (sem0_1 p)) () (dW (F := F) c t p).view.dmaCredit
      iprop(((dW (F := F) c t p).view.loc (c : Thread nD τ) ↦[Finset.univ]{fullShare} ((dW (F := F) c t p).view.write (Elt F) fd (wblk c t fw) Finset.univ))
        ∗ ((bW (F := F) c t).view.loc (c : Thread nD τ) ↦[(bW (F := F) c t).view.set]{hf p} fw))
    ∗ ((bW (F := F) c t).view.loc (c : Thread nD τ) ↦[Finset.univ \ (bW (F := F) c t).view.set]{hf p} fw))
def WHeld (c : Dev nD) (p : Fin 2) (t : Fin grid0.N) (fw : Buf (Elt F) (locW c)) : sProp 𝕄 :=
  iprop((locW c ↦{hf p} fw) ∗ (∃ f : Buf (Elt F) ((stW p).view.loc (c : Thread nD τ)), ((stW p).view.loc (c : Thread nD τ) ↦{fullShare} f) ∗ ⌜colsOf (stW p) f = wblk c t fw⌝) ∗ semVal (dc c (sem0_1 p)) 0)

theorem WHeld_free (c : Dev nD) (p : Fin 2) (t : Fin grid0.N) (fw : Buf (Elt F) (locW c)) : (WHeld c p t fw : sProp 𝕄) ⊢ WFree c p fw := by
  unfold WHeld WFree
  iintro ⟨H1, ⟨%f, H2, -⟩, H3⟩
  isplitl [H1]; · iexact H1
  isplitl [H2]; · iexists f; iexact H2
  iexact H3

section
variable (bd : Option (Variants.lift 𝒱₀).V)

theorem run_goW (c : Dev nD) (t : Fin grid0.N) (p : Fin 2) (hp : par t.val = p) (fw : Buf (Elt F) (locW c)) (K : PP F) (Q : PUnit → sProp 𝕄) :
    iprop(WFree c p fw ∗ (WFly c p t fw -∗ wp frame (wpE (DD F) (Variants.lift 𝒱₀) (c : Thread nD τ) bd) Set.univ K Q))
      ⊢ wp frame (wpE (DD F) (Variants.lift 𝒱₀) (c : Thread nD τ) bd) Set.univ (goW c t K) Q := by
  rw [goW_eq c t p hp]
  have h := fun fd => Transfers.wp_dmaLocal (EC := (EC : UEmb Counters 𝕄)) (𝒱 := Variants.lift 𝒱₀) (c := (c : Thread nD τ)) (bd := bd) (defs := DD F) (Q := Q)
    (src := bW (F := F) c t) (via := .same) (dst := dW (F := F) c t p) (sm := .dma (sem0_1 p))
    (hsrc := bW_exact c t) (hdst := dW_exact c t p) (hsem := ⟨Or.inl rfl, trivial⟩) (k := fun _ => K) (q := hf p) (fs := fw) (Sd := Finset.univ) (fd := fd)
    () (dW (F := F) c t p).view.dmaCredit rfl (View.dmaCredit_pos _ (by decide)) (Finset.subset_univ _)
  have hsp : iprop(locW c ↦{hf p} fw) ⊢ (_ : sProp 𝕄) := (pointsTo_split_subset (Ix := Unit) (Name := ℕ) (U := UU) (Lvl := ℕ) (ℓ := (bW (F := F) c t).view.loc (c : Thread nD τ)) (f := fw) (q := hf p) (Finset.subset_univ (bW (F := F) c t).view.set)).1
  unfold WFree
  iintro ⟨⟨HW, ⟨%fd, HS⟩, Hv⟩, Hk⟩
  ihave HW := hsp $$ HW
  icases HW with ⟨HB, HR⟩
  iapply (h fd) $$ [HB HS Hv]
  · isplitl [HB]; · iexact HB
    isplitl [HS]; · iexact HS
    iexact Hv
  iintro HF
  iapply Hk
  unfold WFly
  iexists fd
  isplitl [HF]; · iexact HF
  iexact HR

end

theorem cols_stage (c : Dev nD) (t : Fin grid0.N) (p : Fin 2) (fd : Buf (Elt F) ((dW (F := F) c t p).view.loc (c : Thread nD τ))) (w : Vec F S4096x256 .bf16) :
    colsOf (c := c) (stW p) ((dW (F := F) c t p).view.write (Elt F) fd w Finset.univ : Buf (Elt F) ((stW p).view.loc (c : Thread nD τ))) = w :=
  cols_of_write (stW p).view (off := fun _ => 0) (by funext a; fin_cases a <;> rfl) _ _ fd w

theorem KSt_owes (c : Dev nD) (t : ℕ) (s : DmaSem sig) (hs : lvn s = 0) :
    iprop(levAts L lv ∗ KSt own snd c t) ⊢ (iprop(∃ O W, owes (c : Thread nD τ) O W ∗ MayWait (c : Thread nD τ) (.dma s) () O ∗ (∀ W', owes (c : Thread nD τ) O W' -∗ KSt own snd c t)) : sProp 𝕄) := by
  by_cases h0 : t = 0
  · subst h0
    unfold KSt
    rw [if_pos rfl]
    unfold BarPre
    iintro ⟨#HL, ⟨⟨%W, HO⟩, HR⟩, HF⟩
    iexists (O₀ c)
    iexists W
    isplitl [HO]; · iexact HO
    isplitr; · iapply (mayWait_O₀ c s hs); iexact HL
    iintro %W' HO
    isplitr [HF]
    · isplitl [HO]; · iexists W'; iexact HO
      iexact HR
    · iexact HF
  by_cases h1 : t = 10
  · subst h1
    unfold KSt
    rw [if_neg (by omega), if_pos rfl]
    unfold FinPost
    iintro ⟨#HL, ⟨⟨%W, HO⟩, HR⟩, HF⟩
    iexists 0
    iexists W
    isplitl [HO]; · iexact HO
    isplitr
    · iapply (ent_of_eq (MayWait_zero (c : Thread nD τ) (.dma s) ()).symm); iempintro
    iintro %W' HO
    isplitr [HF]
    · isplitl [HO]; · iexists W'; iexact HO
      iexact HR
    · iexact HF
  · rw [KSt_mid own snd c t h0 h1]
    unfold St
    iintro ⟨#HL, ⟨⟨%W, HO⟩, HR⟩, HF⟩
    iexists (oweOn c (rem (min t 8) (t - 2)))
    iexists W
    isplitl [HO]; · iexact HO
    isplitr
    · iapply (mayWait_on c (.dma s) (rem (min t 8) (t - 2)) 0 (le_of_eq hs) (fun n hn => Nat.lt_of_succ_lt (rem_above0 _ _ n hn))); iexact HL
    iintro %W' HO
    isplitr [HF]
    · isplitl [HO]; · iexists W'; iexact HO
      iexact HR
    · iexact HF

theorem lvn_stW (p : Fin 2) : lvn (sem0_1 p) = 0 := by fin_cases p <;> decide

section
variable (bd : Option (Variants.lift 𝒱₀).V)

theorem run_waW (c : Dev nD) (t : Fin grid0.N) (p : Fin 2) (hp : par t.val = p) (n : ℕ) (fw : Buf (Elt F) (locW c)) (K : PP F) (Q : PUnit → sProp 𝕄) :
    iprop(levAts L lv ∗ WFly c p t fw ∗ KSt own snd c n ∗ (WHeld c p t fw ∗ KSt own snd c n -∗ wp frame (wpE (DD F) (Variants.lift 𝒱₀) (c : Thread nD τ) bd) Set.univ K Q))
      ⊢ wp frame (wpE (DD F) (Variants.lift 𝒱₀) (c : Thread nD τ) bd) Set.univ (waW c t K) Q := by
  rw [waW_eq c t p hp]
  have h := fun O W D => Transfers.wp_waitLocalO (EC := (EC : UEmb Counters 𝕄)) (𝒱 := Variants.lift 𝒱₀) (c := (c : Thread nD τ)) (bd := bd) (defs := DD F) (Q := Q)
    (sem := sem0_1 p) (srcw := bW (F := F) c t) (dstw := dW (F := F) c t p) (hsrc := bW_exact c t) (hdst := dW_exact c t p) (k := fun _ => K)
    () rfl (D := D) (O := O) (W := W)
  have hjo : iprop(((bW (F := F) c t).view.loc (c : Thread nD τ) ↦[(bW (F := F) c t).view.set]{hf p} fw) ∗ ((bW (F := F) c t).view.loc (c : Thread nD τ) ↦[Finset.univ \ (bW (F := F) c t).view.set]{hf p} fw))
      ⊢ (iprop(locW c ↦{hf p} fw) : sProp 𝕄) := (pointsTo_split_subset (Ix := Unit) (Name := ℕ) (U := UU) (Lvl := ℕ) (ℓ := (bW (F := F) c t).view.loc (c : Thread nD τ)) (f := fw) (q := hf p) (Finset.subset_univ (bW (F := F) c t).view.set)).2
  unfold WFly
  iintro ⟨#HL, ⟨%fd, HF, HR⟩, HK, Hk⟩
  ihave HK := (KSt_owes own snd c n (sem0_1 p) (lvn_stW p)) $$ [HK]
  · isplitr; · iexact HL
    iexact HK
  icases HK with ⟨%O, %W, HO, HM, HK⟩
  iapply (h O W _) $$ [HF HO HM]
  · isplitl [HF]; · iexact HF
    isplitl [HO]; · iexact HO
    iexact HM
  iintro ⟨⟨HD, HB⟩, Hv, HO⟩
  ihave HW := hjo $$ [HB HR]
  · isplitl [HB]; · iexact HB
    iexact HR
  iapply Hk
  isplitr [HO HK]
  · unfold WHeld
    isplitl [HW]; · iexact HW
    isplitr [Hv]
    · iexists _
      isplitl [HD]; · iexact HD
      ipureintro; exact cols_stage c t p fd (wblk c t fw)
    · iexact Hv
  · iapply HK $$ HO

/-! ## The activations -/

def bA (c : Dev nD) : Memref sig .tc .hbm S2048x4096 .bf16 := (wn0 (F := F) c).blk t0_0
def dA (c : Dev nD) : Memref sig .tc .vmem S2048x4096 .bf16 := (wn0 (F := F) c).stg t0_0 (0 : Fin 1)
theorem bA_exact (c : Dev nD) : (bA (F := F) c).view.WordExact := (wn0 (F := F) c).wordExact_blk t0_0
theorem dA_exact (c : Dev nD) : (dA (F := F) c).view.WordExact := (wn0 (F := F) c).wordExact_stg t0_0 (0 : Fin 1)
theorem goA_eq (c : Dev nD) (K : PP F) :
    goA c K = .op (.enqueueDma (bA (F := F) c) (.here (dA (F := F) c)) (.dma cc0_sem0_0) (bA_exact c) (dA_exact c) ⟨Or.inl rfl, trivial⟩) fun _ => K := rfl
theorem waA_eq (c : Dev nD) (K : PP F) :
    waA c K = .op (.waitDma2 cc0_sem0_0 (bA (F := F) c) (dA (F := F) c) (bA_exact c) (dA_exact c)) fun _ => K := rfl
theorem set_unit_zero (b : Ref sig .tc) {off : Fin b.ty.shape.rank → ℕ} (h : off = fun _ => 0) (inb : ∀ a, off a + b.ty.shape.size a ≤ b.ty.shape.size a) :
    ((Memref.whole b).access (Rect.unit off b.ty.shape.size inb) : View sig .tc _ _ _).set = Finset.univ := by
  subst h; exact Memref.set_access_whole b
theorem bA_set (c : Dev nD) : (bA (F := F) c).view.set = (Finset.univ : Finset (Idx (locV c))) := by
  unfold bA
  exact set_unit_zero main_v1 (by funext a; fin_cases a <;> exact Nat.zero_mul _) _
theorem bA_read (c : Dev nD) (f : Buf (Elt F) (locV c)) : (bA (F := F) c).view.read (Elt F) f = (f : Vec F S2048x4096 .bf16) := by
  unfold bA
  exact Memref.read_access_unit_zero (Elt F) main_v1 (by funext a; fin_cases a <;> exact Nat.zero_mul _) _ f
theorem dA_write (c : Dev nD) (f : Buf (Elt F) (locA c)) (w : Vec F S2048x4096 .bf16) : (dA (F := F) c).view.write (Elt F) f w Finset.univ = w := by
  unfold dA
  exact Memref.write_access_unit_zero_univ (Elt F) cc0_stg0_0 (by funext a; fin_cases a <;> rfl) _ f w

def AFly (c : Dev nD) (fv : Buf (Elt F) (locV c)) : sProp 𝕄 :=
  iprop(∃ fd : Buf (Elt F) ((dA (F := F) c).view.loc (c : Thread nD τ)),
    Transfers.Flight EC (c : Thread nD τ) (.dma cc0_sem0_0) () (dA (F := F) c).view.dmaCredit
      iprop(((dA (F := F) c).view.loc (c : Thread nD τ) ↦[Finset.univ]{fullShare} ((dA (F := F) c).view.write (Elt F) fd ((bA (F := F) c).view.read (Elt F) fv) Finset.univ))
        ∗ ((bA (F := F) c).view.loc (c : Thread nD τ) ↦[(bA (F := F) c).view.set]{fullShare} fv)))

theorem run_goA (c : Dev nD) (fv : Buf (Elt F) (locV c)) (K : PP F) (Q : PUnit → sProp 𝕄) :
    iprop((locV c ↦{fullShare} fv) ∗ (∃ f : Buf (Elt F) (locA c), locA c ↦{fullShare} f) ∗ semVal (dc c cc0_sem0_0) 0 ∗ (AFly c fv -∗ wp frame (wpE (DD F) (Variants.lift 𝒱₀) (c : Thread nD τ) bd) Set.univ K Q))
      ⊢ wp frame (wpE (DD F) (Variants.lift 𝒱₀) (c : Thread nD τ) bd) Set.univ (goA c K) Q := by
  rw [goA_eq c]
  have h := fun fd => Transfers.wp_dmaLocal (EC := (EC : UEmb Counters 𝕄)) (𝒱 := Variants.lift 𝒱₀) (c := (c : Thread nD τ)) (bd := bd) (defs := DD F) (Q := Q)
    (src := bA (F := F) c) (via := .same) (dst := dA (F := F) c) (sm := .dma cc0_sem0_0)
    (hsrc := bA_exact c) (hdst := dA_exact c) (hsem := ⟨Or.inl rfl, trivial⟩) (k := fun _ => K) (q := fullShare) (fs := fv) (Sd := Finset.univ) (fd := fd)
    () (dA (F := F) c).view.dmaCredit rfl (View.dmaCredit_pos _ (by decide)) (Finset.subset_univ _)
  have hsp : iprop(locV c ↦{fullShare} fv) ⊢ (iprop((bA (F := F) c).view.loc (c : Thread nD τ) ↦[(bA (F := F) c).view.set]{fullShare} fv) : sProp 𝕄) := by
    rw [bA_set c]; exact .rfl
  iintro ⟨HW, ⟨%fd, HS⟩, Hv, Hk⟩
  ihave HB := hsp $$ HW
  iapply (h fd) $$ [HB HS Hv]
  · isplitl [HB]; · iexact HB
    isplitl [HS]; · iexact HS
    iexact Hv
  iintro HF
  iapply Hk
  unfold AFly
  iexists fd
  iexact HF

theorem run_waA (c : Dev nD) (n : ℕ) (fv : Buf (Elt F) (locV c)) (K : PP F) (Q : PUnit → sProp 𝕄) :
    iprop(levAts L lv ∗ AFly c fv ∗ KSt own snd c n ∗ ((locV c ↦{fullShare} fv) ∗ (locA c ↦{fullShare} (fv : Buf (Elt F) (locA c))) ∗ semVal (dc c cc0_sem0_0) 0 ∗ KSt own snd c n -∗ wp frame (wpE (DD F) (Variants.lift 𝒱₀) (c : Thread nD τ) bd) Set.univ K Q))
      ⊢ wp frame (wpE (DD F) (Variants.lift 𝒱₀) (c : Thread nD τ) bd) Set.univ (waA c K) Q := by
  rw [waA_eq c]
  have h := fun O W D => Transfers.wp_waitLocalO (EC := (EC : UEmb Counters 𝕄)) (𝒱 := Variants.lift 𝒱₀) (c := (c : Thread nD τ)) (bd := bd) (defs := DD F) (Q := Q)
    (sem := cc0_sem0_0) (srcw := bA (F := F) c) (dstw := dA (F := F) c) (hsrc := bA_exact c) (hdst := dA_exact c) (k := fun _ => K)
    () rfl (D := D) (O := O) (W := W)
  have hjo : iprop((bA (F := F) c).view.loc (c : Thread nD τ) ↦[(bA (F := F) c).view.set]{fullShare} fv) ⊢ (iprop(locV c ↦{fullShare} fv) : sProp 𝕄) := by
    rw [bA_set c]; exact .rfl
  have hD : ∀ fd, iprop((dA (F := F) c).view.loc (c : Thread nD τ) ↦[Finset.univ]{fullShare} ((dA (F := F) c).view.write (Elt F) fd ((bA (F := F) c).view.read (Elt F) fv) Finset.univ))
      ⊢ (iprop(locA c ↦{fullShare} (fv : Buf (Elt F) (locA c))) : sProp 𝕄) := by
    intro fd
    exact ent_of_eq (congrArg (fun z : Buf (Elt F) (locA c) => (iprop(locA c ↦{fullShare} z) : sProp 𝕄)) ((dA_write c fd _).trans (bA_read c fv)))
  unfold AFly
  iintro ⟨#HL, ⟨%fd, HF⟩, HK, Hk⟩
  ihave HK := (KSt_owes own snd c n cc0_sem0_0 (by decide)) $$ [HK]
  · isplitr; · iexact HL
    iexact HK
  icases HK with ⟨%O, %W, HO, HM, HK⟩
  iapply (h O W _) $$ [HF HO HM]
  · isplitl [HF]; · iexact HF
    isplitl [HO]; · iexact HO
    iexact HM
  iintro ⟨⟨HD, HB⟩, Hv, HO⟩
  ihave HW := hjo $$ HB
  ihave HD := (hD fd) $$ HD
  iapply Hk
  isplitl [HW]; · iexact HW
  isplitl [HD]; · iexact HD
  isplitl [Hv]; · iexact Hv
  iapply HK $$ HO

/-! ## The result -/

def dO (c : Dev nD) : Memref sig .tc .vmem S1x1024x8192 .bf16 := (wn2 (F := F) c).stg t0_9 (0 : Fin 1)
def bO (c : Dev nD) : Memref sig .tc .hbm S1x1024x8192 .bf16 := (wn2 (F := F) c).blk t0_9
theorem bO_exact (c : Dev nD) : (bO (F := F) c).view.WordExact := (wn2 (F := F) c).wordExact_blk t0_9
theorem dO_exact (c : Dev nD) : (dO (F := F) c).view.WordExact := (wn2 (F := F) c).wordExact_stg t0_9 (0 : Fin 1)
theorem goO_eq (c : Dev nD) (K : PP F) :
    goO c K = .op (.enqueueDma (dO (F := F) c) (.here (bO (F := F) c)) (.dma cc0_sem2_0) (dO_exact c) (bO_exact c) ⟨Or.inl rfl, trivial⟩) fun _ => K := rfl
theorem waO_eq (c : Dev nD) (K : PP F) :
    waO c K = .op (.waitDma2 cc0_sem2_0 (dO (F := F) c) (bO (F := F) c) (dO_exact c) (bO_exact c)) fun _ => K := rfl
theorem dO_set (c : Dev nD) : (dO (F := F) c).view.set = Finset.univ := by
  unfold dO
  exact set_unit_zero cc0_stg2_0 (by funext a; fin_cases a <;> rfl) _
theorem dO_read (c : Dev nD) (f : Buf (Elt F) (locO c)) : (dO (F := F) c).view.read (Elt F) f = f := by
  unfold dO
  exact Memref.read_access_unit_zero (Elt F) cc0_stg2_0 (by funext a; fin_cases a <;> rfl) _ f
theorem bO_write (c : Dev nD) (f : Buf (Elt F) (locY c)) (w : Vec F S1x1024x8192 .bf16) : (bO (F := F) c).view.write (Elt F) f w Finset.univ = w := by
  unfold bO
  exact Memref.write_access_unit_zero_univ (Elt F) main_v15 (by funext a; fin_cases a <;> exact Nat.zero_mul _) _ f w

theorem run_out (c : Dev nD) (fo : Buf (Elt F) (locO c)) (W : Waits sig Unit) (K : PP F) (Q : PUnit → sProp 𝕄) :
    iprop((locO c ↦{fullShare} fo) ∗ (∃ f : Buf (Elt F) (locY c), locY c ↦{fullShare} f) ∗ semVal (dc c cc0_sem2_0) 0 ∗ owes (c : Thread nD τ) 0 W
        ∗ ((locO c ↦{fullShare} fo) ∗ (locY c ↦{fullShare} (fo : Buf (Elt F) (locY c))) ∗ semVal (dc c cc0_sem2_0) 0 ∗ (∃ W', owes (c : Thread nD τ) 0 W') -∗ wp frame (wpE (DD F) (Variants.lift 𝒱₀) (c : Thread nD τ) bd) Set.univ K Q))
      ⊢ wp frame (wpE (DD F) (Variants.lift 𝒱₀) (c : Thread nD τ) bd) Set.univ (goO c (waO c K)) Q := by
  rw [goO_eq c, waO_eq c]
  have h := fun fd => Transfers.wp_dmaLocal (EC := (EC : UEmb Counters 𝕄)) (𝒱 := Variants.lift 𝒱₀) (c := (c : Thread nD τ)) (bd := bd) (defs := DD F) (Q := Q)
    (src := dO (F := F) c) (via := .same) (dst := bO (F := F) c) (sm := .dma cc0_sem2_0)
    (hsrc := dO_exact c) (hdst := bO_exact c) (hsem := ⟨Or.inl rfl, trivial⟩) (k := fun _ => .op (.waitDma2 cc0_sem2_0 (dO (F := F) c) (bO (F := F) c) (dO_exact c) (bO_exact c)) fun _ => K) (q := fullShare) (fs := fo) (Sd := Finset.univ) (fd := fd)
    () (bO (F := F) c).view.dmaCredit rfl (View.dmaCredit_pos _ (by decide)) (Finset.subset_univ _)
  have h2 := fun O W D => Transfers.wp_waitLocalO (EC := (EC : UEmb Counters 𝕄)) (𝒱 := Variants.lift 𝒱₀) (c := (c : Thread nD τ)) (bd := bd) (defs := DD F) (Q := Q)
    (sem := cc0_sem2_0) (srcw := dO (F := F) c) (dstw := bO (F := F) c) (hsrc := dO_exact c) (hdst := bO_exact c) (k := fun _ => K)
    () rfl (D := D) (O := O) (W := W)
  have hsp : iprop(locO c ↦{fullShare} fo) ⊢ (iprop((dO (F := F) c).view.loc (c : Thread nD τ) ↦[(dO (F := F) c).view.set]{fullShare} fo) : sProp 𝕄) := by
    rw [dO_set c]; exact .rfl
  have hjo : iprop((dO (F := F) c).view.loc (c : Thread nD τ) ↦[(dO (F := F) c).view.set]{fullShare} fo) ⊢ (iprop(locO c ↦{fullShare} fo) : sProp 𝕄) := by
    rw [dO_set c]; exact .rfl
  have hD : ∀ fd, iprop((bO (F := F) c).view.loc (c : Thread nD τ) ↦[Finset.univ]{fullShare} ((bO (F := F) c).view.write (Elt F) fd ((dO (F := F) c).view.read (Elt F) fo) Finset.univ))
      ⊢ (iprop(locY c ↦{fullShare} (fo : Buf (Elt F) (locY c))) : sProp 𝕄) := by
    intro fd
    exact ent_of_eq (congrArg (fun z : Buf (Elt F) (locY c) => (iprop(locY c ↦{fullShare} z) : sProp 𝕄)) ((bO_write c fd _).trans (dO_read c fo)))
  iintro ⟨HW, ⟨%fd, HS⟩, Hv, HO, Hk⟩
  ihave HB := hsp $$ HW
  iapply (h fd) $$ [HB HS Hv]
  · isplitl [HB]; · iexact HB
    isplitl [HS]; · iexact HS
    iexact Hv
  iintro HF
  iapply (h2 0 W _) $$ [HF HO]
  · isplitl [HF]; · iexact HF
    isplitl [HO]; · iexact HO
    iapply (ent_of_eq (MayWait_zero (c : Thread nD τ) (.dma cc0_sem2_0) ()).symm); iempintro
  iintro ⟨⟨HD, HB⟩, Hv, HO⟩
  ihave HW := hjo $$ HB
  ihave HD := (hD fd) $$ HD
  iapply Hk
  isplitl [HW]; · iexact HW
  isplitl [HD]; · iexact HD
  isplitl [Hv]; · iexact Hv
  iexists _
  iexact HO

end

end Cert.KernelIdeal.Work
-- ==== Proof.Turn.lean ====
/-
  The turns of the loop: what a device holds before each, and the run of the whole loop.
-/
module

public import proofs.«01_k».proof.Proof.Stage

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-- A run of a device's program under the bound `bd`. -/
abbrev WP (c : Dev nD) (bd : Option (Variants.lift 𝒱₀).V) (K : PP F) (Q : PUnit → sProp 𝕄) : sProp 𝕄 :=
  wp frame (wpE (DD F) (Variants.lift 𝒱₀) (c : Thread nD τ) bd) Set.univ K Q

/-- The bound of turn `l`. -/
abbrev bnd (l : ℕ) : Option (Variants.lift 𝒱₀).V := some (Sum.inr (12 - l))

theorem bnd_kernel (l : ℕ) : ∀ u ∈ bnd 𝒱₀ l, (Variants.lift 𝒱₀).lt (Sum.inl none) u := by
  intro u hu; cases hu; exact Sum.Lex.sep _ _

theorem run_nxt (c : Dev nD) (l : ℕ) (hl : l < 12) (R : sProp 𝕄) (Q : PUnit → sProp 𝕄) (h : R ⊢ WP 𝒱₀ c (bnd 𝒱₀ (l + 1)) (turn c (l + 1)) Q) :
    R ⊢ WP 𝒱₀ c (bnd 𝒱₀ l) (nxt c (l + 1)) Q := by
  have hv : ∀ u ∈ bnd 𝒱₀ l, (Variants.lift 𝒱₀).lt (Sum.inr (12 - (l + 1))) u := by
    intro u hu; cases hu; exact Sum.Lex.inr (show 12 - (l + 1) < 12 - l by omega)
  have h1 := wp_call (defs := DD F) (Variants.lift 𝒱₀) (c : Thread nD τ) (bnd 𝒱₀ l) (Set.univ : Set ℕ) (Γ := .empty) (Q := Q) (ℓ := Pipeline.pipe (0 : Fin 1)) (a := (adm (F := F) c, l + 1)) (k := fun _ => .ret ⟨⟩) (Sum.inr (12 - (l + 1))) hv
  unfold nxt
  refine BIBase.Entails.trans ?_ h1
  iintro H
  ihave H := h $$ H
  iapply (wp_wand_r frame _ Set.univ)
  isplitl [H]; · iexact H
  iintro %x H
  rw [wp_ret]
  imodintro; iexact H

/-- The weights' block is staged, if the point computes. -/
def WCur (c : Dev nD) (p : Fin 2) (t : Fin grid0.N) (fw : Buf (Elt F) (locW c)) : sProp 𝕄 :=
  iprop((locW c ↦{hf p} fw) ∗ (∃ f : Buf (Elt F) ((stW p).view.loc (c : Thread nD τ)), ((stW p).view.loc (c : Thread nD τ) ↦{fullShare} f) ∗ ⌜t.val < 8 → colsOf (c := c) (stW p) f = wblk c t fw⌝) ∗ semVal (dc c (sem0_1 p)) 0)
theorem WHeld_cur (c : Dev nD) (p : Fin 2) (t : Fin grid0.N) (fw : Buf (Elt F) (locW c)) : (WHeld c p t fw : sProp 𝕄) ⊢ WCur c p t fw := by
  unfold WHeld WCur
  iintro ⟨H1, ⟨%f, H2, %h⟩, H3⟩
  isplitl [H1]; · iexact H1
  isplitl [H2]
  · iexists f; isplitl [H2]; · iexact H2
    ipureintro; exact fun _ => h
  iexact H3
theorem WFree_cur (c : Dev nD) (p : Fin 2) (t : Fin grid0.N) (ht : ¬ t.val < 8) (fw : Buf (Elt F) (locW c)) : (WFree c p fw : sProp 𝕄) ⊢ WCur c p t fw := by
  unfold WFree WCur
  iintro ⟨H1, ⟨%f, H2⟩, H3⟩
  isplitl [H1]; · iexact H1
  isplitl [H2]
  · iexists f; isplitl [H2]; · iexact H2
    ipureintro; exact fun h => absurd h ht
  iexact H3

/-- The persistent facts; the table. -/
def Ctx : sProp 𝕄 := iprop(Recs own snd κ ∗ levAts L lv)
instance : BI.Persistent (Ctx own snd κ) := by unfold Ctx; infer_instance
theorem Ctx_lev : (Ctx own snd κ : sProp 𝕄) ⊢ iprop(levAts L lv) := by
  unfold Ctx; iintro ⟨-, H⟩; iexact H
theorem Ctx_recs : (Ctx own snd κ : sProp 𝕄) ⊢ Recs own snd κ := by
  unfold Ctx; iintro ⟨H, -⟩; iexact H
def Tbl (c : Dev nD) : sProp 𝕄 := iprop(locT c ↦{fullShare} (fun _ => tb c : Buf (Elt F) (locT c)))
/-- The activations staged. -/
def AHeld (c : Dev nD) (fv : Buf (Elt F) (locV c)) : sProp 𝕄 :=
  iprop((locV c ↦{fullShare} fv) ∗ (locA c ↦{fullShare} (fv : Buf (Elt F) (locA c))) ∗ semVal (dc c cc0_sem0_0) 0)

/-- What each device keeps and sends is what its operands give. -/
def Fits (c : Dev nD) (fv : Buf (Elt F) (locV c)) (fw : Buf (Elt F) (locW c)) : Prop :=
  ∀ t : Fin grid0.N, t.val < 8 → own c t.val = keepOf c (wblk c t fw) (rowsLo (fv : Buf (Elt F) (locA c))) (rowsHi (fv : Buf (Elt F) (locA c)))
    ∧ snd c t.val = sendOf c (wblk c t fw) (rowsLo (fv : Buf (Elt F) (locA c))) (rowsHi (fv : Buf (Elt F) (locA c)))

theorem slots0 (c : Dev nD) (t : Fin grid0.N) : (cfgc (F := F) c).slots t (0 : Fin 3) = (0 : Fin 1) := Subsingleton.elim (α := Fin 1) _ _
theorem slots2 (c : Dev nD) (t : Fin grid0.N) : (cfgc (F := F) c).slots t (2 : Fin 3) = (0 : Fin 1) := Subsingleton.elim (α := Fin 1) _ _

/-- The body at a point and the slots of its three windows. -/
abbrev bodyAt (t : Fin grid0.N) (s0 : Fin 1) (s1 : Fin 2) (s2 : Fin 1) : Prog (TpuEff nD τ sig (Elt F) Λ₀ .tc) PUnit :=
  cc0_body (grid0.coords t) (Memref.whole main_v14) (Memref.isWhole_whole _) (stage0_0 s0) (hstage0_0 s0) (stage0_1 s1) (hstage0_1 s1) (stage0_2 s2) (hstage0_2 s2)
    (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9
theorem defs_body0 (c : Dev nD) (t : Fin grid0.N) (s : (w : Fin 3) → Fin ((cfgc (F := F) c).win w).nbuf) :
    defs₀ (F := F) .tc (cfgc (F := F) c).body ((cfgc (F := F) c).bodyArgs t s) = bodyAt t (s 0) (s 1) (s 2) := rfl
theorem defs_body (c : Dev nD) (t : Fin grid0.N) (p : Fin 2) (hp : (cfgc (F := F) c).slots t (1 : Fin 3) = p) :
    defs₀ (F := F) .tc (cfgc (F := F) c).body ((cfgc (F := F) c).bodyArgs t ((cfgc (F := F) c).slots t)) = bodyAt t 0 p 0 := by
  rw [defs_body0, hp, slots0, slots2]
theorem defs_kernel (pr : Proc τ) (ℓ : Λ₀.Label) (x : Λ₀.Args ℓ) : DD F pr (Pipeline.kernel ℓ) x = Pipeline.liftProg (defs₀ (F := F) pr ℓ x) := rfl

theorem run_bod (c : Dev nD) (bd : Option (Variants.lift 𝒱₀).V) (hbd : ∀ u ∈ bd, (Variants.lift 𝒱₀).lt (Sum.inl none) u) (t : Fin grid0.N) (p : Fin 2) (hp : par t.val = p)
    (fv : Buf (Elt F) (locV c)) (fw : Buf (Elt F) (locW c)) (hfit : Fits own snd c fv fw) (K : PP F) (Q : PUnit → sProp 𝕄) :
    iprop(Ctx own snd κ ∗ Tbl c ∗ AHeld c fv ∗ WCur c p t fw ∗ KSt own snd c t.val ∗ (Tbl c ∗ AHeld c fv ∗ WFree c p fw ∗ KSt own snd c (t.val + 1) -∗ WP 𝒱₀ c bd K Q))
      ⊢ WP 𝒱₀ c bd (bod c t K) Q := by
  have hs : (cfgc (F := F) c).slots t (1 : Fin 3) = p := (slot1 c t.val t.isLt).trans hp
  have hcall := wp_call (defs := DD F) (Variants.lift 𝒱₀) (c : Thread nD τ) bd (Set.univ : Set ℕ) (Γ := .empty) (Q := Q) (ℓ := Pipeline.kernel (cfgc (F := F) c).body)
    (a := (cfgc (F := F) c).bodyArgs t ((cfgc (F := F) c).slots t)) (k := fun _ => K) (Sum.inl none) hbd
  have hb := fun (f : Buf (Elt F) ((stW p).view.loc (c : Thread nD τ))) (hf : t.val < 8 → colsOf (c := c) (stW p) f = wblk c t fw) (Q' : PUnit → sProp 𝕄) =>
    run_body own snd κ 𝒱₀ c t (stW p) (hstage0_1 p) (fv : Buf (Elt F) (locA c)) f (fun _ => tb c) rfl
      (fun h => by rw [hf h]; exact (hfit t h).1) (fun h => by rw [hf h]; exact (hfit t h).2) Q'
  have hl : ∀ Q' : PUnit → sProp 𝕄, wp frame (wpE (defs₀ (F := F)) 𝒱₀ (c : Thread nD τ) none) Set.univ
        (bodyAt t 0 p 0) Q'
      ⊢ wp frame (wpE (DD F) (Variants.lift 𝒱₀) (c : Thread nD τ) (some (Sum.inl none))) Set.univ (DD F .tc (Pipeline.kernel (cfgc (F := F) c).body) ((cfgc (F := F) c).bodyArgs t ((cfgc (F := F) c).slots t))) Q' := by
    intro Q'
    exact BIBase.Entails.trans (ent_of_eq (congrArg (fun q => wp frame (wpE (defs₀ (F := F)) 𝒱₀ (c : Thread nD τ) none) Set.univ q Q') (defs_body c t p hs).symm))
      (Pipeline.wp_liftProg (DD F) (defs_kernel (F := F)) 𝒱₀ (c : Thread nD τ) Set.univ none (defs₀ (F := F) .tc (cfgc (F := F) c).body ((cfgc (F := F) c).bodyArgs t ((cfgc (F := F) c).slots t))) Q')
  unfold bod
  refine BIBase.Entails.trans ?_ hcall
  refine BIBase.Entails.trans ?_ (hl _)
  unfold Ctx Tbl AHeld WCur WFree
  iintro ⟨⟨#HR, #HL⟩, HT, ⟨HV, HA, Hs0⟩, ⟨HW, ⟨%f, HS, %hf⟩, Hs1⟩, HK, Hk⟩
  iapply (hb f hf)
  isplitr; · iexact HR
  isplitr; · iexact HL
  isplitl [HT]; · iexact HT
  isplitl [HA]; · iexact HA
  isplitl [HS]; · iexact HS
  isplitl [HK]; · iexact HK
  iintro ⟨HT, HA, HS, HK⟩
  iapply Hk
  isplitl [HT]; · iexact HT
  isplitl [HV HA Hs0]
  · isplitl [HV]; · iexact HV
    isplitl [HA]; · iexact HA
    iexact Hs0
  isplitl [HW HS Hs1]
  · isplitl [HW]; · iexact HW
    isplitl [HS]; · iexists f; iexact HS
    iexact Hs1
  iexact HK

end Cert.KernelIdeal.Work
-- ==== Proof.Turns.lean ====
/-
  The whole loop of a device, turn by turn.
-/
module

public import proofs.«01_k».proof.Proof.Turn

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-- The result's array before the write-back. -/
def YFree (c : Dev nD) : sProp 𝕄 := iprop((∃ f : Buf (Elt F) (locY c), locY c ↦{fullShare} f) ∗ semVal (dc c cc0_sem2_0) 0)

/-- What the loop leaves. -/
def LEnd (c : Dev nD) (fv : Buf (Elt F) (locV c)) (fw : Buf (Elt F) (locW c)) : sProp 𝕄 :=
  iprop(Tbl c ∗ AHeld c fv ∗ WFree c 0 fw ∗ WFree c 1 fw ∗ KSt own snd c 10 ∗ (locY c ↦{fullShare} (outF own snd c : Buf (Elt F) (locY c))) ∗ semVal (dc c cc0_sem2_0) 0)

section
variable (c : Dev nD) (fv : Buf (Elt F) (locV c)) (fw : Buf (Elt F) (locW c)) (hfit : Fits own snd c fv fw)

theorem run_turn11 (Q : PUnit → sProp 𝕄) : (Q ⟨⟩ : sProp 𝕄) ⊢ WP 𝒱₀ c (bnd 𝒱₀ 11) (turn c 11) Q := by
  rw [turn_11]
  unfold WP
  rw [wp_ret]
  iintro H
  imodintro; iexact H

set_option maxRecDepth 20000 in
include hfit in
theorem run_turn10 (Q : PUnit → sProp 𝕄) :
    iprop(Ctx own snd κ ∗ YFree c ∗ Tbl c ∗ AHeld c fv ∗ WFree c 0 fw ∗ WFree c 1 fw ∗ KSt own snd c 9 ∗ (LEnd own snd c fv fw -∗ Q ⟨⟩))
      ⊢ WP 𝒱₀ c (bnd 𝒱₀ 10) (turn c 10) Q := by
  rw [turn_10]
  have hb := run_bod own snd κ 𝒱₀ c (bnd 𝒱₀ 10) (bnd_kernel 𝒱₀ 10) t0_9 1 (by decide) fv fw hfit (goO c (waO c (nxt c 11))) Q
  have hw := WFree_cur (F := F) c 1 t0_9 (by decide) fw
  have ho := fun W => run_out 𝒱₀ (bnd 𝒱₀ 10) c (outF own snd c) W (nxt c 11) Q
  have hn := run_nxt 𝒱₀ c 10 (by decide) (Q ⟨⟩) Q (run_turn11 𝒱₀ c Q)
  have e1 : (KSt own snd c 10 : sProp 𝕄) = iprop(FinPost own snd c ∗ semVal (bar c) 0) := by unfold KSt; rw [if_neg (by decide), if_pos rfl]
  have e0 : (KSt own snd c (t0_9.val + 1) : sProp 𝕄) = KSt own snd c 10 := rfl
  unfold FinPost at e1
  iintro ⟨#HC, HY, HT, HA, HW0, HW1, HK, Hk⟩
  ihave HY := (ent_of_eq (show (YFree c : sProp 𝕄) = iprop((∃ f : Buf (Elt F) (locY c), locY c ↦{fullShare} f) ∗ semVal (dc c cc0_sem2_0) 0) from rfl)) $$ HY
  icases HY with ⟨HY, Hs2⟩
  ihave HW1 := hw $$ HW1
  iapply hb
  isplitr; · iexact HC
  isplitl [HT]; · iexact HT
  isplitl [HA]; · iexact HA
  isplitl [HW1]; · iexact HW1
  isplitl [HK]; · iexact HK
  iintro ⟨HT, HA, HW1, HK⟩
  ihave HK := (ent_of_eq (e0.trans e1)) $$ HK
  icases HK with ⟨⟨⟨%W, HO⟩, HL, HR⟩, HB⟩
  iapply (ho W)
  isplitl [HL]; · iexact HL
  isplitl [HY]; · iexact HY
  isplitl [Hs2]; · iexact Hs2
  isplitl [HO]; · iexact HO
  iintro ⟨HL, HY, Hs2, HO⟩
  iapply hn
  iapply Hk
  unfold LEnd
  isplitl [HT]; · iexact HT
  isplitl [HA]; · iexact HA
  isplitl [HW0]; · iexact HW0
  isplitl [HW1]; · iexact HW1
  isplitr [HY Hs2]
  · iapply (ent_of_eq e1.symm)
    isplitr [HB]
    · isplitl [HO]; · iexact HO
      isplitl [HL]; · iexact HL
      iexact HR
    · iexact HB
  isplitl [HY]; · iexact HY
  iexact Hs2

set_option maxRecDepth 20000 in
include hfit in
theorem run_turn9 (Q : PUnit → sProp 𝕄) :
    iprop(Ctx own snd κ ∗ YFree c ∗ Tbl c ∗ AHeld c fv ∗ WFree c 0 fw ∗ WFree c 1 fw ∗ KSt own snd c 8 ∗ (LEnd own snd c fv fw -∗ Q ⟨⟩))
      ⊢ WP 𝒱₀ c (bnd 𝒱₀ 9) (turn c 9) Q := by
  rw [turn_9]
  have hb := run_bod own snd κ 𝒱₀ c (bnd 𝒱₀ 9) (bnd_kernel 𝒱₀ 9) t0_8 1 (by decide) fv fw hfit (nxt c 10) Q
  have hw := WFree_cur (F := F) c 1 t0_8 (by decide) fw
  have hn := run_nxt 𝒱₀ c 9 (by decide) _ Q (run_turn10 own snd κ 𝒱₀ c fv fw hfit Q)
  iintro ⟨#HC, HY, HT, HA, HW0, HW1, HK, Hk⟩
  ihave HW1 := hw $$ HW1
  iapply hb
  isplitr; · iexact HC
  isplitl [HT]; · iexact HT
  isplitl [HA]; · iexact HA
  isplitl [HW1]; · iexact HW1
  isplitl [HK]; · iexact HK
  iintro ⟨HT, HA, HW1, HK⟩
  iapply hn
  isplitr; · iexact HC
  isplitl [HY]; · iexact HY
  isplitl [HT]; · iexact HT
  isplitl [HA]; · iexact HA
  isplitl [HW0]; · iexact HW0
  isplitl [HW1]; · iexact HW1
  isplitl [HK]; · iexact HK
  iexact Hk

set_option maxRecDepth 20000 in
include hfit in
theorem run_turn8 (Q : PUnit → sProp 𝕄) :
    iprop(Ctx own snd κ ∗ YFree c ∗ Tbl c ∗ AHeld c fv ∗ WFree c 0 fw ∗ WFly c 1 t0_7 fw ∗ KSt own snd c 7 ∗ (LEnd own snd c fv fw -∗ Q ⟨⟩))
      ⊢ WP 𝒱₀ c (bnd 𝒱₀ 8) (turn c 8) Q := by
  rw [turn_8]
  have hb := run_bod own snd κ 𝒱₀ c (bnd 𝒱₀ 8) (bnd_kernel 𝒱₀ 8) t0_7 1 (by decide) fv fw hfit (nxt c 9) Q
  have ha := run_waW own snd 𝒱₀ (bnd 𝒱₀ 8) c t0_7 1 (by decide) 7 fw (bod c t0_7 (nxt c 9)) Q
  have hw := WHeld_cur (F := F) c 1 t0_7 fw
  have hn := run_nxt 𝒱₀ c 8 (by decide) _ Q (run_turn9 own snd κ 𝒱₀ c fv fw hfit Q)
  iintro ⟨#HC, HY, HT, HA, HW0, HW1, HK, Hk⟩
  ihave #HLv := (Ctx_lev own snd κ) $$ HC
  iapply ha
  isplitr; · iexact HLv
  isplitl [HW1]; · iexact HW1
  isplitl [HK]; · iexact HK
  iintro ⟨HW1, HK⟩
  ihave HW1 := hw $$ HW1
  iapply hb
  isplitr; · iexact HC
  isplitl [HT]; · iexact HT
  isplitl [HA]; · iexact HA
  isplitl [HW1]; · iexact HW1
  isplitl [HK]; · iexact HK
  iintro ⟨HT, HA, HW1, HK⟩
  iapply hn
  isplitr; · iexact HC
  isplitl [HY]; · iexact HY
  isplitl [HT]; · iexact HT
  isplitl [HA]; · iexact HA
  isplitl [HW0]; · iexact HW0
  isplitl [HW1]; · iexact HW1
  isplitl [HK]; · iexact HK
  iexact Hk

set_option maxRecDepth 20000 in
include hfit in
/-- Turns 2 to 8, by the number `n` of turns still to run before turn 8. -/
theorem run_turns (Q : PUnit → sProp 𝕄) (n : ℕ) : ∀ (t : Fin grid0.N), t.val + n = 7 → 1 ≤ t.val → ∀ p p' : Fin 2, par t.val = p → p' ≠ p →
    iprop(Ctx own snd κ ∗ YFree c ∗ Tbl c ∗ AHeld c fv ∗ WFree c p' fw ∗ WFly c p t fw ∗ KSt own snd c t.val ∗ (LEnd own snd c fv fw -∗ Q ⟨⟩))
      ⊢ WP 𝒱₀ c (bnd 𝒱₀ (t.val + 1)) (turn c (t.val + 1)) Q := by
  induction n with
  | zero =>
    intro t ht h1 p p' hp hp'
    obtain rfl : t = t0_7 := Fin.ext (by show t.val = 7; omega)
    obtain rfl : p = 1 := hp.symm.trans (by decide)
    obtain rfl : p' = 0 := by revert hp'; revert p'; decide
    exact run_turn8 own snd κ 𝒱₀ c fv fw hfit Q
  | succ n ih =>
    intro t ht h1 p p' hp hp'
    have h7 : t.val < 7 := by omega
    have hN : t.val + 1 < 10 := by omega
    have hq : par (t.val + 1) = p' := by
      subst hp
      refine Fin.ext ?_
      have h3 : ¬ p'.val = min t.val 7 % 2 := fun h => hp' (Fin.ext h)
      have h2 := p'.isLt
      show min (t.val + 1) 7 % 2 = p'.val
      omega
    rw [turn_mid c t h1 h7]
    have ih' := ih ⟨t.val + 1, hN⟩ (by show t.val + 1 + n = 7; omega) (by show 1 ≤ t.val + 1; omega) p' p hq hp'.symm
    have hn := run_nxt 𝒱₀ c (t.val + 1) (by omega) _ Q ih'
    have hb := run_bod own snd κ 𝒱₀ c (bnd 𝒱₀ (t.val + 1)) (bnd_kernel 𝒱₀ (t.val + 1)) t p hp fv fw hfit (nxt c (t.val + 2)) Q
    have ha := run_waW own snd 𝒱₀ (bnd 𝒱₀ (t.val + 1)) c t p hp t.val fw (bod c t (nxt c (t.val + 2))) Q
    have hg := run_goW 𝒱₀ (bnd 𝒱₀ (t.val + 1)) c ⟨t.val + 1, hN⟩ p' hq fw (waW c t (bod c t (nxt c (t.val + 2)))) Q
    have hw := WHeld_cur (F := F) c p t fw
    iintro ⟨#HC, HY, HT, HA, HW0, HW1, HK, Hk⟩
    ihave #HLv := (Ctx_lev own snd κ) $$ HC
    iapply hg
    isplitl [HW0]; · iexact HW0
    iintro HW0
    iapply ha
    isplitr; · iexact HLv
    isplitl [HW1]; · iexact HW1
    isplitl [HK]; · iexact HK
    iintro ⟨HW1, HK⟩
    ihave HW1 := hw $$ HW1
    iapply hb
    isplitr; · iexact HC
    isplitl [HT]; · iexact HT
    isplitl [HA]; · iexact HA
    isplitl [HW1]; · iexact HW1
    isplitl [HK]; · iexact HK
    iintro ⟨HT, HA, HW1, HK⟩
    iapply hn
    isplitr; · iexact HC
    isplitl [HY]; · iexact HY
    isplitl [HT]; · iexact HT
    isplitl [HA]; · iexact HA
    isplitl [HW1]; · iexact HW1
    isplitl [HW0]; · iexact HW0
    isplitl [HK]; · iexact HK
    iexact Hk

/-- The activations' staging before the copy. -/
def AFree : sProp 𝕄 := iprop((locV c ↦{fullShare} fv) ∗ (∃ f : Buf (Elt F) (locA c), locA c ↦{fullShare} f) ∗ semVal (dc c cc0_sem0_0) 0)

set_option maxRecDepth 20000 in
include hfit in
theorem run_turn1 (Q : PUnit → sProp 𝕄) :
    iprop(Ctx own snd κ ∗ YFree c ∗ Tbl c ∗ AFree c fv ∗ WFree c 1 fw ∗ WFly c 0 t0_0 fw ∗ KSt own snd c 0 ∗ (LEnd own snd c fv fw -∗ Q ⟨⟩))
      ⊢ WP 𝒱₀ c (bnd 𝒱₀ 1) (turn c 1) Q := by
  rw [turn_1]
  have ih' := run_turns own snd κ 𝒱₀ c fv fw hfit Q 6 t0_1 (by decide) (by decide) 1 0 (by decide) (by decide)
  have hn := run_nxt 𝒱₀ c 1 (by omega) _ Q ih'
  have hb := run_bod own snd κ 𝒱₀ c (bnd 𝒱₀ 1) (bnd_kernel 𝒱₀ 1) t0_0 0 (by decide) fv fw hfit (nxt c 2) Q
  have ha := run_waW own snd 𝒱₀ (bnd 𝒱₀ 1) c t0_0 0 (by decide) 0 fw (bod c t0_0 (nxt c 2)) Q
  have hA := run_waA own snd 𝒱₀ (bnd 𝒱₀ 1) c 0 fv (waW c t0_0 (bod c t0_0 (nxt c 2))) Q
  have hg := run_goW 𝒱₀ (bnd 𝒱₀ 1) c t0_1 1 (by decide) fw (waA c (waW c t0_0 (bod c t0_0 (nxt c 2)))) Q
  have hG := run_goA 𝒱₀ (bnd 𝒱₀ 1) c fv (goW c t0_1 (waA c (waW c t0_0 (bod c t0_0 (nxt c 2))))) Q
  have hw := WHeld_cur (F := F) c 0 t0_0 fw
  have hAF : (AFree c fv : sProp 𝕄) ⊢ iprop((locV c ↦{fullShare} fv) ∗ (∃ f : Buf (Elt F) (locA c), locA c ↦{fullShare} f) ∗ semVal (dc c cc0_sem0_0) 0) := by unfold AFree; exact .rfl
  have hAH : iprop((locV c ↦{fullShare} fv) ∗ (locA c ↦{fullShare} (fv : Buf (Elt F) (locA c))) ∗ semVal (dc c cc0_sem0_0) 0) ⊢ (AHeld c fv : sProp 𝕄) := by unfold AHeld; exact .rfl
  iintro ⟨#HC, HY, HT, HA, HW0, HW1, HK, Hk⟩
  ihave #HLv := (Ctx_lev own snd κ) $$ HC
  ihave HA := hAF $$ HA
  icases HA with ⟨HA1, HA2, HA3⟩
  iapply hG
  isplitl [HA1]; · iexact HA1
  isplitl [HA2]; · iexact HA2
  isplitl [HA3]; · iexact HA3
  iintro HA
  iapply hg
  isplitl [HW0]; · iexact HW0
  iintro HW0
  iapply hA
  isplitr; · iexact HLv
  isplitl [HA]; · iexact HA
  isplitl [HK]; · iexact HK
  iintro ⟨HA1, HA2, HA3, HK⟩
  iapply ha
  isplitr; · iexact HLv
  isplitl [HW1]; · iexact HW1
  isplitl [HK]; · iexact HK
  iintro ⟨HW1, HK⟩
  ihave HW1 := hw $$ HW1
  iapply hb
  isplitr; · iexact HC
  isplitl [HT]; · iexact HT
  isplitl [HA1 HA2 HA3]
  · iapply hAH
    isplitl [HA1]; · iexact HA1
    isplitl [HA2]; · iexact HA2
    iexact HA3
  isplitl [HW1]; · iexact HW1
  isplitl [HK]; · iexact HK
  iintro ⟨HT, HA, HW1, HK⟩
  iapply hn
  isplitr; · iexact HC
  isplitl [HY]; · iexact HY
  isplitl [HT]; · iexact HT
  isplitl [HA]; · iexact HA
  isplitl [HW1]; · iexact HW1
  isplitl [HW0]; · iexact HW0
  isplitl [HK]; · iexact HK
  iexact Hk

set_option maxRecDepth 20000 in
include hfit in
theorem run_turn0 (Q : PUnit → sProp 𝕄) :
    iprop(Ctx own snd κ ∗ YFree c ∗ Tbl c ∗ AFree c fv ∗ WFree c 0 fw ∗ WFree c 1 fw ∗ KSt own snd c 0 ∗ (LEnd own snd c fv fw -∗ Q ⟨⟩))
      ⊢ WP 𝒱₀ c (bnd 𝒱₀ 0) (turn c 0) Q := by
  rw [turn_0]
  have hn := run_nxt 𝒱₀ c 0 (by omega) _ Q (run_turn1 own snd κ 𝒱₀ c fv fw hfit Q)
  have hg := run_goW 𝒱₀ (bnd 𝒱₀ 0) c t0_0 0 (by decide) fw (nxt c 1) Q
  iintro ⟨#HC, HY, HT, HA, HW0, HW1, HK, Hk⟩
  iapply hg
  isplitl [HW0]; · iexact HW0
  iintro HW0
  iapply hn
  isplitr; · iexact HC
  isplitl [HY]; · iexact HY
  isplitl [HT]; · iexact HT
  isplitl [HA]; · iexact HA
  isplitl [HW1]; · iexact HW1
  isplitl [HW0]; · iexact HW0
  isplitl [HK]; · iexact HK
  iexact Hk

end

end Cert.KernelIdeal.Work
-- ==== Proof.Enter.lean ====
/-
  A device's way into the kernel: its scoped semaphores and buffers sorted, its cells opened, the loans to
  the neighbours made ready.
-/
module

public import proofs.«01_k».proof.Proof.Turns

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ)

/-! ## The semaphores, sorted -/

abbrev AJ := Fin 4 ⊕ (WJ ⊕ Fin 8)
def asem : AJ → DmaSem sig | .inl s => sST s | .inr (.inl j) => wsem j | .inr (.inr k) => sXR k
theorem asem_bij : Function.Bijective asem := by
  refine (Fintype.bijective_iff_injective_and_card asem).mpr ⟨?_, by decide +kernel⟩
  have h1 : ∀ a b : Fin 4, sST a = sST b → a = b := by decide +kernel
  have h2 : ∀ a b : WJ, wsem a = wsem b → a = b := by decide +kernel
  have h3 : ∀ a b : Fin 8, sXR a = sXR b → a = b := by decide +kernel
  have h4 : ∀ (a : Fin 4) (b : WJ), sST a ≠ wsem b := by decide +kernel
  have h5 : ∀ (a : Fin 4) (b : Fin 8), sST a ≠ sXR b := by decide +kernel
  have h6 : ∀ (a : WJ) (b : Fin 8), wsem a ≠ sXR b := by decide +kernel
  rintro (a | a | a) (b | b | b) e
  · exact congrArg _ (h1 a b e)
  · exact absurd e (h4 a b)
  · exact absurd e (h5 a b)
  · exact absurd e.symm (h4 b a)
  · exact congrArg _ (congrArg _ (h2 a b e))
  · exact absurd e (h6 a b)
  · exact absurd e.symm (h5 b a)
  · exact absurd e.symm (h6 b a)
  · exact congrArg _ (congrArg _ (h3 a b e))

theorem dma_split (Φ : DmaSem sig → sProp 𝕄) :
    bigSep Finset.univ Φ = iprop((bigSep Finset.univ fun s : Fin 4 => Φ (sST s)) ∗ (bigSep Finset.univ fun j : WJ => Φ (wsem j)) ∗ bigSep Finset.univ fun k : Fin 8 => Φ (sXR k)) := by
  rw [bigSep_univ_equiv (Equiv.ofBijective asem asem_bij) Φ, BI.bigSep_univ_sum, BI.bigSep_univ_sum]
  rfl
theorem wj_split (Φ : WJ → sProp 𝕄) :
    bigSep Finset.univ Φ = iprop((bigSep Finset.univ fun s : Fin 4 => Φ (.inl s)) ∗ (bigSep Finset.univ fun p : Fin 3 × Fin 8 => Φ (.inr (.inl p))) ∗ bigSep Finset.univ fun p : Fin 3 × Fin 8 => Φ (.inr (.inr p))) := by
  rw [BI.bigSep_univ_sum, BI.bigSep_univ_sum]
  rfl

theorem reg_unscoped : ∀ r : Sem sig, (SemLoc.reg r : SemLoc sig).isScoped .tc = false := by decide +kernel
theorem dma_scoped : ∀ n : DmaSem sig, (SemLoc.dma n : SemLoc sig).isScoped .tc = true := by decide +kernel

theorem sems_eq (c : Dev nD) : (scopedSems0 (c : Thread nD τ) : sProp 𝕄) = bigSep Finset.univ fun n : DmaSem sig => semVal (dc c n) 0 := by
  have h : (Finset.univ.filter fun sm : SemLoc sig => sm.isScoped .tc) = (Finset.univ : Finset (DmaSem sig)).map ⟨SemLoc.dma, fun a b h => by cases h; rfl⟩ := by
    ext g
    rw [Finset.mem_filter, Finset.mem_map]
    constructor
    · rintro ⟨-, h3⟩
      cases g with
      | reg r => rw [reg_unscoped r] at h3; exact absurd h3 (by decide)
      | dma n => exact ⟨n, Finset.mem_univ _, rfl⟩
    · rintro ⟨n, -, rfl⟩
      exact ⟨Finset.mem_univ _, dma_scoped n⟩
  rw [show (scopedSems0 (c : Thread nD τ) : sProp 𝕄) = _ from scopedSems0_tc c, h, bigSep_map]; rfl

/-! ## The buffers -/

abbrev exB (c : Dev nD) (b : Ref sig .tc) : sProp 𝕄 := iprop(∃ f : Buf (Elt F) ((c : Thread nD τ).loc b), ((c : Thread nD τ).loc b) ↦{fullShare} f)
theorem bufs_eq (c : Dev nD) : (scopedBufs (c : Thread nD τ) : sProp 𝕄)
    = iprop(exB c cc0_stg0_0 ∗ exB c cc0_stg1_0 ∗ exB c cc0_stg1_1 ∗ exB c cc0_stg2_0 ∗ exB c cc0_scratch0 ∗ exB c cc0_scratch1) :=
  (show (scopedBufs (c : Thread nD τ) : sProp 𝕄) = _ from scopedBufs_tc c).trans
    (bigSep_eq_bigSepL_of_eq [cc0_stg0_0, cc0_stg1_0, cc0_stg1_1, cc0_stg2_0, cc0_scratch0, cc0_scratch1] (by decide +kernel) (by decide +kernel) _)

/-! ## Opening the cells -/

theorem open_cells {I : Type} [Fintype I] [DecidableEq I] (s : I → DmaSem sig) (c : Dev nD) :
    iprop(Recs own snd κ ∗ (bigSep Finset.univ fun i => openTok EB (dc c (s i))) ∗ bigSep Finset.univ fun i => semVal (dc c (s i)) 0)
      ⊢ (iprop(|={Set.univ}=> (bigSep Finset.univ fun i => At c (s i) 0)) : sProp 𝕄) := by
  have h1 : ∀ i, iprop(Recs own snd κ ∗ openTok EB (dc c (s i)) ∗ semVal (dc c (s i)) 0) ⊢ (iprop(|={Set.univ}=> At c (s i) 0) : sProp 𝕄) := by
    intro i
    iintro ⟨#HR, Ho, Hv⟩
    ihave #Hc := (Recs_dc own snd κ c (s i)) $$ HR
    iapply (cell_open EB (Rd own snd) (Set.mem_univ _))
    isplitr; · iexact Hc
    isplitl [Ho]; · iexact Ho
    iexact Hv
  have h2 : iprop(Recs own snd κ ∗ bigSep Finset.univ fun i => iprop(openTok EB (dc c (s i)) ∗ semVal (dc c (s i)) 0)) ⊢ (iprop(|={Set.univ}=> (bigSep Finset.univ fun i => At c (s i) 0)) : sProp 𝕄) :=
    (bigSep_with_persistent (Ψ := fun i => iprop(|={Set.univ}=> At c (s i) 0)) fun i _ => h1 i).trans (bigSep_fupd _ _)
  rw [bigSep_sep'] at h2
  exact h2

theorem At_reached {I : Type} [Fintype I] (s : I → DmaSem sig) (c : Dev nD) :
    (bigSep Finset.univ fun i => At c (s i) 0 : sProp 𝕄) ⊢ iprop((bigSep Finset.univ fun i => At c (s i) 0) ∗ bigSep Finset.univ fun i => reached EB (dc c (s i)) 0) := by
  rw [← bigSep_sep']
  refine bigSep_mono fun i _ => ?_
  change (_ : sProp 𝕄) ⊢ (_ : sProp 𝕄)
  iintro ⟨H, #Hr⟩
  isplitl [H]
  · isplitl [H]; · iexact H
    iexact Hr
  iexact Hr

/-! ## The loans -/

theorem loanX (c : Dev nD) : iprop((∃ f, locR c ↦{fullShare} f) ∗ bigSep Finset.univ fun k : Fin 8 => reached EB (dc c (sXR k)) 0) ⊢ (barPay (nb 0 c) 0 : sProp 𝕄) := by
  have e : (barPay (nb 0 c) 0 : sProp 𝕄) = bigSep Finset.univ fun k : Fin 8 => iprop((∃ f, ptR c k.val f) ∗ reached EB (dc c (sXR k)) 0) := by
    show (bigSep Finset.univ fun k => barX (xp c) k : sProp 𝕄) = _
    unfold barX
    rw [xp_xp]
  rw [e, bigSep_sep']
  iintro ⟨⟨%f, H⟩, Hr⟩
  isplitl [H]
  · ihave H := (ent_of_eq (R_pieces c f)) $$ H
    have h : (bigSep Finset.univ fun k : Fin 8 => ptR c k.val f : sProp 𝕄) ⊢ bigSep Finset.univ fun k : Fin 8 => iprop(∃ f, ptR c k.val f) := by
      refine bigSep_mono fun k _ => ?_
      change (_ : sProp 𝕄) ⊢ (_ : sProp 𝕄)
      iintro H; iexists f; iexact H
    iapply h; iexact H
  · iexact Hr

theorem barPay_succ (g : Fin 3) (c : Dev nD) : (barPay (nb g.succ c) g.succ : sProp 𝕄) = bigSep Finset.univ fun k : Fin 8 => iprop((∃ f, ptO c (qd (gp g c) * 8 + k.val) fullShare f) ∗ reached EB (dc c (sGR g k)) 0) := by
  have e : (barPay (nb g.succ c) g.succ : sProp 𝕄) = bigSep Finset.univ fun k => barG (gp g c) g k := by
    fin_cases g <;> rfl
  rw [e]
  unfold barG
  rw [gp_gp]

theorem loanG (g : Fin 3) (c : Dev nD) (f : (cc0_stg2_0 : Ref sig .tc).ty.Contents (Elt F)) :
    iprop((bigSep Finset.univ fun k : Fin 8 => ptO c (qd (gp g c) * 8 + k.val) fullShare f) ∗ bigSep Finset.univ fun k : Fin 8 => reached EB (dc c (sGR g k)) 0) ⊢ (barPay (nb g.succ c) g.succ : sProp 𝕄) := by
  rw [barPay_succ, bigSep_sep']
  refine sep_mono_left ?_
  refine bigSep_mono fun k _ => ?_
  change (_ : sProp 𝕄) ⊢ (_ : sProp 𝕄)
  iintro H; iexists f; iexact H

/-! ## The way in -/

/-- What the launch deals a device. -/
def Pre0 (c : Dev nD) : sProp 𝕄 :=
  iprop((∃ W, owes (c : Thread nD τ) (O₀ c) W) ∗ (bigSep Finset.univ fun d : Fin 4 => dutyTok EB (bar (nb d c)) 0 d) ∗ atPos EB (bar c) 0 ∅ 0 ∗ cred (tallyAt (bar c) () 4)
    ∗ (bigSep Finset.univ fun n : DmaSem sig => openTok EB (dc c n)) ∗ (bigSep Finset.univ fun n : DmaSem sig => iprop(Tk c n 0 ∗ Tk c n 1))
    ∗ (bigSep Finset.univ fun k : Fin 8 => Cr c (sXR k)) ∗ bigSep Finset.univ fun p : Fin 3 × Fin 8 => Cr c (sGR p.1 p.2))

theorem all_pk (c : Dev nD) (f : (cc0_stg2_0 : Ref sig .tc).ty.Contents (Elt F)) :
    iprop((bigSep Finset.univ fun k : Fin 8 => ptO c (qd c * 8 + k.val) fullShare f) ∗ (bigSep Finset.univ fun k : Fin 8 => iprop(Tk c (sXR k) 0 ∗ Tk c (sXR k) 1))
      ∗ (bigSep Finset.univ fun k : Fin 8 => Cr c (sXR k)) ∗ (bigSep Finset.univ fun k : Fin 8 => At c (sXR k) 0)
      ∗ (bigSep Finset.univ fun p : Fin 3 × Fin 8 => iprop(Tk c (sGR p.1 p.2) 0 ∗ Tk c (sGR p.1 p.2) 1)) ∗ (bigSep Finset.univ fun p : Fin 3 × Fin 8 => iprop(Tk c (sGS p.1 p.2) 0 ∗ Tk c (sGS p.1 p.2) 1))
      ∗ bigSep Finset.univ fun p : Fin 3 × Fin 8 => At c (sGS p.1 p.2) 0)
      ⊢ (bigSep Finset.univ fun k : Fin 8 => pk c k : sProp 𝕄) := by
  have hg : iprop((bigSep Finset.univ fun p : Fin 3 × Fin 8 => iprop(Tk c (sGR p.1 p.2) 0 ∗ Tk c (sGR p.1 p.2) 1)) ∗ (bigSep Finset.univ fun p : Fin 3 × Fin 8 => iprop(Tk c (sGS p.1 p.2) 0 ∗ Tk c (sGS p.1 p.2) 1))
      ∗ bigSep Finset.univ fun p : Fin 3 × Fin 8 => At c (sGS p.1 p.2) 0) ⊢ (bigSep Finset.univ fun p : Fin 3 × Fin 8 => gk c p.1 p.2 : sProp 𝕄) := by
    rw [← bigSep_sep', ← bigSep_sep']
    refine bigSep_mono fun p _ => ?_
    change (_ : sProp 𝕄) ⊢ (_ : sProp 𝕄)
    unfold gk
    iintro ⟨⟨H1, -⟩, ⟨H2, -⟩, H3⟩
    isplitl [H1]; · iexact H1
    isplitl [H2]; · iexact H2
    iexact H3
  have hp : iprop((bigSep Finset.univ fun k : Fin 8 => ptO c (qd c * 8 + k.val) fullShare f) ∗ (bigSep Finset.univ fun k : Fin 8 => iprop(Tk c (sXR k) 0 ∗ Tk c (sXR k) 1))
      ∗ (bigSep Finset.univ fun k : Fin 8 => Cr c (sXR k)) ∗ (bigSep Finset.univ fun k : Fin 8 => At c (sXR k) 0)
      ∗ (bigSep Finset.univ fun k : Fin 8 => gk c 0 k) ∗ (bigSep Finset.univ fun k : Fin 8 => gk c 1 k) ∗ bigSep Finset.univ fun k : Fin 8 => gk c 2 k)
      ⊢ (bigSep Finset.univ fun k : Fin 8 => pk c k : sProp 𝕄) := by
    rw [← bigSep_sep', ← bigSep_sep', ← bigSep_sep', ← bigSep_sep', ← bigSep_sep', ← bigSep_sep']
    refine bigSep_mono fun k _ => ?_
    change (_ : sProp 𝕄) ⊢ (_ : sProp 𝕄)
    unfold pk
    iintro ⟨H1, ⟨H2, -⟩, H3, H4, H5, H6, H7⟩
    isplitl [H1]; · iexists f; iexact H1
    isplitl [H2]; · iexact H2
    isplitl [H3]; · iexact H3
    isplitl [H4]; · iexact H4
    isplitl [H5]; · iexact H5
    isplitl [H6]; · iexact H6
    iexact H7
  have hg := hg.trans (ent_of_eq (bigSep_fin3' (F := F) (I := Fin 8) (fun p => gk c p.1 p.2)))
  refine BIBase.Entails.trans ?_ hp
  exact sep_mono_right (sep_mono_right (sep_mono_right (sep_mono_right hg)))

theorem enter (c : Dev nD) :
    iprop(Recs own snd κ ∗ Pre0 c ∗ (bigSep Finset.univ fun n : DmaSem sig => semVal (dc c n) 0) ∗ (∃ f, locO c ↦{fullShare} f) ∗ (∃ f, locS c ↦{fullShare} f) ∗ (∃ f, locR c ↦{fullShare} f))
      ⊢ (iprop(|={Set.univ}=> ((bigSep Finset.univ fun s : Fin 4 => semVal (dc c (sST s)) 0) ∗ KSt own snd c 0)) : sProp 𝕄) := by
  unfold Pre0
  rw [dma_split (fun n => openTok EB (dc c n)), dma_split (fun n => iprop(Tk c n 0 ∗ Tk c n 1)), dma_split (fun n => semVal (dc c n) 0),
    wj_split (fun j => iprop(Tk c (wsem j) 0 ∗ Tk c (wsem j) 1))]
  have eK : (KSt own snd c 0 : sProp 𝕄) = iprop(BarPre c ∗ FB c) := by unfold KSt; rw [if_pos rfl]
  rw [eK]
  have hA : (bigSep Finset.univ fun j : WJ => At c (wsem j) 0 : sProp 𝕄)
      = iprop((bigSep Finset.univ fun s : Fin 4 => At c (sXS s) 0) ∗ (bigSep Finset.univ fun p : Fin 3 × Fin 8 => At c (sGS p.1 p.2) 0) ∗ bigSep Finset.univ fun p : Fin 3 × Fin 8 => At c (sGR p.1 p.2) 0) := wj_split (F := F) (fun j => At c (wsem j) 0)
  have eB : iprop(barPay (nb 0 c) 0 ∗ barPay (nb (0 : Fin 3).succ c) (0 : Fin 3).succ ∗ barPay (nb (1 : Fin 3).succ c) (1 : Fin 3).succ ∗ barPay (nb (2 : Fin 3).succ c) (2 : Fin 3).succ)
      = (bigSep Finset.univ fun d : Fin 4 => barPay (nb d c) d : sProp 𝕄) := (sep_fin4 (F := F) (fun d : Fin 4 => barPay (nb d c) d)).symm
  have hS : iprop((∃ f, locS c ↦{fullShare} f) ∗ (bigSep Finset.univ fun s : Fin 4 => At c (sXS s) 0) ∗ (bigSep Finset.univ fun s : Fin 4 => iprop(Tk c (sXS s) 0 ∗ Tk c (sXS s) 1)))
      ⊢ (bigSep Finset.univ fun s : Fin 4 => sl0 c s : sProp 𝕄) := by
    iintro ⟨⟨%f, H⟩, H2⟩
    ihave H := (ent_of_eq (S_pieces c f)) $$ H
    have h : iprop((bigSep Finset.univ fun s : Fin 4 => ptS c s.val f) ∗ (bigSep Finset.univ fun s : Fin 4 => At c (sXS s) 0) ∗ (bigSep Finset.univ fun s : Fin 4 => iprop(Tk c (sXS s) 0 ∗ Tk c (sXS s) 1)))
        ⊢ (bigSep Finset.univ fun s : Fin 4 => sl0 c s : sProp 𝕄) := by
      rw [← bigSep_sep', ← bigSep_sep']
      refine bigSep_mono fun s _ => ?_
      change (_ : sProp 𝕄) ⊢ (_ : sProp 𝕄)
      unfold sl0
      iintro ⟨H1, H2, H3, H4⟩
      isplitl [H1]; · iexists f; iexact H1
      isplitl [H2]; · iexact H2
      isplitl [H3]; · iexact H3
      iexact H4
    iapply h
    isplitl [H]; · iexact H
    iexact H2
  have hF : iprop((bigSep Finset.univ fun p : Fin 3 × Fin 8 => At c (sGR p.1 p.2) 0) ∗ bigSep Finset.univ fun p : Fin 3 × Fin 8 => Cr c (sGR p.1 p.2)) ⊢ (FB c : sProp 𝕄) := by
    unfold FB
    exact ent_of_eq (bigSep_sep' Finset.univ (fun p : Fin 3 × Fin 8 => At c (sGR p.1 p.2) 0) (fun p : Fin 3 × Fin 8 => Cr c (sGR p.1 p.2))).symm
  have h3 := bigSep_fin3' (F := F) (I := Fin 8) (fun p => reached EB (dc c (sGR p.1 p.2)) 0)
  iintro ⟨#HR, ⟨HO, HB, HBa, HBc, ⟨-, Ho1, Ho2⟩, ⟨-, ⟨HT1, HT2, HT3⟩, HT4⟩, HCx, HCg⟩, ⟨Hst, Hv1, Hv2⟩, ⟨%fo, HL⟩, HS, HX⟩
  imod (open_cells own snd κ wsem c) $$ [Ho1 Hv1] with HA1
  · isplitr; · iexact HR
    isplitl [Ho1]; · iexact Ho1
    iexact Hv1
  imod (open_cells own snd κ sXR c) $$ [Ho2 Hv2] with HA2
  · isplitr; · iexact HR
    isplitl [Ho2]; · iexact Ho2
    iexact Hv2
  imodintro
  ihave HA1 := (ent_of_eq hA) $$ HA1
  icases HA1 with ⟨HAs, HAgs, HAgr⟩
  ihave HAgr := (At_reached (fun p : Fin 3 × Fin 8 => sGR p.1 p.2) c) $$ HAgr
  icases HAgr with ⟨HAgr, Hrg⟩
  ihave HA2 := (At_reached sXR c) $$ HA2
  icases HA2 with ⟨HA2, Hrx⟩
  ihave Hrg := (ent_of_eq h3) $$ Hrg
  icases Hrg with ⟨Hr0, Hr1, Hr2⟩
  ihave HL := (ent_of_eq (O_pieces c fo)) $$ HL
  icases HL with ⟨HL, HL0, HL1, HL2⟩
  isplitl [Hst]; · iexact Hst
  isplitr [HAgr HCg]
  · unfold BarPre
    isplitl [HO]; · iexact HO
    isplitl [HB]; · iexact HB
    isplitl [HX Hrx HL0 Hr0 HL1 Hr1 HL2 Hr2]
    · iapply (ent_of_eq eB)
      isplitl [HX Hrx]
      · iapply (loanX c)
        isplitl [HX]; · iexact HX
        iexact Hrx
      isplitl [HL0 Hr0]
      · iapply (loanG 0 c fo)
        isplitl [HL0]; · iexact HL0
        iexact Hr0
      isplitl [HL1 Hr1]
      · iapply (loanG 1 c fo)
        isplitl [HL1]; · iexact HL1
        iexact Hr1
      · iapply (loanG 2 c fo)
        isplitl [HL2]; · iexact HL2
        iexact Hr2
    isplitl [HBa]; · iexact HBa
    isplitl [HBc]; · iexact HBc
    isplitr [HS HAs HT1]
    · iapply (all_pk c fo)
      isplitl [HL]; · iexact HL
      isplitl [HT4]; · iexact HT4
      isplitl [HCx]; · iexact HCx
      isplitl [HA2]; · iexact HA2
      isplitl [HT3]; · iexact HT3
      isplitl [HT2]; · iexact HT2
      iexact HAgs
    · iapply hS
      isplitl [HS]; · iexact HS
      isplitl [HAs]; · iexact HAs
      iexact HT1
  · iapply hF
    isplitl [HAgr]; · iexact HAgr
    iexact HCg

end Cert.KernelIdeal.Work
-- ==== Proof.Region.lean ====
/-
  The kernel's region on a device: entered from its arrays and what the launch deals, left with the
  result written and every counter at zero.
-/
module

public import proofs.«01_k».proof.Proof.Enter
public import proofs.«01_k».proof.Proof.Turns

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F) (κ : GSem nD τ sig → ℕ) (𝒱₀ : Variants)

/-! ## The arrays out of the unscoped buffers -/

abbrev dr (b : Ref sig .tc) : DevRef τ sig := Proc.devRef .tc b
def rest (c : Dev nD) (W : Valuation τ sig (Elt F)) : sProp 𝕄 :=
  bigSep (Pipeline.ucRefs τ sig \ {dr main_v1, dr main_arg1, dr main_v14, dr main_v15}) fun b => ((c, b) : Loc nD τ sig) ↦{fullShare} W b

theorem held_split (c : Dev nD) (W : Valuation τ sig (Elt F)) : (StableHlo.held (c : Thread nD τ) (Pipeline.ucRefs τ sig) W : sProp 𝕄)
    = iprop(((locV c ↦{fullShare} W main_v1) ∗ (locW c ↦{fullShare} W main_arg1) ∗ (locT c ↦{fullShare} W main_v14) ∗ (locY c ↦{fullShare} W main_v15)) ∗ rest c W) := by
  unfold StableHlo.held rest
  rw [BI.bigSep_sdiff_split (t := {dr main_v1, dr main_arg1, dr main_v14, dr main_v15}) (by
      intro b hb
      simp only [Finset.mem_insert, Finset.mem_singleton] at hb
      rcases hb with rfl | rfl | rfl | rfl <;> exact Finset.mem_filter.mpr ⟨StableHlo.devRef_mem_tcRefs _, by decide⟩),
    bigSep_eq_bigSepL_of_eq [dr main_v1, dr main_arg1, dr main_v14, dr main_v15] (by rfl) (by decide +kernel)]
  rfl

theorem rest_update (c : Dev nD) (W : Valuation τ sig (Elt F)) (x : (dr main_v15).ty.Contents (Elt F)) :
    (rest c (Function.update W (dr main_v15) x) : sProp 𝕄) = rest c W := by
  unfold rest
  refine bigSep_congr fun b hb => ?_
  have : b ≠ dr main_v15 := by
    rintro rfl
    exact (Finset.mem_sdiff.mp hb).2 (by simp)
  rw [Function.update_of_ne this]

theorem held_update (c : Dev nD) (W : Valuation τ sig (Elt F)) (x : (dr main_v15).ty.Contents (Elt F)) :
    (StableHlo.held (c : Thread nD τ) (Pipeline.ucRefs τ sig) (Function.update W (dr main_v15) x) : sProp 𝕄)
    = iprop(((locV c ↦{fullShare} W main_v1) ∗ (locW c ↦{fullShare} W main_arg1) ∗ (locT c ↦{fullShare} W main_v14) ∗ (locY c ↦{fullShare} (x : Buf (Elt F) (locY c)))) ∗ rest c W) := by
  rw [held_split, rest_update]
  have h (b : Ref sig .tc) (hb : b ≠ main_v15) : (Function.update W (dr main_v15) x) b = W b := Function.update_of_ne (StableHlo.devRef_ne_of_ne hb) _ _
  rw [h main_v1 (by decide), h main_arg1 (by decide), h main_v14 (by decide),
    show (Function.update W (dr main_v15) x) main_v15 = x from Function.update_self _ _ _]

/-! ## The loop, called -/

theorem run_call (c : Dev nD) (fv : Buf (Elt F) (locV c)) (fw : Buf (Elt F) (locW c)) (hfit : Fits own snd c fv fw) (Q : PUnit → sProp 𝕄) :
    iprop(Ctx own snd κ ∗ YFree c ∗ Tbl c ∗ AFree c fv ∗ WFree c 0 fw ∗ WFree c 1 fw ∗ KSt own snd c 0 ∗ (LEnd own snd c fv fw -∗ |={Set.univ}=> Q ⟨⟩))
      ⊢ wp frame (wpE (DD F) (Variants.lift 𝒱₀) (c : Thread nD τ) (some (Sum.inr 13))) Set.univ (Pipeline.prun (pcfgs (F := F)) (0 : Fin 1) : PP F) Q := by
  have hv : ∀ u ∈ (some (Sum.inr 13) : Option (Variants.lift 𝒱₀).V), (Variants.lift 𝒱₀).lt (Sum.inr 12) u := by
    intro u hu; cases hu; exact Sum.Lex.inr (by decide)
  have h0 := run_turn0 own snd κ 𝒱₀ c fv fw hfit (fun _ => iprop(|={Set.univ}=> Q ⟨⟩))
  have h1 := wp_call (defs := DD F) (Variants.lift 𝒱₀) (c : Thread nD τ) (some (Sum.inr 13)) (Set.univ : Set ℕ) (Γ := .empty) (Q := Q) (ℓ := Pipeline.pipe (0 : Fin 1)) (a := (adm (F := F) c, 0)) (k := fun _ => .ret ⟨⟩) (Sum.inr 12) hv
  have hr : (iprop(|={Set.univ}=> Q ⟨⟩) : sProp 𝕄) ⊢ wp frame (wpE (DD F) (Variants.lift 𝒱₀) (c : Thread nD τ) (some (Sum.inr 13))) Set.univ (.ret ⟨⟩ : PP F) Q := by
    rw [wp_ret]
  have h2 : iprop(Ctx own snd κ ∗ YFree c ∗ Tbl c ∗ AFree c fv ∗ WFree c 0 fw ∗ WFree c 1 fw ∗ KSt own snd c 0 ∗ (LEnd own snd c fv fw -∗ |={Set.univ}=> Q ⟨⟩))
      ⊢ wp frame (wpE (DD F) (Variants.lift 𝒱₀) (c : Thread nD τ) (some (Sum.inr 13))) Set.univ (((pcfgs (F := F) 0).at (adm c)).runAt (0 : Fin 1) (adm c) : PP F) Q := by
    refine BIBase.Entails.trans ?_ h1
    iintro H
    ihave H := h0 $$ H
    iapply (wp_wand_r frame _ Set.univ)
    isplitl [H]; · iexact H
    iintro %x H
    iapply hr
    iexact H
  have hp : (Pipeline.prefHeld (Ix := Unit) (Name := ℕ) (U := UU) (Lvl := ℕ) (pcfgs (F := F) 0).pre c (fun _ => fullShare) (tabv (F := F) c) : sProp 𝕄) = Tbl c := by
    unfold Pipeline.prefHeld Tbl
    exact bigSep_univ_eq_bigSepL [(0 : Fin 1)] (by decide) (by decide) _
  unfold Pipeline.prun
  iintro ⟨#HC, HY, HT, H⟩
  ihave HT := (ent_of_eq hp.symm) $$ HT
  iapply (Pipeline.Prefetch.wp_readAll (Variants.lift 𝒱₀) (some (Sum.inr 13)) Set.univ (pcfgs (F := F) 0).pre c (fun _ => fullShare) (tabv (F := F) c) _) $$ HT
  iintro HT
  ihave HT := (ent_of_eq hp) $$ HT
  iapply (wp_assume (Variants.lift 𝒱₀) _ (some (Sum.inr 13)) Set.univ (ok_tab (F := F) c))
  iapply h2
  isplitr; · iexact HC
  isplitl [HY]; · iexact HY
  isplitl [HT]; · iexact HT
  iexact H

/-! ## The storage of the region -/

theorem W_halves (c : Dev nD) (fw : Buf (Elt F) (locW c)) : (locW c ↦{fullShare} fw : sProp 𝕄) ⊣⊢ iprop((locW c ↦{hf 0} fw) ∗ (locW c ↦{hf 1} fw)) :=
  pointsTo_share (Ix := Unit) (Name := ℕ) (U := UU) (Lvl := ℕ) (ℓ := locW c) (I := Finset.univ) (f := fw) (PosShare.mem_left_op_right fullShare)

/-- The staging semaphores by name. -/
theorem sST_eq (c : Dev nD) : (bigSep Finset.univ fun s : Fin 4 => semVal (dc c (sST s)) 0 : sProp 𝕄)
    = iprop(semVal (dc c cc0_sem0_0) 0 ∗ semVal (dc c (sem0_1 0)) 0 ∗ semVal (dc c (sem0_1 1)) 0 ∗ semVal (dc c cc0_sem2_0) 0) := sep_fin4 _

/-- What the loop is entered with, out of the region's storage and arrays. -/
theorem storage_in (c : Dev nD) (fv : Buf (Elt F) (locV c)) (fw : Buf (Elt F) (locW c)) (fy : Buf (Elt F) (locY c)) :
    iprop(Recs own snd κ ∗ Pre0 c ∗ scopedSems0 (c : Thread nD τ) ∗ scopedBufs (c : Thread nD τ) ∗ (locV c ↦{fullShare} fv) ∗ (locW c ↦{fullShare} fw) ∗ (locY c ↦{fullShare} fy))
      ⊢ (iprop(|={Set.univ}=> (YFree c ∗ AFree c fv ∗ WFree c 0 fw ∗ WFree c 1 fw ∗ KSt own snd c 0)) : sProp 𝕄) := by
  rw [sems_eq, bufs_eq]
  have he := enter own snd κ c
  rw [sST_eq] at he
  unfold YFree AFree WFree
  iintro ⟨#HR, HP, Hs, ⟨HbA, HbW0, HbW1, HbO, HbS, HbR⟩, HV, HW, HY⟩
  ihave HW := (W_halves c fw).1 $$ HW
  icases HW with ⟨HW0, HW1⟩
  imod he $$ [HP Hs HbO HbS HbR] with ⟨⟨H0, H1, H2, H3⟩, HK⟩
  · isplitr; · iexact HR
    isplitl [HP]; · iexact HP
    isplitl [Hs]; · iexact Hs
    isplitl [HbO]; · iexact HbO
    isplitl [HbS]; · iexact HbS
    iexact HbR
  imodintro
  isplitl [HY H3]
  · isplitl [HY]; · iexists fy; iexact HY
    iexact H3
  isplitl [HV HbA H0]
  · isplitl [HV]; · iexact HV
    isplitl [HbA]; · iexact HbA
    iexact H0
  isplitl [HW0 HbW0 H1]
  · isplitl [HW0]; · iexact HW0
    isplitl [HbW0]; · iexact HbW0
    iexact H1
  isplitl [HW1 HbW1 H2]
  · isplitl [HW1]; · iexact HW1
    isplitl [HbW1]; · iexact HbW1
    iexact H2
  iexact HK

/-- What the loop leaves, back into storage and arrays. -/
theorem storage_out (c : Dev nD) (fv : Buf (Elt F) (locV c)) (fw : Buf (Elt F) (locW c)) :
    (LEnd own snd c fv fw : sProp 𝕄)
      ⊢ iprop(scopedSems0 (c : Thread nD τ) ∗ scopedBufs (c : Thread nD τ) ∗ ((locV c ↦{fullShare} fv) ∗ (locW c ↦{fullShare} fw) ∗ Tbl c ∗ (locY c ↦{fullShare} (outF own snd c : Buf (Elt F) (locY c))))
        ∗ semVal (bar c) 0 ∗ ∃ W, owes (c : Thread nD τ) 0 W) := by
  rw [sems_eq, bufs_eq, dma_split (fun n => semVal (dc c n) 0), sST_eq]
  have e1 : (KSt own snd c 10 : sProp 𝕄) = iprop(FinPost own snd c ∗ semVal (bar c) 0) := by unfold KSt; rw [if_neg (by decide), if_pos rfl]
  unfold FinPost at e1
  unfold LEnd AHeld WFree
  rw [e1]
  iintro ⟨HT, ⟨HV, HA, H0⟩, ⟨HW0, HbW0, H1⟩, ⟨HW1, HbW1, H2⟩, ⟨⟨HO, HbO, HbS, HbR, Hw, Hx⟩, Hbar⟩, HY, H3⟩
  ihave HW := (W_halves c fw).2 $$ [HW0 HW1]
  · isplitl [HW0]; · iexact HW0
    iexact HW1
  isplitl [H0 H1 H2 H3 Hw Hx]
  · isplitl [H0 H1 H2 H3]
    · isplitl [H0]; · iexact H0
      isplitl [H1]; · iexact H1
      isplitl [H2]; · iexact H2
      iexact H3
    isplitl [Hw]; · iexact Hw
    iexact Hx
  isplitl [HA HbW0 HbW1 HbO HbS HbR]
  · isplitl [HA]; · iexists fv; iexact HA
    isplitl [HbW0]; · iexact HbW0
    isplitl [HbW1]; · iexact HbW1
    isplitl [HbO]; · iexists (outF own snd c); iexact HbO
    isplitl [HbS]; · iexact HbS
    iexact HbR
  isplitl [HV HW HT HY]
  · isplitl [HV]; · iexact HV
    isplitl [HW]; · iexact HW
    isplitl [HT]; · iexact HT
    iexact HY
  isplitl [Hbar]; · iexact Hbar
  iexact HO

/-! ## The region -/

/-- Before the region: the unscoped buffers at `W`, the records, what the launch deals. -/
def preR (W : Dev nD → Valuation τ sig (Elt F)) (c : Dev nD) : sProp 𝕄 :=
  iprop(StableHlo.held (c : Thread nD τ) (Pipeline.ucRefs τ sig) (W c) ∗ (∃ κ, Recs own snd κ) ∗ Pre0 c)
/-- After it: the result written, the barrier's counter at zero, nothing owed. -/
def postR (W : Dev nD → Valuation τ sig (Elt F)) (c : Dev nD) : sProp 𝕄 :=
  iprop((StableHlo.held (c : Thread nD τ) (Pipeline.ucRefs τ sig) (Function.update (W c) (dr main_v15) (outF own snd c)) ∗ semVal (bar c) 0) ∗ ∃ W, owes (c : Thread nD τ) 0 W)

theorem run_region (W : Dev nD → Valuation τ sig (Elt F)) (htab : ∀ c, W c main_v14 = fun _ => tb c) (hfit : ∀ c, Fits own snd c (W c main_v1) (W c main_arg1)) (c : Dev nD)
    {β : Type} (k : PUnit → Prog (TpuEff nD τ sig (Elt F) (Pipeline.Sig Λ₀ (Fin 1) fun p => (pcfgs (F := F) p).Adm) .tc) β) (K : β → sProp 𝕄) :
    iprop((iprop(boundary (c : Thread nD τ) ∗ postR own snd W c) -∗ wp frame (wpE (DD F) (Variants.lift 𝒱₀) (c : Thread nD τ) none) Set.univ (k ⟨⟩) K)
        ∗ boundary (c : Thread nD τ) ∗ preR own snd W c ∗ levAts L lv)
      ⊢ wp frame (wpE (DD F) (Variants.lift 𝒱₀) (c : Thread nD τ) none) Set.univ (Prog.lift (.customCall (Pipeline.entry 0) ()) >>= k) K := by
  have hent : (scopedBufs (c : Thread nD τ) : sProp 𝕄) ⊢ iprop((scopedBufs (c : Thread nD τ) -∗ wp frame (wpE (DD F) (Variants.lift 𝒱₀) (c : Thread nD τ) (some (Sum.inr 13))) Set.univ (Pipeline.prun (pcfgs (F := F)) (0 : Fin 1) : PP F) fun r => kernelExitSpec (c : Thread nD τ) fun _ => wp frame (wpE (DD F) (Variants.lift 𝒱₀) (c : Thread nD τ) none) Set.univ (k r) K)
      -∗ wp frame (wpE (DD F) (Variants.lift 𝒱₀) (c : Thread nD τ) none) Set.univ (.op (.customCall (Pipeline.entry 0) ()) k) K) :=
    wp_customCall (defs := DD F) (Variants.lift 𝒱₀) (c : Thread nD τ) none (Set.univ : Set ℕ) (Γ := .empty) (ℓ := Pipeline.entry (0 : Fin 1)) (a := ()) (k := k) (Q := K) (Sum.inr 13) (fun u hu => by cases hu)
  change _ ⊢ wp frame (wpE (DD F) (Variants.lift 𝒱₀) (c : Thread nD τ) none) Set.univ (.op (.customCall (Pipeline.entry 0) ()) k) K
  unfold preR postR boundary
  rw [held_update, held_split, htab c]
  iintro ⟨Hk, ⟨Hb, Hs, Hi⟩, ⟨⟨⟨HV, HW, HT, HY⟩, Hrest⟩, ⟨%κ, #HR⟩, HP⟩, #Hl⟩
  have hin := storage_in own snd κ c (W c main_v1) (W c main_arg1) (W c main_v15)
  have hout := storage_out own snd c (W c main_v1) (W c main_arg1)
  have hrun := run_call own snd κ 𝒱₀ c (W c main_v1) (W c main_arg1) (hfit c) (fun r => kernelExitSpec (c : Thread nD τ) fun _ => wp frame (wpE (DD F) (Variants.lift 𝒱₀) (c : Thread nD τ) none) Set.univ (k r) K)
  unfold Ctx Tbl at hrun
  unfold Tbl at hout
  iapply hent $$ Hb
  iintro Hb
  iapply (fupd_wp frame (wpE (DD F) (Variants.lift 𝒱₀) (c : Thread nD τ) (some (Sum.inr 13))) Set.univ _ _)
  imod hin $$ [HP Hs Hb HV HW HY] with ⟨HY, HA, HW0, HW1, HK⟩
  · isplitr; · iexact HR
    isplitl [HP]; · iexact HP
    isplitl [Hs]; · iexact Hs
    isplitl [Hb]; · iexact Hb
    isplitl [HV]; · iexact HV
    isplitl [HW]; · iexact HW
    iexact HY
  imodintro
  iapply hrun
  isplitr
  · isplitr; · iexact HR
    iexact Hl
  isplitl [HY]; · iexact HY
  isplitl [HT]; · iexact HT
  isplitl [HA]; · iexact HA
  isplitl [HW0]; · iexact HW0
  isplitl [HW1]; · iexact HW1
  isplitl [HK]; · iexact HK
  iintro HE
  ihave HE := hout $$ HE
  icases HE with ⟨Hs, Hb, Harr, Hbar, HO⟩
  rw [kernelExitSpec_apply]
  imodintro
  isplitl [Hs]; · iexact Hs
  iintro Hs
  isplitl [Hb]; · iexact Hb
  iintro Hb
  iapply Hk
  isplitl [Hs Hb Hi]
  · isplitl [Hb]; · iexact Hb
    isplitl [Hs]; · iexact Hs
    iexact Hi
  isplitr [HO]
  · isplitr [Hbar]
    · isplitl [Harr]; · iexact Harr
      iexact Hrest
    iexact Hbar
  iexact HO

end Cert.KernelIdeal.Work
-- ==== Proof.Deal.lean ====
/-
  What the launch deals: the protocol's cells with their tokens, each carried to the device that
  uses it, and the credits of what is owed.
-/
module

public import proofs.«01_k».proof.Proof.Region

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own snd : Dev nD → ℕ → Chunk F)

theorem bigSep_sdiff {I : Type} [DecidableEq I] {s t : Finset I} (h : t ⊆ s) {Φ : I → sProp 𝕄} : bigSep s Φ = iprop(bigSep t Φ ∗ bigSep (s \ t) Φ) := BI.bigSep_sdiff_split h
theorem bigSep_disj {I : Type} [DecidableEq I] {s t : Finset I} (h : Disjoint s t) {Φ : I → sProp 𝕄} : bigSep (s ∪ t) Φ = iprop(bigSep s Φ ∗ bigSep t Φ) := BI.bigSep_union h

/-! ## The cells and the tokens at launch -/

theorem bar_inj : Function.Injective (bar : Dev nD → GSem nD τ sig) := fun a b h => by
  have := congrArg (fun g : GSem nD τ sig => g.1.1) h
  exact this
theorem dc_inj : Function.Injective (fun x : Dev nD × DmaSem sig => dc x.1 x.2) := fun a b h => by
  have h1 : a.1 = b.1 := congrArg (fun g : GSem nD τ sig => g.1.1) h
  have h2 : (SemLoc.dma a.2 : SemLoc sig) = .dma b.2 := congrArg (fun g : GSem nD τ sig => g.2) h
  injection h2 with h2
  exact Prod.ext h1 h2
theorem bar_ne_dc (c d : Dev nD) (n : DmaSem sig) : bar c ≠ dc d n := fun h => by
  have h2 : (SemLoc.reg barS : SemLoc sig) = .dma n := congrArg (fun g : GSem nD τ sig => g.2) h
  cases h2

def cellsB : Finset (GSem nD τ sig) := Finset.univ.map ⟨bar, bar_inj⟩
def cellsD : Finset (GSem nD τ sig) := Finset.univ.map ⟨fun x : Dev nD × DmaSem sig => dc x.1 x.2, dc_inj⟩
theorem cells_disj : Disjoint cellsB cellsD := by
  rw [Finset.disjoint_left]
  rintro g h1 h2
  obtain ⟨c, -, rfl⟩ := Finset.mem_map.mp h1
  obtain ⟨x, -, h⟩ := Finset.mem_map.mp h2
  exact bar_ne_dc _ _ _ h.symm

abbrev TJ := Dev nD × (Fin 4 ⊕ (DmaSem sig × Fin 2))
def tokOf (x : TJ) : GSem nD τ sig × ℕ × Fin 4 := match x.2 with | .inl d => (bar x.1, 0, d) | .inr y => (dc x.1 y.1, y.2.val, 0)
theorem tokOf_inj : Function.Injective tokOf := by
  rintro ⟨c, d | ⟨n, r⟩⟩ ⟨c', d' | ⟨n', r'⟩⟩ h
  · have h1 : c = c' := bar_inj (congrArg Prod.fst h)
    have h2 : d = d' := congrArg (fun y : GSem nD τ sig × ℕ × Fin 4 => y.2.2) h
    rw [h1, h2]
  · exact absurd (congrArg Prod.fst h) (bar_ne_dc _ _ _)
  · exact absurd (congrArg Prod.fst h).symm (bar_ne_dc _ _ _)
  · have h1 : (c, n) = (c', n') := dc_inj (a₁ := (c, n)) (a₂ := (c', n')) (congrArg Prod.fst h)
    have h2 : r = r' := Fin.ext (congrArg (fun y : GSem nD τ sig × ℕ × Fin 4 => y.2.1) h)
    injection h1 with h3 h4
    rw [h3, h4, h2]
def toks : Finset (GSem nD τ sig × ℕ × Fin 4) := Finset.univ.map ⟨tokOf, tokOf_inj⟩

/-- The protocol's element at launch, whole; it rides to the global step on device 0. -/
def uB : UB := launchOf cellsB cellsD toks
def G (c : Dev nD) : sProp 𝕄 := if c = 0 then BI.own (EB uB) else iprop(emp)
theorem G_eq : bigSep Finset.univ G = (BI.own (EB uB) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- Tokens and opening rights, device by device, each token at the device that pays with it. -/
theorem toks_dealt : (bigSep toks (fun x => dutyTok EB x.1 x.2.1 x.2.2) : sProp 𝕄)
    = iprop((bigSep Finset.univ fun c : Dev nD => bigSep Finset.univ fun d : Fin 4 => dutyTok EB (bar (nb d c)) 0 d)
      ∗ bigSep Finset.univ fun c : Dev nD => bigSep Finset.univ fun n : DmaSem sig => iprop(Tk c n 0 ∗ Tk c n 1)) := by
  unfold toks
  rw [bigSep_map, BI.bigSep_univ_prod]
  have e : ∀ c : Dev nD, (bigSep Finset.univ fun b : Fin 4 ⊕ (DmaSem sig × Fin 2) => (dutyTok EB (tokOf (c, b)).1 (tokOf (c, b)).2.1 (tokOf (c, b)).2.2 : sProp 𝕄))
      = iprop((bigSep Finset.univ fun d : Fin 4 => dutyTok EB (bar c) 0 d) ∗ bigSep Finset.univ fun n : DmaSem sig => iprop(dutyTok EB (dc c n) 0 (0 : Fin 4) ∗ dutyTok EB (dc c n) 1 (0 : Fin 4))) := by
    intro c
    rw [BI.bigSep_univ_sum, BI.bigSep_univ_prod]
    have e2 : ∀ n : DmaSem sig, (bigSep Finset.univ fun r : Fin 2 => (dutyTok EB (dc c n) r.val (0 : Fin 4) : sProp 𝕄)) = iprop(dutyTok EB (dc c n) 0 (0 : Fin 4) ∗ dutyTok EB (dc c n) 1 (0 : Fin 4)) :=
      fun n => bigSep_univ_eq_bigSepL [(0 : Fin 2), 1] (by decide) (by decide) _
    have e3 := bigSep_congr (s := (Finset.univ : Finset (DmaSem sig))) fun n _ => e2 n
    exact congrArg (fun z : sProp 𝕄 => iprop((bigSep Finset.univ fun d : Fin 4 => dutyTok EB (bar c) 0 d) ∗ z)) e3
  refine (bigSep_congr fun c _ => e c).trans ?_
  rw [bigSep_sep']
  have eN : ∀ d : Fin 4, (bigSep Finset.univ fun c : Dev nD => (dutyTok EB (bar c) 0 d : sProp 𝕄)) = bigSep Finset.univ fun c : Dev nD => dutyTok EB (bar (nb d c)) 0 d := fun d =>
    bigSep_univ_equiv (⟨nb d, nb d, nb_nb d, nb_nb d⟩ : Dev nD ≃ Dev nD) _
  have eT : ∀ n : DmaSem sig, (bigSep Finset.univ fun c : Dev nD => (iprop(dutyTok EB (dc c n) 0 (0 : Fin 4) ∗ dutyTok EB (dc c n) 1 (0 : Fin 4)) : sProp 𝕄)) = bigSep Finset.univ fun c : Dev nD => iprop(Tk c n 0 ∗ Tk c n 1) := fun n =>
    bigSep_univ_equiv (⟨tgt n, tgt n, tgt_tgt n, tgt_tgt n⟩ : Dev nD ≃ Dev nD) _
  have e4 : (bigSep Finset.univ fun c : Dev nD => bigSep Finset.univ fun d : Fin 4 => (dutyTok EB (bar c) 0 d : sProp 𝕄)) = bigSep Finset.univ fun c : Dev nD => bigSep Finset.univ fun d : Fin 4 => dutyTok EB (bar (nb d c)) 0 d := by
    rw [BI.bigSep_univ_comm, bigSep_congr fun d _ => eN d, BI.bigSep_univ_comm]
  have e5 : (bigSep Finset.univ fun c : Dev nD => bigSep Finset.univ fun n : DmaSem sig => (iprop(dutyTok EB (dc c n) 0 (0 : Fin 4) ∗ dutyTok EB (dc c n) 1 (0 : Fin 4)) : sProp 𝕄)) = bigSep Finset.univ fun c : Dev nD => bigSep Finset.univ fun n : DmaSem sig => iprop(Tk c n 0 ∗ Tk c n 1) := by
    rw [BI.bigSep_univ_comm, bigSep_congr fun n _ => eT n, BI.bigSep_univ_comm]
  rw [e4, e5]

/-- The records, the barriers' positions, the opening rights and the tokens. -/
theorem fund : iprop((bigSep Finset.univ fun c : Dev nD => semVal (bar c) 0) ∗ BI.own (EB uB))
    ⊢ (iprop(|={Set.univ}=> ∃ κ : GSem nD τ sig → ℕ, Recs own snd κ ∗ (bigSep Finset.univ fun c : Dev nD => atPos EB (bar c) 0 ∅ 0)
      ∗ (bigSep Finset.univ fun c : Dev nD => bigSep Finset.univ fun n : DmaSem sig => openTok EB (dc c n))
      ∗ (bigSep Finset.univ fun c : Dev nD => bigSep Finset.univ fun d : Fin 4 => dutyTok EB (bar (nb d c)) 0 d)
      ∗ bigSep Finset.univ fun c : Dev nD => bigSep Finset.univ fun n : DmaSem sig => iprop(Tk c n 0 ∗ Tk c n 1)) : sProp 𝕄) := by
  have h := fund_launch (Name := ℕ) EB (Rd (F := F) own snd) cells_disj (fun _ _ h => h) toks (Es := Set.univ)
  rw [toks_dealt, show (bigSep cellsB fun g => (semVal g 0 : sProp 𝕄)) = bigSep Finset.univ fun c : Dev nD => semVal (bar c) 0 from bigSep_map _] at h
  refine h.trans (BI.fupd_mono (exists_elim fun κ => ?_))
  rw [bigSep_disj cells_disj,
    show (bigSep cellsB fun g => (cellInv EB (Rd own snd) (κ g) g : sProp 𝕄)) = bigSep Finset.univ fun c : Dev nD => cellInv EB (Rd own snd) (κ (bar c)) (bar c) from bigSep_map _,
    show (bigSep cellsB fun g => (reached EB g 0 : sProp 𝕄)) = bigSep Finset.univ fun c : Dev nD => reached EB (bar c) 0 from bigSep_map _,
    show (bigSep cellsB fun g => (atPos EB g 0 ∅ 0 : sProp 𝕄)) = bigSep Finset.univ fun c : Dev nD => atPos EB (bar c) 0 ∅ 0 from bigSep_map _,
    show (bigSep cellsD fun g => (cellInv EB (Rd own snd) (κ g) g : sProp 𝕄)) = bigSep Finset.univ fun c : Dev nD => bigSep Finset.univ fun n : DmaSem sig => cellInv EB (Rd own snd) (κ (dc c n)) (dc c n) from (bigSep_map _).trans (BI.bigSep_univ_prod _),
    show (bigSep cellsD fun g => (openTok EB g : sProp 𝕄)) = bigSep Finset.univ fun c : Dev nD => bigSep Finset.univ fun n : DmaSem sig => openTok EB (dc c n) from (bigSep_map _).trans (BI.bigSep_univ_prod _)]
  have hbr := ent_of_eq (bigSep_sep' Finset.univ (fun c : Dev nD => cellInv EB (Rd own snd) (κ (bar c)) (bar c)) (fun c : Dev nD => reached EB (bar c) 0)).symm
  iintro ⟨-, ⟨HB, HD⟩, HR, Hat, Hop, Htk⟩
  iexists κ
  isplitl [HB HD HR]
  · unfold Recs
    isplitl [HD]; · iexact HD
    iapply hbr
    isplitl [HB]; · iexact HB
    iexact HR
  isplitl [Hat]; · iexact Hat
  isplitl [Hop]; · iexact Hop
  iexact Htk

/-! ## The credits -/

omit [FloatOps F] in
theorem owed_one (j : Fin 4) (c : Dev nD) : ∑ d : Dev nD, (tallyAt (bar (nb j d)) () 1 : CellTallies nD τ sig Unit) (bar c) () = 1 := by
  have h : ∀ d : Dev nD, (tallyAt (bar (nb j d)) () 1 : CellTallies nD τ sig Unit) (bar c) () = if d = nb j c then 1 else 0 := by
    intro d
    rw [tallyAt_apply]
    by_cases hd : d = nb j c
    · rw [if_pos hd, hd, nb_nb, if_pos ⟨rfl, rfl⟩]
    · rw [if_neg hd, if_neg fun hh => hd (by rw [bar_inj hh.1, nb_nb])]
  rw [Finset.sum_congr rfl fun d _ => h d, Finset.sum_ite_eq' Finset.univ (nb j c) fun _ => 1, if_pos (Finset.mem_univ _)]

theorem oweOn_bar (d c : Dev nD) (S : Finset (DmaSem sig)) : oweOn d S (bar c) () = 0 := by
  by_contra h
  obtain ⟨n, -, hn⟩ := oweOn_pos d S (bar c) () (Nat.pos_of_ne_zero h)
  exact bar_ne_dc _ _ _ hn

theorem launch_bar (c : Dev nD) : tallyOn (bar c) (launchCredit (Pipeline.owing O₀) 0 (bar c)) = (tallyAt (bar c) () 4 : CellTallies nD τ sig Unit) := by
  unfold tallyAt; refine congrArg _ (Finsupp.ext fun u => ?_); cases u
  have h : ∀ d : Dev nD, O₀ d (bar c) () = (tallyAt (bar (nb 3 d)) () 1 : CellTallies nD τ sig Unit) (bar c) () + (tallyAt (bar (nb 2 d)) () 1 : CellTallies nD τ sig Unit) (bar c) ()
      + (tallyAt (bar (nb 1 d)) () 1 : CellTallies nD τ sig Unit) (bar c) () + (tallyAt (bar (nb 0 d)) () 1 : CellTallies nD τ sig Unit) (bar c) () := by
    intro d
    have e : O₀ d (bar c) () = oweOn d (rem 0 0) (bar c) () + (tallyAt (bar (nb 3 d)) () 1 : CellTallies nD τ sig Unit) (bar c) () + (tallyAt (bar (nb 2 d)) () 1 : CellTallies nD τ sig Unit) (bar c) ()
      + (tallyAt (bar (nb 1 d)) () 1 : CellTallies nD τ sig Unit) (bar c) () + (tallyAt (bar (nb 0 d)) () 1 : CellTallies nD τ sig Unit) (bar c) () := rfl
    rw [e, oweOn_bar, Nat.zero_add]
  rw [Pipeline.launchCredit_owing, Finsupp.single_eq_same, Finset.sum_congr rfl fun d _ => h d, Finset.sum_add_distrib, Finset.sum_add_distrib, Finset.sum_add_distrib,
    owed_one, owed_one, owed_one, owed_one]

theorem launch_dma (c : Dev nD) (n : DmaSem sig) (hn : n ∈ rem 0 0) : tallyOn (dc c n) (launchCredit (Pipeline.owing O₀) 0 (dc c n)) = (tallyAt (dc c n) () NB : CellTallies nD τ sig Unit) := by
  unfold tallyAt; refine congrArg _ (Finsupp.ext fun u => ?_); cases u
  have hz : ∀ d e : Dev nD, (tallyAt (bar e) () 1 : CellTallies nD τ sig Unit) (dc c n) () = 0 := fun d e => by
    rw [tallyAt_apply, if_neg fun h => bar_ne_dc _ _ _ h.1.symm]
  have h : ∀ d : Dev nD, O₀ d (dc c n) () = if d = tgt n c then NB else 0 := by
    intro d
    have e : O₀ d (dc c n) () = oweOn d (rem 0 0) (dc c n) () + (tallyAt (bar (gp 2 d)) () 1 : CellTallies nD τ sig Unit) (dc c n) () + (tallyAt (bar (gp 1 d)) () 1 : CellTallies nD τ sig Unit) (dc c n) ()
      + (tallyAt (bar (gp 0 d)) () 1 : CellTallies nD τ sig Unit) (dc c n) () + (tallyAt (bar (xp d)) () 1 : CellTallies nD τ sig Unit) (dc c n) () := rfl
    rw [e, hz d, hz d, hz d, hz d]
    simp only [Nat.add_zero]
    unfold oweOn
    rw [Finset.sum_apply, Finsupp.finsetSum_apply]
    have h2 : ∀ n' ∈ rem 0 0, (tallyAt (dc (tgt n' d) n') () NB : CellTallies nD τ sig Unit) (dc c n) () = if n' = n then (if d = tgt n c then NB else 0) else 0 := by
      intro n' _
      rw [tallyAt_apply]
      by_cases hn' : n' = n
      · subst hn'
        rw [if_pos rfl]
        by_cases hd : d = tgt n' c
        · rw [if_pos hd, hd, tgt_tgt, if_pos ⟨rfl, rfl⟩]
        · rw [if_neg hd, if_neg fun hh => hd (by
            have := congrArg Prod.fst (dc_inj (a₁ := (c, n')) (a₂ := (tgt n' d, n')) hh.1)
            rw [show c = tgt n' d from this, tgt_tgt])]
      · rw [if_neg hn', if_neg fun hh => hn' (congrArg Prod.snd (dc_inj (a₁ := (c, n)) (a₂ := (tgt n' d, n')) hh.1)).symm]
    rw [Finset.sum_congr rfl h2, Finset.sum_ite_eq' (rem 0 0) n, if_pos hn]
  rw [Pipeline.launchCredit_owing, Finsupp.single_eq_same, Finset.sum_congr rfl fun d _ => h d, Finset.sum_ite_eq' Finset.univ (tgt n c) fun _ => NB, if_pos (Finset.mem_univ _)]

theorem rem_xr : ∀ k : Fin 8, sXR k ∈ rem 0 0 := by decide +kernel
theorem rem_gr : ∀ (g : Fin 3) (k : Fin 8), sGR g k ∈ rem 0 0 := by decide +kernel

theorem creds (c : Dev nD) : (Pipeline.launchCred O₀ c : sProp 𝕄)
    ⊢ iprop(cred (tallyAt (bar c) () 4) ∗ (bigSep Finset.univ fun k : Fin 8 => Cr c (sXR k)) ∗ bigSep Finset.univ fun p : Fin 3 × Fin 8 => Cr c (sGR p.1 p.2)) := by
  have hsub : (Finset.univ : Finset (DmaSem sig)).map ⟨SemLoc.dma, fun a b h => by cases h; rfl⟩ ⊆ (Finset.univ : Finset (SemLoc sig)).erase (.reg barS) := by
    intro s hs
    obtain ⟨n, -, rfl⟩ := Finset.mem_map.mp hs
    exact Finset.mem_erase.mpr ⟨(fun h => by cases h), Finset.mem_univ _⟩
  have e : (Pipeline.launchCred O₀ c : sProp 𝕄) ⊢ iprop(cred (tallyAt (bar c) () 4)
      ∗ bigSep Finset.univ fun n : DmaSem sig => cred (tallyOn (dc c n) (launchCredit (Pipeline.owing O₀) 0 (dc c n)))) := by
    unfold Pipeline.launchCred
    rw [bigSep_univ_at _ (SemLoc.reg barS), launch_bar, bigSep_sdiff hsub, bigSep_map]
    iintro ⟨H1, H2, -⟩
    isplitl [H1]; · iexact H1
    iexact H2
  refine e.trans (sep_mono_right ?_)
  rw [dma_split, wj_split]
  iintro ⟨-, ⟨-, -, H2⟩, H1⟩
  isplitl [H1]
  · have h : (bigSep Finset.univ fun k : Fin 8 => cred (tallyOn (dc c (sXR k)) (launchCredit (Pipeline.owing O₀) 0 (dc c (sXR k)))) : sProp 𝕄) ⊢ bigSep Finset.univ fun k : Fin 8 => Cr c (sXR k) :=
      bigSep_mono fun k _ => by rw [launch_dma c _ (rem_xr k)]; exact .refl _
    iapply h; iexact H1
  · have h : (bigSep Finset.univ fun p : Fin 3 × Fin 8 => cred (tallyOn (dc c (sGR p.1 p.2)) (launchCredit (Pipeline.owing O₀) 0 (dc c (sGR p.1 p.2)))) : sProp 𝕄) ⊢ bigSep Finset.univ fun p : Fin 3 × Fin 8 => Cr c (sGR p.1 p.2) :=
      bigSep_mono fun p _ => by rw [launch_dma c _ (rem_gr p.1 p.2)]; exact .refl _
    iapply h; iexact H2

end Cert.KernelIdeal.Work
-- ==== Proof.Host.lean ====
/- What a device's host operations leave before the region: the table holds the device's first chunk, the activations
   are the first argument with its heads and lanes laid side by side, and the arguments are as launched. -/
module

public import proofs.«01_k».proof.Proof.Deal
public import proofs.«01_k».proof.Proof.Gen.KernelIdeal.Regions
public import Idealize.ShloMosaic.Lib.StableHlo.RunRead

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The table's arithmetic on one device: twice the second coordinate and the parity of the third, eight chunks each. -/
theorem tab_word : ∀ c : Dev nD, IntOp.muli
    (IntOp.addi
      (IntOp.muli (IntOp.remui .host (IntOp.divui .host c.word 4#32) 2#32) 2#32)
      (IntOp.andi (IntOp.remui .host (IntOp.divui .host c.word 1#32) 4#32) 1#32))
    8#32 = tb c := by
  decide +kernel

theorem V1_tab (c : Dev nD) : V1 m c main_v14 = fun _ => tb c := by
  unfold V1
  after_reads_simp
  funext i
  exact tab_word c

theorem V1_v1 (c : Dev nD) : V1 m c main_v1 = shapeCast S2048x4096 (m ((c : Thread nD τ).loc main_arg0)) shapeCasts_S1x2048x32x128_S2048x4096 := by
  unfold V1
  after_reads_simp
  rfl

theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)

end Cert.KernelIdeal.Work
-- ==== Proof.Main.lean ====
/- The launch and the run: what every device is dealt before its region, and what the machine holds after the last
   device has ended. -/
module

public import proofs.«01_k».proof.Proof.Host

@[expose] public section

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Step `t`'s product of the rows a device keeps, and of the rows it sends to its partner. -/
def ownM (c : Dev nD) (t : ℕ) : Chunk F :=
  keepOf c (wblk c ⟨t % 10, Nat.mod_lt _ (by decide)⟩ (V1 m c main_arg1)) (rowsLo (V1 m c main_v1)) (rowsHi (V1 m c main_v1))
def sndM (c : Dev nD) (t : ℕ) : Chunk F :=
  sendOf c (wblk c ⟨t % 10, Nat.mod_lt _ (by decide)⟩ (V1 m c main_arg1)) (rowsLo (V1 m c main_v1)) (rowsHi (V1 m c main_v1))
/-- What device `c`'s result buffer holds at the end. -/
def res (c : Dev nD) : (cc0_stg2_0 : Ref sig .tc).ty.Contents (Elt F) := outF (ownM m) (sndM m) c

theorem fits (c : Dev nD) : Fits (ownM m) (sndM m) c (V1 m c main_v1) (V1 m c main_arg1) := by
  intro t ht
  have e : (⟨t.val % 10, Nat.mod_lt _ (by decide)⟩ : Fin grid0.N) = t := Fin.ext (Nat.mod_eq_of_lt t.isLt)
  unfold ownM sndM
  rw [e]
  exact ⟨rfl, rfl⟩

/-! ## Segments -/

/-- What rides beside a device's buffers up to its region. -/
def Rest (c : Dev nD) : sProp 𝕄 := iprop((∃ κ, Recs (ownM m) (sndM m) κ) ∗ Pre0 c)

def segR (𝒱₀ : Variants) : Pipeline.HostSeg (Ix := Unit) (Name := ℕ) (U := UU) (Lvl := ℕ) (pcfgs (F := F)) defs₀ 𝒱₀ L lv where
  prog := Prog.lift (.customCall (Pipeline.entry 0) ())
  pre := preR (ownM m) (sndM m) (V1 m)
  post := postR (ownM m) (sndM m) (V1 m)
  run := fun c _ k K => run_region (ownM m) (sndM m) 𝒱₀ (V1 m) (V1_tab m) (fits m) c k K

abbrev aa : (p : Fin 1) → (pcfgs (F := F) p).Adm := fun _ => adm 0
def pdats : (p : Fin 1) → (c : Dev nD) → Pipeline.Dat τ (Elt F) Unit ℕ UU ℕ (Pipeline.pin (pcfgs (F := F)) aa p) c := fun _ c =>
  { A := fun w => m _, after := fun _ _ _ => Classical.arbitrary _, Φ := fun _ => iprop(emp), q := fun _ => fullShare, owed := fun _ => 0 }

def segsM (𝒱₀ : Variants) (c : Dev nD) : List (Pipeline.Seg (pcfgs (F := F)) aa (pdats m) () defs₀ 𝒱₀ L lv) :=
  [.host (seg0 m 𝒱₀ L lv (fun _ => Rest m) c), .host (segR m 𝒱₀)]

/-! ## The launch -/

def u₀ : UU := (Rounds.initOf (Pipeline.cells (Pipeline.pin (pcfgs (F := F)) aa) (cellOf_inj aa)) (Pipeline.launchToks (Pipeline.pin (pcfgs (F := F)) aa) (cellOf_inj aa)), (uB, 1))

theorem fund₀ : (ownU (u₀ (F := F)) : sProp 𝕄) ⊢ |={Set.univ}=> iprop(BI.own (EP (Rounds.initOf (Pipeline.cells (Pipeline.pin (pcfgs (F := F)) aa) (cellOf_inj aa)) (Pipeline.launchToks (Pipeline.pin (pcfgs (F := F)) aa) (cellOf_inj aa)))) ∗ bigSep Finset.univ G) := by
  rw [G_eq]
  unfold u₀
  iintro Hu
  ihave H := (ownU_pair _ _) $$ Hu
  icases H with ⟨HP, HX⟩
  ihave H := (own_pair_emb _ _ _) $$ HX
  icases H with ⟨HB, -⟩
  imodintro
  isplitl [HP]; · iexact HP
  iexact HB

theorem bar_of_unscoped (c : Dev nD) : (unscopedSems0 c : sProp 𝕄) ⊢ semVal (bar c) 0 :=
  bigSep_elim (Finset.mem_filter.mpr ⟨Finset.mem_univ (SemLoc.reg barS), by decide⟩)

/-- Everything the launch deals, device by device. -/
theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ fun c : Dev nD => iprop(StableHlo.held (c : Thread nD τ) (Pipeline.ucRefs τ sig) (V0 m c) ∗ Rest m c) : sProp 𝕄) := by
  have h1 : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
      ⊢ (iprop((bigSep Finset.univ fun c : Dev nD => semVal (bar c) 0) ∗ (bigSep Finset.univ G)
        ∗ bigSep Finset.univ fun c : Dev nD => iprop(StableHlo.held (c : Thread nD τ) (Pipeline.ucRefs τ sig) (V0 m c) ∗ owes (c : Thread nD τ) (O₀ c) ∅
          ∗ cred (tallyAt (bar c) () 4) ∗ (bigSep Finset.univ fun k : Fin 8 => Cr c (sXR k)) ∗ bigSep Finset.univ fun p : Fin 3 × Fin 8 => Cr c (sGR p.1 p.2))) : sProp 𝕄) := by
    rw [← bigSep_sep', ← bigSep_sep']
    refine bigSep_mono fun c _ => ?_
    change (_ : sProp 𝕄) ⊢ (_ : sProp 𝕄)
    rw [← Pipeline.unscopedBufs_held (Ix := Unit) (Name := ℕ) (U := UU) (Lvl := ℕ) c (V0 m c)]
    iintro ⟨Hb, Hs, HO, Hc, -, HG⟩
    ihave Hs := (bar_of_unscoped (F := F) c) $$ Hs
    ihave Hc := (creds (F := F) c) $$ Hc
    icases Hc with ⟨H1, H2, H3⟩
    isplitl [Hs]; · iexact Hs
    isplitl [HG]; · iexact HG
    isplitl [Hb]; · iexact Hb
    isplitl [HO]; · iexact HO
    isplitl [H1]; · iexact H1
    isplitl [H2] <;> iassumption
  have h2 (κ : GSem nD τ sig → ℕ) (c : Dev nD) (_ : c ∈ (Finset.univ : Finset (Dev nD))) :
      iprop(Recs (ownM m) (sndM m) κ ∗ ((StableHlo.held (c : Thread nD τ) (Pipeline.ucRefs τ sig) (V0 m c) ∗ owes (c : Thread nD τ) (O₀ c) ∅
          ∗ cred (tallyAt (bar c) () 4) ∗ (bigSep Finset.univ fun k : Fin 8 => Cr c (sXR k)) ∗ bigSep Finset.univ fun p : Fin 3 × Fin 8 => Cr c (sGR p.1 p.2))
        ∗ atPos EB (bar c) 0 ∅ 0 ∗ (bigSep Finset.univ fun n : DmaSem sig => openTok EB (dc c n))
        ∗ (bigSep Finset.univ fun d : Fin 4 => dutyTok EB (bar (nb d c)) 0 d)
        ∗ bigSep Finset.univ fun n : DmaSem sig => iprop(Tk c n 0 ∗ Tk c n 1)))
      ⊢ (iprop(StableHlo.held (c : Thread nD τ) (Pipeline.ucRefs τ sig) (V0 m c) ∗ Rest m c) : sProp 𝕄) := by
    unfold Rest Pre0
    iintro ⟨HR, ⟨Hb, HO, H1, H2, H3⟩, Ha, Ho, Hd, Ht⟩
    isplitl [Hb]; · iexact Hb
    isplitl [HR]; · iexists κ; iexact HR
    isplitl [HO]; · iexists _; iexact HO
    isplitl [Hd]; · iexact Hd
    isplitl [Ha]; · iexact Ha
    isplitl [H1]; · iexact H1
    isplitl [Ho]; · iexact Ho
    isplitl [Ht]; · iexact Ht
    isplitl [H2] <;> iassumption
  iintro ⟨H, -⟩
  ihave H := h1 $$ H
  icases H with ⟨Hs, HG, Hr⟩
  ihave HG := (ent_of_eq (G_eq (F := F))) $$ HG
  imod (fund (ownM m) (sndM m)) $$ [Hs HG] with ⟨%κ, HR, Ha, Ho, Hd, Ht⟩
  · isplitl [Hs] <;> iassumption
  imodintro
  iapply (bigSep_with_persistent (R := Recs (ownM m) (sndM m) κ) (h2 κ))
  isplitl [HR]; · iexact HR
  ihave Hd := (ent_of_eq (bigSep_sep' Finset.univ (fun c : Dev nD => bigSep Finset.univ fun d : Fin 4 => dutyTok EB (bar (nb d c)) 0 d)
    (fun c : Dev nD => bigSep Finset.univ fun n : DmaSem sig => iprop(Tk c n 0 ∗ Tk c n 1))).symm) $$ [Hd Ht]
  · isplitl [Hd] <;> iassumption
  ihave Ho := (ent_of_eq (bigSep_sep' Finset.univ (fun c : Dev nD => bigSep Finset.univ fun n : DmaSem sig => openTok EB (dc c n)) _).symm) $$ [Ho Hd]
  · isplitl [Ho] <;> iassumption
  ihave Ha := (ent_of_eq (bigSep_sep' Finset.univ (fun c : Dev nD => atPos EB (bar c) 0 ∅ 0) _).symm) $$ [Ha Ho]
  · isplitl [Ha] <;> iassumption
  iapply (ent_of_eq (bigSep_sep' Finset.univ _ _).symm)
  isplitl [Hr] <;> iassumption

/-! ## The run -/

abbrev 𝒱₀ : Variants := Variants.none

set_option backward.isDefEq.respectTransparency.types false in
/-- At any float values, from any memory, every fair execution on the sixteen devices ends with each device's arguments
    as launched, its result `res`, and every counter back at zero. -/
theorem run_main : θ_run (defs (F := F)) (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v15) = res m c) ∧ r.2.sem = fun _ => 0) := by
  refine Pipeline.θ_run_regions_kit_dev_sems (pcfgs (F := F)) aa (pdats m) () (cellOf_inj aa) EP defs₀ 𝒱₀ L lv m ρ main (segsM m 𝒱₀)
    (fun c Q => by
      rewrite [main_chain c, Pipeline.Seg.run_eq_chain,
        show (segsM m 𝒱₀ c).map Pipeline.Seg.prog = [
          StableHlo.seq (hostOps0 c),
          Prog.lift (.customCall (Pipeline.entry 0) ()) ] from rfl]
      dsimp (config := { failIfUnchanged := false }) only
      exact .rfl)
    (fun c => by simp only [segsM, Pipeline.Seg.pipes_host, Pipeline.Seg.pipes_nil]; decide) O₀ L_of_ne G u₀ fund₀
    (T₀ := fun c => iprop(StableHlo.held (c : Thread nD τ) (Pipeline.ucRefs τ sig) (V0 m c) ∗ Rest m c))
    (Tₙ := fun c => iprop(StableHlo.held (c : Thread nD τ) (Pipeline.ucRefs τ sig) (Function.update (V1 m c) (dr main_v15) (res m c)) ∗ semVal (bar c) 0))
    (hch := fun c => ⟨.rfl, .rfl, .rfl⟩)
    (hinit := init m ρ)
    (QY := fun c s => ((s.mem ((c : Thread nD τ).loc main_arg0) = m ((c : Thread nD τ).loc main_arg0)
        ∧ s.mem ((c : Thread nD τ).loc main_arg1) = m ((c : Thread nD τ).loc main_arg1))
        ∧ s.mem ((c : Thread nD τ).loc main_v15) = res m c) ∧ s.sem (bar c) = 0)
    (hfin := fun c s' => ?_)
    (hQ := fun s h hs => ⟨fun c => (h c).1, sem_eq_zero hs fun c sm hsm => ?_⟩)
  · unfold StableHlo.held
    iintro ⟨⟨Hh, Hb⟩, HSI⟩
    icombine HSI Hb gives %hb
    ihave Hr := (pointsTo_read_all (Pipeline.ucRefs τ sig) (fun b => ((c : Thread nD τ).1, b)) (Function.update (V1 m c) (dr main_v15) (res m c)) s') $$ [Hh HSI]
    · isplitl [Hh] <;> iassumption
    icases Hr with ⟨%h, HSI⟩
    imodintro
    isplitr
    · ipureintro
      refine ⟨⟨⟨(h (dr main_arg0) (Finset.mem_filter.mpr ⟨StableHlo.devRef_mem_tcRefs main_arg0, by decide⟩)).trans ((Function.update_of_ne (by decide) ..).trans (V1_arg0 m c)),
        (h (dr main_arg1) (Finset.mem_filter.mpr ⟨StableHlo.devRef_mem_tcRefs main_arg1, by decide⟩)).trans ((Function.update_of_ne (by decide) ..).trans (V1_arg1 m c))⟩,
        (h (dr main_v15) (Finset.mem_filter.mpr ⟨StableHlo.devRef_mem_tcRefs main_v15, by decide⟩)).trans (Function.update_self ..)⟩, hb⟩
    · iexact HSI
  · rcases sm with r | n
    · have e : r = barS := by revert r; decide
      subst e
      exact (h c).2
    · rw [dma_scoped n] at hsm
      cases hsm

end Cert.KernelIdeal.Work
-- ==== Proof.Same.lean ====
/- The program as printed and its idealization are the same text, so a run of the second at any floats is a run of
   the first. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The kernel's body is a match on its one label, so the two tables are compared label by label. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl
  | ⟨_ + 1, h⟩, _ => exact absurd h (Nat.not_lt.2 (Nat.le_add_left _ _))

theorem pcfgs_eq : Cert.Kernel.pcfgs (F := F) = Cert.KernelIdeal.pcfgs (F := F) := rfl

theorem defs_eq : Cert.Kernel.defs (F := F) = Cert.KernelIdeal.defs (F := F) :=
  congrArg (Pipeline.defs (Cert.KernelIdeal.pcfgs (F := F))) defs₀_eq

set_option maxHeartbeats 2000000 in
theorem main_eq : Cert.Kernel.main (F := F) = Cert.KernelIdeal.main (F := F) := rfl

/-- A run of the idealization, at any floats, is a run of the program as printed. -/
theorem run_eq (s : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [main_eq, defs_eq]
  exact h

end Cert.Same
-- ==== Proof.Frames.lean ====
/- The three frame claims, each read off a run. -/
module

public import proofs.«01_k».proof.Defs
public import proofs.«01_k».proof.Proof.Main
public import proofs.«01_k».proof.Proof.Same
public import proofs.«01_k».proof.Proof.Gen.ReferenceIdeal.Run
public import Idealize.ShloMosaic.Lib.Quiescent

@[expose] public section

namespace Cert.Proof

open Idealize.ShloMosaic Idealize.SL.Sem

theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Cert.KernelIdeal.Work.run_main (F := Ideal) m ρ)

/-- The program as printed, at the machine's own floats: the same run. -/
theorem frame_kernel : Cert.quiescent_Kernel (hKernel := Cert.Kernel.Gen.facts) := fun m ρ _ =>
  Cert.Same.run_eq _ _ ((θ_run Cert.KernelIdeal.defs _ _).mono (fun _ h => ⟨fun c => (h.1 c).1, h.2⟩)
    (Cert.KernelIdeal.Work.run_main (F := Bits) m ρ))

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof
-- ==== Proof.Prod.lean ====
/- The block products at exact values, read at an index. -/
module

public import proofs.«01_k».proof.Proof.Main
public import Idealize.ShloMosaic.Lib.Pointwise
public import Idealize.ShloMosaic.Lib.ValueIdx
public import Idealize.ShloMosaic.Lib.ValueLayout

@[expose] public section

noncomputable section

namespace Cert.KernelIdeal.Work

open Cert.KernelIdeal Cert.KernelIdeal.Gen
open Idealize.ShloMosaic hiding ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-- The index of a chunk by coordinates. -/
theorem cix_eq (r k : ℕ) (hr : r < 1024) (hk : k < 256) : cix r k hr hk = ix3 (0 : Fin 1) (⟨r, hr⟩ : Fin 1024) (⟨k, hk⟩ : Fin 256) := by
  funext a
  match a with
  | 0 => rfl
  | 1 => rfl
  | 2 => rfl

/-- One block product, either way it is printed. -/
theorem pay3_apply (w : Vec Ideal S4096x256 .bf16) (f : Vec Ideal S1024x4096 .bf16) (i : Fin 1024) (j : Fin 256) :
    k0_pay3 w f (ix2 i j) = ∑ k : Fin 4096, (f (ix2 i k) : EReal) * (w (ix2 k j) : EReal) := by
  unfold k0_pay3 k0_pay2
  simp only [pointwise]
  exact (zero_add _).trans rfl
theorem pay4_apply (w : Vec Ideal S4096x256 .bf16) (f : Vec Ideal S1024x4096 .bf16) (i : Fin 1024) (j : Fin 256) :
    k0_pay4 w f (ix2 i j) = ∑ k : Fin 4096, (f (ix2 i k) : EReal) * (w (ix2 k j) : EReal) := pay3_apply w f i j

/-- The sum of two chunks is taken element by element. -/
theorem pay1_apply (a b : Chunk Ideal) (i : Fin 1024) (j : Fin 256) :
    k0_pay1 a b (ix3 (0 : Fin 1) i j) = (a (ix3 (0 : Fin 1) i j) : EReal) + (b (ix3 (0 : Fin 1) i j) : EReal) := by
  unfold k0_pay1
  rw [shapeCast_ab_1ab_apply]
  show (shapeCast S1024x256 a _ (ix2 i j) : EReal) + shapeCast S1024x256 b _ (ix2 i j) = _
  rw [shapeCast_1ab_ab_apply, shapeCast_1ab_ab_apply]

/-- Row `i` of the half a device's first coordinate names, and of the other half. -/
theorem rowsLo_apply (f : Vec Ideal S2048x4096 .bf16) (i : Fin 1024) (k : Fin 4096) : rowsLo (F := Ideal) f (ix2 i k) = f (ix2 (⟨i.val, by omega⟩ : Fin 2048) k) := by
  show f _ = f _
  congr 1
  funext a
  match a with
  | 0 => apply Fin.ext; show 0 + 1 * i.val = i.val; omega
  | 1 => apply Fin.ext; show 0 + 1 * k.val = k.val; omega
theorem rowsHi_apply (f : Vec Ideal S2048x4096 .bf16) (i : Fin 1024) (k : Fin 4096) : rowsHi (F := Ideal) f (ix2 i k) = f (ix2 (⟨1024 + i.val, by omega⟩ : Fin 2048) k) := by
  show f _ = f _
  congr 1
  funext a
  match a with
  | 0 => apply Fin.ext; show 1024 + 1 * i.val = 1024 + i.val; omega
  | 1 => apply Fin.ext; show 0 + 1 * k.val = k.val; omega

theorem half_lt (c : Dev nD) (i : Fin 1024) : 1024 * (c.val / 8) + i.val < 2048 := by have : c.val < 16 := c.isLt; omega

/-- What a device keeps: the rows of its own half times the weights' block. -/
theorem keep_apply (c : Dev nD) (w : Vec Ideal S4096x256 .bf16) (f : Vec Ideal S2048x4096 .bf16) (i : Fin 1024) (j : Fin 256) :
    keepOf c w (rowsLo (F := Ideal) f) (rowsHi (F := Ideal) f) (ix3 (0 : Fin 1) i j)
      = ∑ k : Fin 4096, (f (ix2 (⟨1024 * (c.val / 8) + i.val, half_lt c i⟩ : Fin 2048) k) : EReal) * (w (ix2 k j) : EReal) := by
  unfold keepOf
  by_cases h : c.val / 8 = 0
  · rw [if_pos h]
    unfold k0_pay5
    rw [shapeCast_ab_1ab_apply, pay3_apply]
    refine Finset.sum_congr rfl fun k _ => ?_
    rw [rowsLo_apply]
    have e : (⟨i.val, by omega⟩ : Fin 2048) = ⟨1024 * (c.val / 8) + i.val, half_lt c i⟩ := Fin.ext (by show i.val = 1024 * (c.val / 8) + i.val; omega)
    rw [e]
  · rw [if_neg h]
    have h1 : c.val / 8 = 1 := by have : c.val < 16 := c.isLt; omega
    unfold k0_pay7
    rw [shapeCast_ab_1ab_apply, pay4_apply]
    refine Finset.sum_congr rfl fun k _ => ?_
    rw [rowsHi_apply]
    have e : (⟨1024 + i.val, by omega⟩ : Fin 2048) = ⟨1024 * (c.val / 8) + i.val, half_lt c i⟩ := Fin.ext (by show 1024 + i.val = 1024 * (c.val / 8) + i.val; omega)
    rw [e]

/-- What a device sends: the rows of its partner's half times the weights' block. -/
theorem send_apply (c : Dev nD) (w : Vec Ideal S4096x256 .bf16) (f : Vec Ideal S2048x4096 .bf16) (i : Fin 1024) (j : Fin 256) :
    sendOf c w (rowsLo (F := Ideal) f) (rowsHi (F := Ideal) f) (ix3 (0 : Fin 1) i j)
      = ∑ k : Fin 4096, (f (ix2 (⟨1024 * ((xp c).val / 8) + i.val, half_lt (xp c) i⟩ : Fin 2048) k) : EReal) * (w (ix2 k j) : EReal) := by
  have hx := xp_div c
  unfold sendOf
  by_cases h : c.val / 8 = 0
  · rw [if_pos h]
    unfold k0_pay6
    rw [shapeCast_ab_1ab_apply, pay4_apply]
    refine Finset.sum_congr rfl fun k _ => ?_
    rw [rowsHi_apply]
    have e : (⟨1024 + i.val, by omega⟩ : Fin 2048) = ⟨1024 * ((xp c).val / 8) + i.val, half_lt (xp c) i⟩ := Fin.ext (by show 1024 + i.val = 1024 * ((xp c).val / 8) + i.val; omega)
    rw [e]
  · rw [if_neg h]
    have h1 : c.val / 8 = 1 := by have : c.val < 16 := c.isLt; omega
    unfold k0_pay8
    rw [shapeCast_ab_1ab_apply, pay3_apply]
    refine Finset.sum_congr rfl fun k _ => ?_
    rw [rowsLo_apply]
    have e : (⟨i.val, by omega⟩ : Fin 2048) = ⟨1024 * ((xp c).val / 8) + i.val, half_lt (xp c) i⟩ := Fin.ext (by show i.val = 1024 * ((xp c).val / 8) + i.val; omega)
    rw [e]

theorem col_lt (c : Dev nD) (t : ℕ) (j : Fin 256) : 256 * (8 * qd c + min t 7) + j.val < 8192 := by have := qd_lt c; omega

/-- The weights' block of a step: 256 columns of the device's quarter. -/
theorem wblk_apply (c : Dev nD) (t : Fin grid0.N) (fw : Vec Ideal S4096x8192 .bf16) (k : Fin 4096) (j : Fin 256) :
    wblk (F := Ideal) c t fw (ix2 k j) = fw (ix2 k (⟨256 * (8 * qd c + min t.val 7) + j.val, col_lt c t.val j⟩ : Fin 8192)) := by
  have e := index1 (F := Ideal) c t
  refine congrArg fw (funext fun a : Fin 2 => ?_)
  match a with
  | 0 =>
    apply Fin.ext
    show (wn1 (F := Ideal) c).index t (0 : Fin 2) * 4096 + 1 * k.val = k.val
    rw [e]; show 0 * 4096 + 1 * k.val = k.val; omega
  | 1 =>
    apply Fin.ext
    show (wn1 (F := Ideal) c).index t (1 : Fin 2) * 256 + 1 * j.val = _
    rw [e]; show (8 * qd c + min t.val 7) * 256 + 1 * j.val = 256 * (8 * qd c + min t.val 7) + j.val; omega

end Cert.KernelIdeal.Work
-- ==== Proof.Value.lean ====
/- The result of a device at exact values: its rows of the product of the whole arrays. -/
module

public import proofs.«01_k».proof.Proof.Prod
public import Idealize.ShloMosaic.Lib.Layout

@[expose] public section

noncomputable section

namespace Cert.KernelIdeal.Work

open Cert.KernelIdeal Cert.KernelIdeal.Gen
open Idealize.ShloMosaic hiding ix1 ix2 ix3 ix4
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.ValueIdx

/-! ## The whole arrays -/

/-- The whole left operand as a matrix: row `r`, column `k` of its two last axes laid flat. -/
def flat (v : (⟨4, ![1, 2048, 64, 128]⟩ : Shape).Idx → EReal) (r : Fin 2048) (k : Fin 8192) : EReal :=
  v (ix4 (0 : Fin 1) r (⟨k.val / 128, by omega⟩ : Fin 64) (⟨k.val % 128, by omega⟩ : Fin 128))

theorem meshX (c : Dev nD) : Layout.meshLin [2, 2, 4] c.val [0] = c.val / 8 := by revert c; decide

theorem kcol_lt (x : ℕ) (hx : x < 2) (k : Fin 4096) : 4096 * x + k.val < 8192 := by omega
theorem x_lt (c : Dev nD) : c.val / 8 < 2 := by have : c.val < 16 := c.isLt; omega

/-- The heads a device holds are half the columns of the matrix. -/
theorem arg0_apply (v : (⟨4, ![1, 2048, 64, 128]⟩ : Shape).Idx → EReal) (c : Dev nD) (r : Fin 2048) (k : Fin 4096) :
    shapeCast S2048x4096 (Layout.blockN ⟨4, ![1, 2048, 32, 128]⟩ ⟨4, ![1, 2048, 64, 128]⟩ (Layout.meshBlock [2, 2, 4] ![[], [], [0], []] c) v : S1x2048x32x128.Idx → EReal)
        shapeCasts_S1x2048x32x128_S2048x4096 (ix2 r k)
      = flat v r ⟨4096 * (c.val / 8) + k.val, kcol_lt _ (x_lt c) k⟩ := by
  rw [shapeCast_apply _ _ _ (ix4 (0 : Fin 1) r (⟨k.val / 128, by omega⟩ : Fin 32) (⟨k.val % 128, by omega⟩ : Fin 128)) (by
    rw [Shape.rowMajor_val_four, Shape.rowMajor_val_two]
    show ((0 * 2048 + r.val) * 32 + k.val / 128) * 128 + k.val % 128 = r.val * 4096 + k.val
    omega)]
  unfold flat
  rw [Layout.blockN_apply]
  refine congrArg v (funext fun a : Fin 4 => Fin.ext ?_)
  rw [Layout.TilesN.idx_val]
  match a with
  | 0 => show 0 * 1 + 0 = 0; omega
  | 1 => show 0 * 2048 + r.val = r.val; omega
  | 2 =>
    show Layout.meshLin [2, 2, 4] c.val [0] * 32 + k.val / 128 = (4096 * (c.val / 8) + k.val) / 128
    rw [meshX]; omega
  | 3 => show 0 * 128 + k.val % 128 = (4096 * (c.val / 8) + k.val) % 128; omega

/-- The rows of the weights a device holds. -/
theorem arg1_apply (w : (⟨2, ![8192, 8192]⟩ : Shape).Idx → EReal) (c : Dev nD) (k : Fin 4096) (n : Fin 8192) :
    (Layout.blockN ⟨2, ![4096, 8192]⟩ ⟨2, ![8192, 8192]⟩ (Layout.meshBlock [2, 2, 4] ![[0], []] c) w : S4096x8192.Idx → EReal) (ix2 k n)
      = w (ix2 (⟨4096 * (c.val / 8) + k.val, kcol_lt _ (x_lt c) k⟩ : Fin 8192) n) := by
  rw [Layout.blockN_apply]
  refine congrArg w (funext fun a : Fin 2 => Fin.ext ?_)
  rw [Layout.TilesN.idx_val]
  match a with
  | 0 =>
    show Layout.meshLin [2, 2, 4] c.val [0] * 4096 + k.val = 4096 * (c.val / 8) + k.val
    rw [meshX]; omega
  | 1 => show 0 * 8192 + n.val = n.val; omega

/-! ## The two halves of the contraction -/

theorem halves_two (g : Fin 8192 → EReal) :
    (∑ k : Fin 4096, g ⟨4096 * 0 + k.val, by omega⟩) + (∑ k : Fin 4096, g ⟨4096 * 1 + k.val, by omega⟩) = ∑ k, g k := by
  rw [show (∑ k : Fin 8192, g k) = ∑ k : Fin (4096 + 4096), g k from rfl, Fin.sum_univ_add]
  refine congrArg₂ (· + ·) (Finset.sum_congr rfl fun k _ => congrArg g (Fin.ext ?_)) (Finset.sum_congr rfl fun k _ => congrArg g (Fin.ext ?_))
  · show 4096 * 0 + k.val = k.val; omega
  · show 4096 * 1 + k.val = 4096 + k.val; omega

/-- Each half on its own, whichever is added first, makes the whole sum. -/
theorem halves (g : Fin 8192 → EReal) (x y : ℕ) (hx : x < 2) (hy : y = 1 - x) :
    (∑ k : Fin 4096, g ⟨4096 * x + k.val, kcol_lt x hx k⟩) + (∑ k : Fin 4096, g ⟨4096 * y + k.val, kcol_lt y (by omega) k⟩) = ∑ k, g k := by
  subst hy
  match x, hx with
  | 0, _ => exact halves_two g
  | 1, _ => exact (add_comm _ _).trans (halves_two g)

/-! ## The result of a device -/

section
variable (m : (ℓ : Loc nD τ sig) → Buf (Elt Ideal) ℓ)
  (v : (⟨4, ![1, 2048, 64, 128]⟩ : Shape).Idx → EReal) (w : (⟨2, ![8192, 8192]⟩ : Shape).Idx → EReal)

/-- The devices' arguments are the parts of the whole arrays. -/
def Parts : Prop := ∀ c : Dev nD,
  m ((c : Thread nD τ).loc main_arg0) = Layout.blockN ⟨4, ![1, 2048, 32, 128]⟩ ⟨4, ![1, 2048, 64, 128]⟩ (Layout.meshBlock [2, 2, 4] ![[], [], [0], []] c) v
  ∧ m ((c : Thread nD τ).loc main_arg1) = Layout.blockN ⟨2, ![4096, 8192]⟩ ⟨2, ![8192, 8192]⟩ (Layout.meshBlock [2, 2, 4] ![[0], []] c) w

/-- One term of the whole product. -/
def term (r : Fin 2048) (n : Fin 8192) (k : Fin 8192) : EReal := flat v r k * w (ix2 k n)

theorem rows_apply (hp : Parts m v w) (c : Dev nD) (r : Fin 2048) (k : Fin 4096) :
    (V1 m c main_v1 : Vec Ideal S2048x4096 .bf16) (ix2 r k) = flat v r ⟨4096 * (c.val / 8) + k.val, kcol_lt _ (x_lt c) k⟩ := by
  rw [V1_v1, (hp c).1]
  exact arg0_apply v c r k
theorem weights_apply (hp : Parts m v w) (c : Dev nD) (k : Fin 4096) (n : Fin 8192) :
    (V1 m c main_arg1 : Vec Ideal S4096x8192 .bf16) (ix2 k n) = w (ix2 (⟨4096 * (c.val / 8) + k.val, kcol_lt _ (x_lt c) k⟩ : Fin 8192) n) := by
  rw [V1_arg1, (hp c).2]
  exact arg1_apply w c k n

theorem out_col_lt (c : Dev nD) (t : Fin 8) (j : Fin 256) : 256 * (8 * qd c + t.val) + j.val < 8192 := by have := qd_lt c; omega

/-- What a device adds of its own: its half of the sum, at its own rows and its quarter's columns. -/
theorem own_apply (hp : Parts m v w) (c : Dev nD) (t : Fin 8) (i : Fin 1024) (j : Fin 256) :
    (ownM m c t.val (ix3 (0 : Fin 1) i j) : EReal)
      = ∑ k : Fin 4096, term v w ⟨1024 * (c.val / 8) + i.val, half_lt c i⟩ ⟨256 * (8 * qd c + t.val) + j.val, out_col_lt c t j⟩ ⟨4096 * (c.val / 8) + k.val, kcol_lt _ (x_lt c) k⟩ := by
  unfold ownM
  rw [keep_apply]
  refine Finset.sum_congr rfl fun k _ => ?_
  rw [rows_apply m v w hp, wblk_apply, weights_apply m v w hp]
  unfold term
  have e : (⟨256 * (8 * qd c + min (t.val % 10) 7) + j.val, col_lt c (t.val % 10) j⟩ : Fin 8192) = ⟨256 * (8 * qd c + t.val) + j.val, out_col_lt c t j⟩ :=
    Fin.ext (by show 256 * (8 * qd c + min (t.val % 10) 7) + j.val = 256 * (8 * qd c + t.val) + j.val; omega)
  rw [← e]

/-- What a device sends: its half of the sum, at its partner's rows. -/
theorem snd_apply (hp : Parts m v w) (c : Dev nD) (t : Fin 8) (i : Fin 1024) (j : Fin 256) :
    (sndM m c t.val (ix3 (0 : Fin 1) i j) : EReal)
      = ∑ k : Fin 4096, term v w ⟨1024 * ((xp c).val / 8) + i.val, half_lt (xp c) i⟩ ⟨256 * (8 * qd c + t.val) + j.val, out_col_lt c t j⟩ ⟨4096 * (c.val / 8) + k.val, kcol_lt _ (x_lt c) k⟩ := by
  unfold sndM
  rw [send_apply]
  refine Finset.sum_congr rfl fun k _ => ?_
  rw [rows_apply m v w hp, wblk_apply, weights_apply m v w hp]
  unfold term
  have e : (⟨256 * (8 * qd c + min (t.val % 10) 7) + j.val, col_lt c (t.val % 10) j⟩ : Fin 8192) = ⟨256 * (8 * qd c + t.val) + j.val, out_col_lt c t j⟩ :=
    Fin.ext (by show 256 * (8 * qd c + min (t.val % 10) 7) + j.val = 256 * (8 * qd c + t.val) + j.val; omega)
  rw [← e]

/-- A finished chunk is the whole sum, at the device's rows and its quarter's columns. -/
theorem fin_apply (hp : Parts m v w) (c : Dev nD) (t : Fin 8) (i : Fin 1024) (j : Fin 256) :
    (fin (ownM m) (sndM m) c t.val (ix3 (0 : Fin 1) i j) : EReal)
      = ∑ k, term v w ⟨1024 * (c.val / 8) + i.val, half_lt c i⟩ ⟨256 * (8 * qd c + t.val) + j.val, out_col_lt c t j⟩ k := by
  unfold fin
  rw [pay1_apply, own_apply m v w hp, snd_apply m v w hp]
  have hx := xp_div c
  rw [← halves (term v w ⟨1024 * (c.val / 8) + i.val, half_lt c i⟩ ⟨256 * (8 * qd c + t.val) + j.val, out_col_lt c t j⟩) (c.val / 8) ((xp c).val / 8) (x_lt c) hx]
  have e1 : (⟨1024 * ((xp (xp c)).val / 8) + i.val, half_lt (xp (xp c)) i⟩ : Fin 2048) = ⟨1024 * (c.val / 8) + i.val, half_lt c i⟩ := by simp only [xp_xp]
  have e2 : (⟨256 * (8 * qd (xp c) + t.val) + j.val, out_col_lt (xp c) t j⟩ : Fin 8192) = ⟨256 * (8 * qd c + t.val) + j.val, out_col_lt c t j⟩ := by simp only [qd_xp]
  rw [e1, e2]

/-- The result of a device: its half of the rows of the whole product. -/
theorem res_apply (hp : Parts m v w) (c : Dev nD) (i : Fin 1024) (n : Fin 8192) :
    @Eq EReal (res m c (ix3 (0 : Fin 1) i n)) (∑ k, term v w ⟨1024 * (c.val / 8) + i.val, half_lt c i⟩ n k) := by
  have hq : n.val / 256 / 8 % 4 < 4 := Nat.mod_lt _ (by decide)
  have ht : n.val / 256 % 8 < 8 := Nat.mod_lt _ (by decide)
  have hj : n.val % 256 < 256 := Nat.mod_lt _ (by decide)
  have e := fin_apply m v w hp (srcD c ⟨n.val / 256 / 8 % 4, hq⟩) ⟨n.val / 256 % 8, ht⟩ i ⟨n.val % 256, hj⟩
  have e0 : @Eq EReal (res m c (ix3 (0 : Fin 1) i n))
      (fin (ownM m) (sndM m) (srcD c ⟨n.val / 256 / 8 % 4, hq⟩) (n.val / 256 % 8) (ix3 (0 : Fin 1) i (⟨n.val % 256, hj⟩ : Fin 256))) := by
    rw [← cix_eq]; rfl
  refine e0.trans (e.trans ?_)
  have er : (⟨1024 * ((srcD c ⟨n.val / 256 / 8 % 4, hq⟩).val / 8) + i.val, half_lt _ i⟩ : Fin 2048) = ⟨1024 * (c.val / 8) + i.val, half_lt c i⟩ := by
    simp only [srcD_div]
  have en : (⟨256 * (8 * qd (srcD c ⟨n.val / 256 / 8 % 4, hq⟩) + n.val / 256 % 8) + n.val % 256, out_col_lt _ ⟨n.val / 256 % 8, ht⟩ ⟨n.val % 256, hj⟩⟩ : Fin 8192) = n := by
    apply Fin.ext
    show 256 * (8 * qd (srcD c ⟨n.val / 256 / 8 % 4, hq⟩) + n.val / 256 % 8) + n.val % 256 = n.val
    rw [qd_srcD]
    show 256 * (8 * (n.val / 256 / 8 % 4) + n.val / 256 % 8) + n.val % 256 = n.val
    have := n.isLt
    omega
  refine Finset.sum_congr rfl fun k _ => ?_
  exact congrArg₂ (fun a b => term v w a b k) er en
end

end Cert.KernelIdeal.Work
-- ==== Proof.Algebraic.lean ====
/- The value claim: every device's result is its rows of the reference's result, exactly. -/
module

public import proofs.«01_k».proof.Defs
public import proofs.«01_k».proof.Proof.Value
public import proofs.«01_k».proof.Proof.Gen.ReferenceIdeal.Run

@[expose] public section

noncomputable section

namespace Cert.Proof

open Idealize.ShloMosaic hiding ix1 ix2 ix3 ix4
open Idealize.ShloMosaic.ValueIdx Idealize.SL.Sem
open Cert.KernelIdeal.Work (flat term Parts res res_apply half_lt meshX run_main)

/-- What the reference computes of the whole arrays. -/
def refOut (v : (⟨4, ![1, 2048, 64, 128]⟩ : Shape).Idx → EReal) (w : (⟨2, ![8192, 8192]⟩ : Shape).Idx → EReal) :
    FVec Ideal Cert.ReferenceIdeal.S1x2048x8192 .bf16 :=
  truncf .bf16 (Host.dotGeneral (F := Ideal) (φ₁ := .bf16) (φ₂ := .bf16) Cert.ReferenceIdeal.dot_S1x2048x8192_S8192x8192_S1x2048x8192_2_0_01_1_n_n none
    (shapeCast Cert.ReferenceIdeal.S1x2048x8192 v Cert.ReferenceIdeal.Facts₀.shapeCasts_S1x2048x64x128_S1x2048x8192) w) Cert.ReferenceIdeal.Facts₀.bitsLt_bf16_f32

/-- The reference's product read at an index. -/
theorem dot_apply (a : FVec Ideal Cert.ReferenceIdeal.S1x2048x8192 .bf16) (w : FVec Ideal Cert.ReferenceIdeal.S8192x8192 .bf16) (r : Fin 2048) (n : Fin 8192) :
    @Eq EReal (Host.dotGeneral (F := Ideal) Cert.ReferenceIdeal.dot_S1x2048x8192_S8192x8192_S1x2048x8192_2_0_01_1_n_n none a w (ix3 (0 : Fin 1) r n))
      (∑ k : Fin 8192, (a (ix3 (0 : Fin 1) r k) : EReal) * (w (ix2 k n) : EReal)) := by
  simp only [pointwise]
  exact (zero_add _).trans rfl

/-- At an index it is the sum of the products of a row and a column. -/
theorem refOut_apply (v : (⟨4, ![1, 2048, 64, 128]⟩ : Shape).Idx → EReal) (w : (⟨2, ![8192, 8192]⟩ : Shape).Idx → EReal) (r : Fin 2048) (n : Fin 8192) :
    @Eq EReal (refOut v w (ix3 (0 : Fin 1) r n)) (∑ k, term v w r n k) := by
  have hs (k : Fin 8192) : shapeCast Cert.ReferenceIdeal.S1x2048x8192 v Cert.ReferenceIdeal.Facts₀.shapeCasts_S1x2048x64x128_S1x2048x8192 (ix3 (0 : Fin 1) r k) = flat v r k := by
    unfold flat
    refine shapeCast_apply _ _ _ _ ?_
    rw [Shape.rowMajor_val_four, Shape.rowMajor_val_three]
    show ((0 * 2048 + r.val) * 64 + k.val / 128) * 128 + k.val % 128 = (0 * 2048 + r.val) * 8192 + k.val
    omega
  have e : @Eq EReal (refOut v w (ix3 (0 : Fin 1) r n))
      (∑ k : Fin 8192, shapeCast Cert.ReferenceIdeal.S1x2048x8192 v Cert.ReferenceIdeal.Facts₀.shapeCasts_S1x2048x64x128_S1x2048x8192 (ix3 (0 : Fin 1) r k) * w (ix2 k n)) :=
    dot_apply _ w r n
  rw [e]
  refine Finset.sum_congr rfl fun k _ => ?_
  rw [hs]
  rfl

/-- A device's result is its block of rows of it. -/
theorem res_eq (m : (ℓ : Loc Cert.KernelIdeal.nD Cert.KernelIdeal.τ Cert.KernelIdeal.sig) → Buf (Elt Ideal) ℓ)
    (v : (⟨4, ![1, 2048, 64, 128]⟩ : Shape).Idx → EReal) (w : (⟨2, ![8192, 8192]⟩ : Shape).Idx → EReal) (hp : Parts m v w) (c : Dev Cert.KernelIdeal.nD) :
    res m c = Layout.blockN ⟨3, ![1, 1024, 8192]⟩ ⟨3, ![1, 2048, 8192]⟩ (Layout.meshBlock [2, 2, 4] ![[], [0], []] c) (refOut v w) := by
  funext (i : (⟨3, ![1, 1024, 8192]⟩ : Shape).Idx)
  rw [ValueIdx.eq_ix3 i]
  have h0 : i 0 = (0 : Fin 1) := Fin.ext (by have : (i 0).val < 1 := (i 0).isLt; show (i 0).val = 0; omega)
  rw [h0]
  refine (res_apply m v w hp c (i 1) (i 2)).trans ((refOut_apply v w _ _).symm.trans ?_)
  refine congrArg (refOut v w) (funext fun a : Fin 3 => Fin.ext ?_)
  match a with
  | 0 => show 0 = 0 * 1 + 0; omega
  | 1 =>
    show 1024 * (c.val / 8) + (i 1).val = Layout.meshLin [2, 2, 4] c.val [0] * 1024 + (i 1).val
    rw [meshX]; omega
  | 2 => show (i 2).val = 0 * 8192 + (i 2).val; omega

theorem algebraic : Cert.algebraic_KernelIdeal_ReferenceIdeal (hKernelIdeal := Cert.KernelIdeal.Gen.facts) (hReferenceIdeal := Cert.ReferenceIdeal.Gen.facts) := by
  intro m g m' g' _ hp
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c).1⟩) (run_main (F := Ideal) m g)
    exact (h.1 c).2.trans (res_eq m _ _ hp c)
  · exact (θ_run Cert.ReferenceIdeal.defs _ _).mono (fun r h => ⟨(h 0).1, (h 0).2⟩) (Cert.ReferenceIdeal.Value.run (F := Ideal) m' g')

end Cert.Proof
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_kernel, frame_kernelIdeal, frame_reference, trivial, algebraic⟩

end Cert.Proof

end
